-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![512, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S512x2048 : Shape := ⟨2, ![512, 2048]⟩
abbrev S4x2048x512 : Shape := ⟨3, ![4, 2048, 512]⟩
abbrev S4x512x2048 : Shape := ⟨3, ![4, 512, 2048]⟩
abbrev S3x448x768 : Shape := ⟨3, ![3, 448, 768]⟩
abbrev S4 : Shape := ⟨1, ![4]⟩
abbrev S3x3 : Shape := ⟨2, ![3, 3]⟩
abbrev S3x7 : Shape := ⟨2, ![3, 7]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x512x2048 : Shape := ⟨3, ![1, 512, 2048]⟩
abbrev S1x1 : Shape := ⟨2, ![1, 1]⟩
abbrev S64x768 : Shape := ⟨2, ![64, 768]⟩
abbrev S64x640 : Shape := ⟨2, ![64, 640]⟩
abbrev S512x512 : Shape := ⟨2, ![512, 512]⟩
abbrev S1x64x768 : Shape := ⟨3, ![1, 64, 768]⟩
abbrev S1x256x768 : Shape := ⟨3, ![1, 256, 768]⟩
abbrev S256x768 : Shape := ⟨2, ![256, 768]⟩
abbrev S1x64x640 : Shape := ⟨3, ![1, 64, 640]⟩
abbrev S1x256x640 : Shape := ⟨3, ![1, 256, 640]⟩
abbrev S256x640 : Shape := ⟨2, ![256, 640]⟩
abbrev S1x128x768 : Shape := ⟨3, ![1, 128, 768]⟩
abbrev S128x768 : Shape := ⟨2, ![128, 768]⟩
abbrev S1x128x640 : Shape := ⟨3, ![1, 128, 640]⟩
abbrev S128x640 : Shape := ⟨2, ![128, 640]⟩

abbrev nBuf : Space → Nat
  | .hbm => 8
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S512x2048, .f32⟩
  | .local _ .vmem, ⟨0, _⟩ => ⟨S64x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .f32⟩
  | .local _ .vmem, ⟨4, _⟩ => ⟨S4x2048x512, .f32⟩
  | .local _ .vmem, ⟨5, _⟩ => ⟨S4x512x2048, .f32⟩
  | .local _ .vmem, ⟨6, _⟩ => ⟨S3x448x768, .bf16⟩
  | .local _ .vmem, ⟨7, _⟩ => ⟨S3x448x768, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v56 : BitVec 32 := Scalar.muli v2 c64_i32
  let v57 : Index := Scalar.indexCast v56
  let c0_55 : Index := 0#32
  ![v57.toNat, 0]
def k0_off2 (d0 : Dev nD) (c0_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v62 : BitVec 32 := Scalar.xori v2 c0_i32_57
  let c64_i32_59 : BitVec 32 := 64#32
  let v64 : BitVec 32 := Scalar.muli v62 c64_i32_59
  let c0_i32_66 : BitVec 32 := 0#32
  ![v64.toNat, 0]
def k0_off2_at (r : Fin 4) : BitVec 32 :=
  if r.val < 2 then
    if r.val < 1 then
      0#32
    else
      4#32
  else
    if r.val < 3 then
      3#32
    else
      7#32
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v61 : BitVec 32 := Scalar.xori v2 c4_i32_56
  let c1_i32_64 : BitVec 32 := 1#32
  let v65 : BitVec 32 := Scalar.muli v61 c1_i32_64
  let v66 : BitVec 32 := Scalar.addi c0_i32_65 v65
  v66.toNat
def k0_off3 (d0 : Dev nD) (c0_i32_69 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v74 : BitVec 32 := Scalar.xori v2 c0_i32_69
  let c64_i32_71 : BitVec 32 := 64#32
  let v76 : BitVec 32 := Scalar.muli v74 c64_i32_71
  let c768_i32 : BitVec 32 := 768#32
  ![v76.toNat, 768]
def k0_off3_at (r : Fin 4) : BitVec 32 :=
  if r.val < 2 then
    if r.val < 1 then
      0#32
    else
      1#32
  else
    if r.val < 3 then
      4#32
    else
      5#32
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v73 : BitVec 32 := Scalar.xori v2 c1_i32_68
  let c1_i32_76 : BitVec 32 := 1#32
  let v77 : BitVec 32 := Scalar.muli v73 c1_i32_76
  let v78 : BitVec 32 := Scalar.addi c0_i32_77 v77
  v78.toNat
def k0_off4 (d0 : Dev nD) (c0_i32_80 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v86 : BitVec 32 := Scalar.xori v2 c0_i32_80
  let c64_i32_82 : BitVec 32 := 64#32
  let v88 : BitVec 32 := Scalar.muli v86 c64_i32_82
  let c1408_i32 : BitVec 32 := 1408#32
  ![v88.toNat, 1408]
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v85 : BitVec 32 := Scalar.xori v2 c3_i32_79
  let c1_i32_87 : BitVec 32 := 1#32
  let v89 : BitVec 32 := Scalar.muli v85 c1_i32_87
  let v90 : BitVec 32 := Scalar.addi c0_i32_88 v89
  v90.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v127 : BitVec 32 := Scalar.xori v2 c3_i32_135
  let c1_i32_143 : BitVec 32 := 1#32
  let v131 : BitVec 32 := Scalar.muli v127 c1_i32_143
  let v132 : BitVec 32 := Scalar.addi c0_i32_144 v131
  v132.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v127 : BitVec 32 := Scalar.xori v2 c3_i32_135
  let c1_i32_154 : BitVec 32 := 1#32
  let v142 : BitVec 32 := Scalar.muli v127 c1_i32_154
  let v143 : BitVec 32 := Scalar.addi c0_i32_155 v142
  v143.toNat
def k0_dev9 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v150 : BitVec 32 := Scalar.xori v2 c4_i32_158
  let c1_i32_166 : BitVec 32 := 1#32
  let v154 : BitVec 32 := Scalar.muli v150 c1_i32_166
  let v155 : BitVec 32 := Scalar.addi c0_i32_167 v154
  v155.toNat
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v150 : BitVec 32 := Scalar.xori v2 c4_i32_158
  let c1_i32_177 : BitVec 32 := 1#32
  let v165 : BitVec 32 := Scalar.muli v150 c1_i32_177
  let v166 : BitVec 32 := Scalar.addi c0_i32_178 v165
  v166.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v173 : BitVec 32 := Scalar.xori v2 c1_i32_181
  let c1_i32_189 : BitVec 32 := 1#32
  let v177 : BitVec 32 := Scalar.muli v173 c1_i32_189
  let v178 : BitVec 32 := Scalar.addi c0_i32_190 v177
  v178.toNat
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v173 : BitVec 32 := Scalar.xori v2 c1_i32_181
  let c1_i32_200 : BitVec 32 := 1#32
  let v188 : BitVec 32 := Scalar.muli v173 c1_i32_200
  let v189 : BitVec 32 := Scalar.addi c0_i32_201 v188
  v189.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_294 : BitVec 32 := 1#32
  let v256 : BitVec 32 := Scalar.xori v2 c1_i32_294
  let c1_i32_302 : BitVec 32 := 1#32
  let v260 : BitVec 32 := Scalar.muli v256 c1_i32_302
  let v261 : BitVec 32 := Scalar.addi c0_i32_303 v260
  v261.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_294 : BitVec 32 := 1#32
  let v256 : BitVec 32 := Scalar.xori v2 c1_i32_294
  let c1_i32_313 : BitVec 32 := 1#32
  let v271 : BitVec 32 := Scalar.muli v256 c1_i32_313
  let v272 : BitVec 32 := Scalar.addi c0_i32_314 v271
  v272.toNat
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_294 : BitVec 32 := 1#32
  let v256 : BitVec 32 := Scalar.xori v2 c1_i32_294
  let c1_i32_323 : BitVec 32 := 1#32
  let v282 : BitVec 32 := Scalar.muli v256 c1_i32_323
  let v283 : BitVec 32 := Scalar.addi c0_i32_324 v282
  v283.toNat
def k0_dev16 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_294 : BitVec 32 := 1#32
  let v256 : BitVec 32 := Scalar.xori v2 c1_i32_294
  let c1_i32_332 : BitVec 32 := 1#32
  let v293 : BitVec 32 := Scalar.muli v256 c1_i32_332
  let v294 : BitVec 32 := Scalar.addi c0_i32_333 v293
  v294.toNat
def k0_dev17 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v301 : BitVec 32 := Scalar.xori v2 c3_i32_336
  let c1_i32_344 : BitVec 32 := 1#32
  let v305 : BitVec 32 := Scalar.muli v301 c1_i32_344
  let v306 : BitVec 32 := Scalar.addi c0_i32_345 v305
  v306.toNat
def k0_dev18 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v301 : BitVec 32 := Scalar.xori v2 c3_i32_336
  let c1_i32_355 : BitVec 32 := 1#32
  let v316 : BitVec 32 := Scalar.muli v301 c1_i32_355
  let v317 : BitVec 32 := Scalar.addi c0_i32_356 v316
  v317.toNat
def k0_dev19 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v301 : BitVec 32 := Scalar.xori v2 c3_i32_336
  let c1_i32_366 : BitVec 32 := 1#32
  let v327 : BitVec 32 := Scalar.muli v301 c1_i32_366
  let v328 : BitVec 32 := Scalar.addi c0_i32_367 v327
  v328.toNat
def k0_dev20 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v301 : BitVec 32 := Scalar.xori v2 c3_i32_336
  let c1_i32_377 : BitVec 32 := 1#32
  let v338 : BitVec 32 := Scalar.muli v301 c1_i32_377
  let v339 : BitVec 32 := Scalar.addi c0_i32_378 v338
  v339.toNat
def k0_dev21 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_381 : BitVec 32 := 4#32
  let v346 : BitVec 32 := Scalar.xori v2 c4_i32_381
  let c1_i32_389 : BitVec 32 := 1#32
  let v350 : BitVec 32 := Scalar.muli v346 c1_i32_389
  let v351 : BitVec 32 := Scalar.addi c0_i32_390 v350
  v351.toNat
def k0_dev22 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_381 : BitVec 32 := 4#32
  let v346 : BitVec 32 := Scalar.xori v2 c4_i32_381
  let c1_i32_400 : BitVec 32 := 1#32
  let v361 : BitVec 32 := Scalar.muli v346 c1_i32_400
  let v362 : BitVec 32 := Scalar.addi c0_i32_401 v361
  v362.toNat
def k0_dev23 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_381 : BitVec 32 := 4#32
  let v346 : BitVec 32 := Scalar.xori v2 c4_i32_381
  let c1_i32_411 : BitVec 32 := 1#32
  let v372 : BitVec 32 := Scalar.muli v346 c1_i32_411
  let v373 : BitVec 32 := Scalar.addi c0_i32_412 v372
  v373.toNat
def k0_dev24 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_381 : BitVec 32 := 4#32
  let v346 : BitVec 32 := Scalar.xori v2 c4_i32_381
  let c1_i32_422 : BitVec 32 := 1#32
  let v383 : BitVec 32 := Scalar.muli v346 c1_i32_422
  let v384 : BitVec 32 := Scalar.addi c0_i32_423 v383
  v384.toNat
def k0_off5 (d0 : Dev nD) (c1_i32_909 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v806 : BitVec 32 := Scalar.xori v2 c1_i32_909
  let c64_i32_910 : BitVec 32 := 64#32
  let v807 : BitVec 32 := Scalar.muli v806 c64_i32_910
  let v808 : Index := Scalar.indexCast v807
  let c0_911 : Index := 0#32
  ![v808.toNat, 0]
def k0_dev25 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_908 : BitVec 32 := 1#32
  let v805 : BitVec 32 := Scalar.xori v2 c1_i32_908
  let c1_i32_936 : BitVec 32 := 1#32
  let v838 : BitVec 32 := Scalar.muli v805 c1_i32_936
  let v839 : BitVec 32 := Scalar.addi c0_i32_937 v838
  v839.toNat
def k0_off6 (d0 : Dev nD) (c3_i32_943 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v849 : BitVec 32 := Scalar.xori v2 c3_i32_943
  let c64_i32_944 : BitVec 32 := 64#32
  let v850 : BitVec 32 := Scalar.muli v849 c64_i32_944
  let v851 : Index := Scalar.indexCast v850
  let c768 : Index := 768#32
  ![v851.toNat, 768]
def k0_dev26 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_942 : BitVec 32 := 3#32
  let v848 : BitVec 32 := Scalar.xori v2 c3_i32_942
  let c1_i32_972 : BitVec 32 := 1#32
  let v881 : BitVec 32 := Scalar.muli v848 c1_i32_972
  let v882 : BitVec 32 := Scalar.addi c0_i32_973 v881
  v882.toNat
def k0_off7 (d0 : Dev nD) (c4_i32_979 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v892 : BitVec 32 := Scalar.xori v2 c4_i32_979
  let c64_i32_980 : BitVec 32 := 64#32
  let v893 : BitVec 32 := Scalar.muli v892 c64_i32_980
  let v894 : Index := Scalar.indexCast v893
  let c1408 : Index := 1408#32
  ![v894.toNat, 1408]
def k0_dev27 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_978 : BitVec 32 := 4#32
  let v891 : BitVec 32 := Scalar.xori v2 c4_i32_978
  let c1_i32_1008 : BitVec 32 := 1#32
  let v924 : BitVec 32 := Scalar.muli v891 c1_i32_1008
  let v925 : BitVec 32 := Scalar.addi c0_i32_1009 v924
  v925.toNat
def k0_dev28 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1167 : BitVec 32 := 3#32
  let v1120 : BitVec 32 := Scalar.xori v2 c3_i32_1167
  let c1_i32_1184 : BitVec 32 := 1#32
  let v1137 : BitVec 32 := Scalar.muli v1120 c1_i32_1184
  let v1138 : BitVec 32 := Scalar.addi c0_i32_1185 v1137
  v1138.toNat
def k0_dev29 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1189 : BitVec 32 := 4#32
  let v1147 : BitVec 32 := Scalar.xori v2 c4_i32_1189
  let c1_i32_1208 : BitVec 32 := 1#32
  let v1164 : BitVec 32 := Scalar.muli v1147 c1_i32_1208
  let v1165 : BitVec 32 := Scalar.addi c0_i32_1209 v1164
  v1165.toNat
def k0_dev30 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1214 : BitVec 32 := 1#32
  let v1174 : BitVec 32 := Scalar.xori v2 c1_i32_1214
  let c1_i32_1233 : BitVec 32 := 1#32
  let v1191 : BitVec 32 := Scalar.muli v1174 c1_i32_1233
  let v1192 : BitVec 32 := Scalar.addi c0_i32_1234 v1191
  v1192.toNat
def k0_dev31 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1350 : BitVec 32 := 4#32
  let v1315 : BitVec 32 := Scalar.xori v2 c4_i32_1350
  let c1_i32_1362 : BitVec 32 := 1#32
  let v1324 : BitVec 32 := Scalar.muli v1315 c1_i32_1362
  let v1325 : BitVec 32 := Scalar.addi c0_i32_1363 v1324
  v1325.toNat
def k0_dev32 (d0 : Dev nD) : Nat :=
  let c0_i32_1381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1367 : BitVec 32 := 1#32
  let v1334 : BitVec 32 := Scalar.xori v2 c1_i32_1367
  let c1_i32_1380 : BitVec 32 := 1#32
  let v1343 : BitVec 32 := Scalar.muli v1334 c1_i32_1380
  let v1344 : BitVec 32 := Scalar.addi c0_i32_1381 v1343
  v1344.toNat
def k0_dev33 (d0 : Dev nD) : Nat :=
  let c0_i32_1400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1386 : BitVec 32 := 3#32
  let v1353 : BitVec 32 := Scalar.xori v2 c3_i32_1386
  let c1_i32_1399 : BitVec 32 := 1#32
  let v1362 : BitVec 32 := Scalar.muli v1353 c1_i32_1399
  let v1363 : BitVec 32 := Scalar.addi c0_i32_1400 v1362
  v1363.toNat
def k0_dev34 (d0 : Dev nD) : Nat :=
  let c0_i32_1508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1499 : BitVec 32 := 4#32
  let v1459 : BitVec 32 := Scalar.xori v2 c4_i32_1499
  let c1_i32_1507 : BitVec 32 := 1#32
  let v1463 : BitVec 32 := Scalar.muli v1459 c1_i32_1507
  let v1464 : BitVec 32 := Scalar.addi c0_i32_1508 v1463
  v1464.toNat
def k0_dev35 (d0 : Dev nD) : Nat :=
  let c0_i32_1520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1511 : BitVec 32 := 1#32
  let v1471 : BitVec 32 := Scalar.xori v2 c1_i32_1511
  let c1_i32_1519 : BitVec 32 := 1#32
  let v1475 : BitVec 32 := Scalar.muli v1471 c1_i32_1519
  let v1476 : BitVec 32 := Scalar.addi c0_i32_1520 v1475
  v1476.toNat
def k0_dev36 (d0 : Dev nD) : Nat :=
  let c0_i32_1532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1523 : BitVec 32 := 3#32
  let v1483 : BitVec 32 := Scalar.xori v2 c3_i32_1523
  let c1_i32_1531 : BitVec 32 := 1#32
  let v1487 : BitVec 32 := Scalar.muli v1483 c1_i32_1531
  let v1488 : BitVec 32 := Scalar.addi c0_i32_1532 v1487
  v1488.toNat
def k0_dev37 (d0 : Dev nD) : Nat :=
  let c0_i32_1589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1580 : BitVec 32 := 3#32
  let v1525 : BitVec 32 := Scalar.xori v2 c3_i32_1580
  let c1_i32_1588 : BitVec 32 := 1#32
  let v1529 : BitVec 32 := Scalar.muli v1525 c1_i32_1588
  let v1530 : BitVec 32 := Scalar.addi c0_i32_1589 v1529
  v1530.toNat
def k0_dev38 (d0 : Dev nD) : Nat :=
  let c0_i32_1600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1580 : BitVec 32 := 3#32
  let v1525 : BitVec 32 := Scalar.xori v2 c3_i32_1580
  let c1_i32_1599 : BitVec 32 := 1#32
  let v1540 : BitVec 32 := Scalar.muli v1525 c1_i32_1599
  let v1541 : BitVec 32 := Scalar.addi c0_i32_1600 v1540
  v1541.toNat
def k0_dev39 (d0 : Dev nD) : Nat :=
  let c0_i32_1612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1603 : BitVec 32 := 4#32
  let v1548 : BitVec 32 := Scalar.xori v2 c4_i32_1603
  let c1_i32_1611 : BitVec 32 := 1#32
  let v1552 : BitVec 32 := Scalar.muli v1548 c1_i32_1611
  let v1553 : BitVec 32 := Scalar.addi c0_i32_1612 v1552
  v1553.toNat
def k0_dev40 (d0 : Dev nD) : Nat :=
  let c0_i32_1623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1603 : BitVec 32 := 4#32
  let v1548 : BitVec 32 := Scalar.xori v2 c4_i32_1603
  let c1_i32_1622 : BitVec 32 := 1#32
  let v1563 : BitVec 32 := Scalar.muli v1548 c1_i32_1622
  let v1564 : BitVec 32 := Scalar.addi c0_i32_1623 v1563
  v1564.toNat
def k0_dev41 (d0 : Dev nD) : Nat :=
  let c0_i32_1635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1626 : BitVec 32 := 1#32
  let v1571 : BitVec 32 := Scalar.xori v2 c1_i32_1626
  let c1_i32_1634 : BitVec 32 := 1#32
  let v1575 : BitVec 32 := Scalar.muli v1571 c1_i32_1634
  let v1576 : BitVec 32 := Scalar.addi c0_i32_1635 v1575
  v1576.toNat
def k0_dev42 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1626 : BitVec 32 := 1#32
  let v1571 : BitVec 32 := Scalar.xori v2 c1_i32_1626
  let c1_i32_1645 : BitVec 32 := 1#32
  let v1586 : BitVec 32 := Scalar.muli v1571 c1_i32_1645
  let v1587 : BitVec 32 := Scalar.addi c0_i32_1646 v1586
  v1587.toNat
def k0_dev43 (d0 : Dev nD) : Nat :=
  let c0_i32_1748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1739 : BitVec 32 := 1#32
  let v1654 : BitVec 32 := Scalar.xori v2 c1_i32_1739
  let c1_i32_1747 : BitVec 32 := 1#32
  let v1658 : BitVec 32 := Scalar.muli v1654 c1_i32_1747
  let v1659 : BitVec 32 := Scalar.addi c0_i32_1748 v1658
  v1659.toNat
def k0_dev44 (d0 : Dev nD) : Nat :=
  let c0_i32_1759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1739 : BitVec 32 := 1#32
  let v1654 : BitVec 32 := Scalar.xori v2 c1_i32_1739
  let c1_i32_1758 : BitVec 32 := 1#32
  let v1669 : BitVec 32 := Scalar.muli v1654 c1_i32_1758
  let v1670 : BitVec 32 := Scalar.addi c0_i32_1759 v1669
  v1670.toNat
def k0_dev45 (d0 : Dev nD) : Nat :=
  let c0_i32_1770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1739 : BitVec 32 := 1#32
  let v1654 : BitVec 32 := Scalar.xori v2 c1_i32_1739
  let c1_i32_1769 : BitVec 32 := 1#32
  let v1680 : BitVec 32 := Scalar.muli v1654 c1_i32_1769
  let v1681 : BitVec 32 := Scalar.addi c0_i32_1770 v1680
  v1681.toNat
def k0_dev46 (d0 : Dev nD) : Nat :=
  let c0_i32_1781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1739 : BitVec 32 := 1#32
  let v1654 : BitVec 32 := Scalar.xori v2 c1_i32_1739
  let c1_i32_1780 : BitVec 32 := 1#32
  let v1691 : BitVec 32 := Scalar.muli v1654 c1_i32_1780
  let v1692 : BitVec 32 := Scalar.addi c0_i32_1781 v1691
  v1692.toNat
def k0_dev47 (d0 : Dev nD) : Nat :=
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1784 : BitVec 32 := 3#32
  let v1699 : BitVec 32 := Scalar.xori v2 c3_i32_1784
  let c1_i32_1792 : BitVec 32 := 1#32
  let v1703 : BitVec 32 := Scalar.muli v1699 c1_i32_1792
  let v1704 : BitVec 32 := Scalar.addi c0_i32_1793 v1703
  v1704.toNat
def k0_dev48 (d0 : Dev nD) : Nat :=
  let c0_i32_1804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1784 : BitVec 32 := 3#32
  let v1699 : BitVec 32 := Scalar.xori v2 c3_i32_1784
  let c1_i32_1803 : BitVec 32 := 1#32
  let v1714 : BitVec 32 := Scalar.muli v1699 c1_i32_1803
  let v1715 : BitVec 32 := Scalar.addi c0_i32_1804 v1714
  v1715.toNat
def k0_dev49 (d0 : Dev nD) : Nat :=
  let c0_i32_1815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1784 : BitVec 32 := 3#32
  let v1699 : BitVec 32 := Scalar.xori v2 c3_i32_1784
  let c1_i32_1814 : BitVec 32 := 1#32
  let v1725 : BitVec 32 := Scalar.muli v1699 c1_i32_1814
  let v1726 : BitVec 32 := Scalar.addi c0_i32_1815 v1725
  v1726.toNat
def k0_dev50 (d0 : Dev nD) : Nat :=
  let c0_i32_1826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1784 : BitVec 32 := 3#32
  let v1699 : BitVec 32 := Scalar.xori v2 c3_i32_1784
  let c1_i32_1825 : BitVec 32 := 1#32
  let v1736 : BitVec 32 := Scalar.muli v1699 c1_i32_1825
  let v1737 : BitVec 32 := Scalar.addi c0_i32_1826 v1736
  v1737.toNat
def k0_dev51 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1829 : BitVec 32 := 4#32
  let v1744 : BitVec 32 := Scalar.xori v2 c4_i32_1829
  let c1_i32_1837 : BitVec 32 := 1#32
  let v1748 : BitVec 32 := Scalar.muli v1744 c1_i32_1837
  let v1749 : BitVec 32 := Scalar.addi c0_i32_1838 v1748
  v1749.toNat
def k0_dev52 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1829 : BitVec 32 := 4#32
  let v1744 : BitVec 32 := Scalar.xori v2 c4_i32_1829
  let c1_i32_1848 : BitVec 32 := 1#32
  let v1759 : BitVec 32 := Scalar.muli v1744 c1_i32_1848
  let v1760 : BitVec 32 := Scalar.addi c0_i32_1849 v1759
  v1760.toNat
def k0_dev53 (d0 : Dev nD) : Nat :=
  let c0_i32_1860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1829 : BitVec 32 := 4#32
  let v1744 : BitVec 32 := Scalar.xori v2 c4_i32_1829
  let c1_i32_1859 : BitVec 32 := 1#32
  let v1770 : BitVec 32 := Scalar.muli v1744 c1_i32_1859
  let v1771 : BitVec 32 := Scalar.addi c0_i32_1860 v1770
  v1771.toNat
def k0_dev54 (d0 : Dev nD) : Nat :=
  let c0_i32_1871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1829 : BitVec 32 := 4#32
  let v1744 : BitVec 32 := Scalar.xori v2 c4_i32_1829
  let c1_i32_1870 : BitVec 32 := 1#32
  let v1781 : BitVec 32 := Scalar.muli v1744 c1_i32_1870
  let v1782 : BitVec 32 := Scalar.addi c0_i32_1871 v1781
  v1782.toNat
def k0_dev55 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2364 : BitVec 32 := 1#32
  let v2203 : BitVec 32 := Scalar.xori v2 c1_i32_2364
  let c1_i32_2395 : BitVec 32 := 1#32
  let v2236 : BitVec 32 := Scalar.muli v2203 c1_i32_2395
  let v2237 : BitVec 32 := Scalar.addi c0_i32_2396 v2236
  v2237.toNat
def k0_dev56 (d0 : Dev nD) : Nat :=
  let c0_i32_2433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2401 : BitVec 32 := 3#32
  let v2246 : BitVec 32 := Scalar.xori v2 c3_i32_2401
  let c1_i32_2432 : BitVec 32 := 1#32
  let v2279 : BitVec 32 := Scalar.muli v2246 c1_i32_2432
  let v2280 : BitVec 32 := Scalar.addi c0_i32_2433 v2279
  v2280.toNat
def k0_dev57 (d0 : Dev nD) : Nat :=
  let c0_i32_2470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2438 : BitVec 32 := 4#32
  let v2289 : BitVec 32 := Scalar.xori v2 c4_i32_2438
  let c1_i32_2469 : BitVec 32 := 1#32
  let v2322 : BitVec 32 := Scalar.muli v2289 c1_i32_2469
  let v2323 : BitVec 32 := Scalar.addi c0_i32_2470 v2322
  v2323.toNat
def k0_dev58 (d0 : Dev nD) : Nat :=
  let c0_i32_2648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2628 : BitVec 32 := 3#32
  let v2518 : BitVec 32 := Scalar.xori v2 c3_i32_2628
  let c1_i32_2647 : BitVec 32 := 1#32
  let v2535 : BitVec 32 := Scalar.muli v2518 c1_i32_2647
  let v2536 : BitVec 32 := Scalar.addi c0_i32_2648 v2535
  v2536.toNat
def k0_dev59 (d0 : Dev nD) : Nat :=
  let c0_i32_2673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2653 : BitVec 32 := 4#32
  let v2545 : BitVec 32 := Scalar.xori v2 c4_i32_2653
  let c1_i32_2672 : BitVec 32 := 1#32
  let v2562 : BitVec 32 := Scalar.muli v2545 c1_i32_2672
  let v2563 : BitVec 32 := Scalar.addi c0_i32_2673 v2562
  v2563.toNat
def k0_dev60 (d0 : Dev nD) : Nat :=
  let c0_i32_2698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2678 : BitVec 32 := 1#32
  let v2572 : BitVec 32 := Scalar.xori v2 c1_i32_2678
  let c1_i32_2697 : BitVec 32 := 1#32
  let v2589 : BitVec 32 := Scalar.muli v2572 c1_i32_2697
  let v2590 : BitVec 32 := Scalar.addi c0_i32_2698 v2589
  v2590.toNat
def k0_dev61 (d0 : Dev nD) : Nat :=
  let c0_i32_2828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2814 : BitVec 32 := 4#32
  let v2713 : BitVec 32 := Scalar.xori v2 c4_i32_2814
  let c1_i32_2827 : BitVec 32 := 1#32
  let v2722 : BitVec 32 := Scalar.muli v2713 c1_i32_2827
  let v2723 : BitVec 32 := Scalar.addi c0_i32_2828 v2722
  v2723.toNat
def k0_dev62 (d0 : Dev nD) : Nat :=
  let c0_i32_2847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2833 : BitVec 32 := 1#32
  let v2732 : BitVec 32 := Scalar.xori v2 c1_i32_2833
  let c1_i32_2846 : BitVec 32 := 1#32
  let v2741 : BitVec 32 := Scalar.muli v2732 c1_i32_2846
  let v2742 : BitVec 32 := Scalar.addi c0_i32_2847 v2741
  v2742.toNat
def k0_dev63 (d0 : Dev nD) : Nat :=
  let c0_i32_2866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2852 : BitVec 32 := 3#32
  let v2751 : BitVec 32 := Scalar.xori v2 c3_i32_2852
  let c1_i32_2865 : BitVec 32 := 1#32
  let v2760 : BitVec 32 := Scalar.muli v2751 c1_i32_2865
  let v2761 : BitVec 32 := Scalar.addi c0_i32_2866 v2760
  v2761.toNat
def k0_dev64 (d0 : Dev nD) : Nat :=
  let c0_i32_2974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2965 : BitVec 32 := 4#32
  let v2857 : BitVec 32 := Scalar.xori v2 c4_i32_2965
  let c1_i32_2973 : BitVec 32 := 1#32
  let v2861 : BitVec 32 := Scalar.muli v2857 c1_i32_2973
  let v2862 : BitVec 32 := Scalar.addi c0_i32_2974 v2861
  v2862.toNat
def k0_dev65 (d0 : Dev nD) : Nat :=
  let c0_i32_2986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2977 : BitVec 32 := 1#32
  let v2869 : BitVec 32 := Scalar.xori v2 c1_i32_2977
  let c1_i32_2985 : BitVec 32 := 1#32
  let v2873 : BitVec 32 := Scalar.muli v2869 c1_i32_2985
  let v2874 : BitVec 32 := Scalar.addi c0_i32_2986 v2873
  v2874.toNat
def k0_dev66 (d0 : Dev nD) : Nat :=
  let c0_i32_2998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2989 : BitVec 32 := 3#32
  let v2881 : BitVec 32 := Scalar.xori v2 c3_i32_2989
  let c1_i32_2997 : BitVec 32 := 1#32
  let v2885 : BitVec 32 := Scalar.muli v2881 c1_i32_2997
  let v2886 : BitVec 32 := Scalar.addi c0_i32_2998 v2885
  v2886.toNat
def k0_dev67 (d0 : Dev nD) : Nat :=
  let c0_i32_3055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3046 : BitVec 32 := 3#32
  let v2923 : BitVec 32 := Scalar.xori v2 c3_i32_3046
  let c1_i32_3054 : BitVec 32 := 1#32
  let v2927 : BitVec 32 := Scalar.muli v2923 c1_i32_3054
  let v2928 : BitVec 32 := Scalar.addi c0_i32_3055 v2927
  v2928.toNat
def k0_dev68 (d0 : Dev nD) : Nat :=
  let c0_i32_3066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3046 : BitVec 32 := 3#32
  let v2923 : BitVec 32 := Scalar.xori v2 c3_i32_3046
  let c1_i32_3065 : BitVec 32 := 1#32
  let v2938 : BitVec 32 := Scalar.muli v2923 c1_i32_3065
  let v2939 : BitVec 32 := Scalar.addi c0_i32_3066 v2938
  v2939.toNat
def k0_dev69 (d0 : Dev nD) : Nat :=
  let c0_i32_3078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3069 : BitVec 32 := 4#32
  let v2946 : BitVec 32 := Scalar.xori v2 c4_i32_3069
  let c1_i32_3077 : BitVec 32 := 1#32
  let v2950 : BitVec 32 := Scalar.muli v2946 c1_i32_3077
  let v2951 : BitVec 32 := Scalar.addi c0_i32_3078 v2950
  v2951.toNat
def k0_dev70 (d0 : Dev nD) : Nat :=
  let c0_i32_3089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3069 : BitVec 32 := 4#32
  let v2946 : BitVec 32 := Scalar.xori v2 c4_i32_3069
  let c1_i32_3088 : BitVec 32 := 1#32
  let v2961 : BitVec 32 := Scalar.muli v2946 c1_i32_3088
  let v2962 : BitVec 32 := Scalar.addi c0_i32_3089 v2961
  v2962.toNat
def k0_dev71 (d0 : Dev nD) : Nat :=
  let c0_i32_3101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3092 : BitVec 32 := 1#32
  let v2969 : BitVec 32 := Scalar.xori v2 c1_i32_3092
  let c1_i32_3100 : BitVec 32 := 1#32
  let v2973 : BitVec 32 := Scalar.muli v2969 c1_i32_3100
  let v2974 : BitVec 32 := Scalar.addi c0_i32_3101 v2973
  v2974.toNat
def k0_dev72 (d0 : Dev nD) : Nat :=
  let c0_i32_3112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3092 : BitVec 32 := 1#32
  let v2969 : BitVec 32 := Scalar.xori v2 c1_i32_3092
  let c1_i32_3111 : BitVec 32 := 1#32
  let v2984 : BitVec 32 := Scalar.muli v2969 c1_i32_3111
  let v2985 : BitVec 32 := Scalar.addi c0_i32_3112 v2984
  v2985.toNat
def k0_dev73 (d0 : Dev nD) : Nat :=
  let c0_i32_3214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3205 : BitVec 32 := 1#32
  let v3052 : BitVec 32 := Scalar.xori v2 c1_i32_3205
  let c1_i32_3213 : BitVec 32 := 1#32
  let v3056 : BitVec 32 := Scalar.muli v3052 c1_i32_3213
  let v3057 : BitVec 32 := Scalar.addi c0_i32_3214 v3056
  v3057.toNat
def k0_dev74 (d0 : Dev nD) : Nat :=
  let c0_i32_3225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3205 : BitVec 32 := 1#32
  let v3052 : BitVec 32 := Scalar.xori v2 c1_i32_3205
  let c1_i32_3224 : BitVec 32 := 1#32
  let v3067 : BitVec 32 := Scalar.muli v3052 c1_i32_3224
  let v3068 : BitVec 32 := Scalar.addi c0_i32_3225 v3067
  v3068.toNat
def k0_dev75 (d0 : Dev nD) : Nat :=
  let c0_i32_3236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3205 : BitVec 32 := 1#32
  let v3052 : BitVec 32 := Scalar.xori v2 c1_i32_3205
  let c1_i32_3235 : BitVec 32 := 1#32
  let v3078 : BitVec 32 := Scalar.muli v3052 c1_i32_3235
  let v3079 : BitVec 32 := Scalar.addi c0_i32_3236 v3078
  v3079.toNat
def k0_dev76 (d0 : Dev nD) : Nat :=
  let c0_i32_3247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3205 : BitVec 32 := 1#32
  let v3052 : BitVec 32 := Scalar.xori v2 c1_i32_3205
  let c1_i32_3246 : BitVec 32 := 1#32
  let v3089 : BitVec 32 := Scalar.muli v3052 c1_i32_3246
  let v3090 : BitVec 32 := Scalar.addi c0_i32_3247 v3089
  v3090.toNat
def k0_dev77 (d0 : Dev nD) : Nat :=
  let c0_i32_3259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3250 : BitVec 32 := 3#32
  let v3097 : BitVec 32 := Scalar.xori v2 c3_i32_3250
  let c1_i32_3258 : BitVec 32 := 1#32
  let v3101 : BitVec 32 := Scalar.muli v3097 c1_i32_3258
  let v3102 : BitVec 32 := Scalar.addi c0_i32_3259 v3101
  v3102.toNat
def k0_dev78 (d0 : Dev nD) : Nat :=
  let c0_i32_3270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3250 : BitVec 32 := 3#32
  let v3097 : BitVec 32 := Scalar.xori v2 c3_i32_3250
  let c1_i32_3269 : BitVec 32 := 1#32
  let v3112 : BitVec 32 := Scalar.muli v3097 c1_i32_3269
  let v3113 : BitVec 32 := Scalar.addi c0_i32_3270 v3112
  v3113.toNat
def k0_dev79 (d0 : Dev nD) : Nat :=
  let c0_i32_3281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3250 : BitVec 32 := 3#32
  let v3097 : BitVec 32 := Scalar.xori v2 c3_i32_3250
  let c1_i32_3280 : BitVec 32 := 1#32
  let v3123 : BitVec 32 := Scalar.muli v3097 c1_i32_3280
  let v3124 : BitVec 32 := Scalar.addi c0_i32_3281 v3123
  v3124.toNat
def k0_dev80 (d0 : Dev nD) : Nat :=
  let c0_i32_3292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3250 : BitVec 32 := 3#32
  let v3097 : BitVec 32 := Scalar.xori v2 c3_i32_3250
  let c1_i32_3291 : BitVec 32 := 1#32
  let v3134 : BitVec 32 := Scalar.muli v3097 c1_i32_3291
  let v3135 : BitVec 32 := Scalar.addi c0_i32_3292 v3134
  v3135.toNat
def k0_dev81 (d0 : Dev nD) : Nat :=
  let c0_i32_3304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3295 : BitVec 32 := 4#32
  let v3142 : BitVec 32 := Scalar.xori v2 c4_i32_3295
  let c1_i32_3303 : BitVec 32 := 1#32
  let v3146 : BitVec 32 := Scalar.muli v3142 c1_i32_3303
  let v3147 : BitVec 32 := Scalar.addi c0_i32_3304 v3146
  v3147.toNat
def k0_dev82 (d0 : Dev nD) : Nat :=
  let c0_i32_3315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3295 : BitVec 32 := 4#32
  let v3142 : BitVec 32 := Scalar.xori v2 c4_i32_3295
  let c1_i32_3314 : BitVec 32 := 1#32
  let v3157 : BitVec 32 := Scalar.muli v3142 c1_i32_3314
  let v3158 : BitVec 32 := Scalar.addi c0_i32_3315 v3157
  v3158.toNat
def k0_dev83 (d0 : Dev nD) : Nat :=
  let c0_i32_3326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3295 : BitVec 32 := 4#32
  let v3142 : BitVec 32 := Scalar.xori v2 c4_i32_3295
  let c1_i32_3325 : BitVec 32 := 1#32
  let v3168 : BitVec 32 := Scalar.muli v3142 c1_i32_3325
  let v3169 : BitVec 32 := Scalar.addi c0_i32_3326 v3168
  v3169.toNat
def k0_dev84 (d0 : Dev nD) : Nat :=
  let c0_i32_3337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3295 : BitVec 32 := 4#32
  let v3142 : BitVec 32 := Scalar.xori v2 c4_i32_3295
  let c1_i32_3336 : BitVec 32 := 1#32
  let v3179 : BitVec 32 := Scalar.muli v3142 c1_i32_3336
  let v3180 : BitVec 32 := Scalar.addi c0_i32_3337 v3179
  v3180.toNat
def k0_dev85 (d0 : Dev nD) : Nat :=
  let c0_i32_3814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3782 : BitVec 32 := 1#32
  let v3561 : BitVec 32 := Scalar.xori v2 c1_i32_3782
  let c1_i32_3813 : BitVec 32 := 1#32
  let v3594 : BitVec 32 := Scalar.muli v3561 c1_i32_3813
  let v3595 : BitVec 32 := Scalar.addi c0_i32_3814 v3594
  v3595.toNat
def k0_dev86 (d0 : Dev nD) : Nat :=
  let c0_i32_3851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3819 : BitVec 32 := 3#32
  let v3604 : BitVec 32 := Scalar.xori v2 c3_i32_3819
  let c1_i32_3850 : BitVec 32 := 1#32
  let v3637 : BitVec 32 := Scalar.muli v3604 c1_i32_3850
  let v3638 : BitVec 32 := Scalar.addi c0_i32_3851 v3637
  v3638.toNat
def k0_dev87 (d0 : Dev nD) : Nat :=
  let c0_i32_3888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3856 : BitVec 32 := 4#32
  let v3647 : BitVec 32 := Scalar.xori v2 c4_i32_3856
  let c1_i32_3887 : BitVec 32 := 1#32
  let v3680 : BitVec 32 := Scalar.muli v3647 c1_i32_3887
  let v3681 : BitVec 32 := Scalar.addi c0_i32_3888 v3680
  v3681.toNat
def k0_dev88 (d0 : Dev nD) : Nat :=
  let c0_i32_4066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4046 : BitVec 32 := 3#32
  let v3876 : BitVec 32 := Scalar.xori v2 c3_i32_4046
  let c1_i32_4065 : BitVec 32 := 1#32
  let v3893 : BitVec 32 := Scalar.muli v3876 c1_i32_4065
  let v3894 : BitVec 32 := Scalar.addi c0_i32_4066 v3893
  v3894.toNat
def k0_dev89 (d0 : Dev nD) : Nat :=
  let c0_i32_4091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4071 : BitVec 32 := 4#32
  let v3903 : BitVec 32 := Scalar.xori v2 c4_i32_4071
  let c1_i32_4090 : BitVec 32 := 1#32
  let v3920 : BitVec 32 := Scalar.muli v3903 c1_i32_4090
  let v3921 : BitVec 32 := Scalar.addi c0_i32_4091 v3920
  v3921.toNat
def k0_dev90 (d0 : Dev nD) : Nat :=
  let c0_i32_4116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4096 : BitVec 32 := 1#32
  let v3930 : BitVec 32 := Scalar.xori v2 c1_i32_4096
  let c1_i32_4115 : BitVec 32 := 1#32
  let v3947 : BitVec 32 := Scalar.muli v3930 c1_i32_4115
  let v3948 : BitVec 32 := Scalar.addi c0_i32_4116 v3947
  v3948.toNat
def k0_dev91 (d0 : Dev nD) : Nat :=
  let c0_i32_4246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4232 : BitVec 32 := 4#32
  let v4071 : BitVec 32 := Scalar.xori v2 c4_i32_4232
  let c1_i32_4245 : BitVec 32 := 1#32
  let v4080 : BitVec 32 := Scalar.muli v4071 c1_i32_4245
  let v4081 : BitVec 32 := Scalar.addi c0_i32_4246 v4080
  v4081.toNat
def k0_dev92 (d0 : Dev nD) : Nat :=
  let c0_i32_4265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4251 : BitVec 32 := 1#32
  let v4090 : BitVec 32 := Scalar.xori v2 c1_i32_4251
  let c1_i32_4264 : BitVec 32 := 1#32
  let v4099 : BitVec 32 := Scalar.muli v4090 c1_i32_4264
  let v4100 : BitVec 32 := Scalar.addi c0_i32_4265 v4099
  v4100.toNat
def k0_dev93 (d0 : Dev nD) : Nat :=
  let c0_i32_4284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4270 : BitVec 32 := 3#32
  let v4109 : BitVec 32 := Scalar.xori v2 c3_i32_4270
  let c1_i32_4283 : BitVec 32 := 1#32
  let v4118 : BitVec 32 := Scalar.muli v4109 c1_i32_4283
  let v4119 : BitVec 32 := Scalar.addi c0_i32_4284 v4118
  v4119.toNat
def k0_dev94 (d0 : Dev nD) : Nat :=
  let c0_i32_4392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4383 : BitVec 32 := 4#32
  let v4215 : BitVec 32 := Scalar.xori v2 c4_i32_4383
  let c1_i32_4391 : BitVec 32 := 1#32
  let v4219 : BitVec 32 := Scalar.muli v4215 c1_i32_4391
  let v4220 : BitVec 32 := Scalar.addi c0_i32_4392 v4219
  v4220.toNat
def k0_dev95 (d0 : Dev nD) : Nat :=
  let c0_i32_4404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4395 : BitVec 32 := 1#32
  let v4227 : BitVec 32 := Scalar.xori v2 c1_i32_4395
  let c1_i32_4403 : BitVec 32 := 1#32
  let v4231 : BitVec 32 := Scalar.muli v4227 c1_i32_4403
  let v4232 : BitVec 32 := Scalar.addi c0_i32_4404 v4231
  v4232.toNat
def k0_dev96 (d0 : Dev nD) : Nat :=
  let c0_i32_4416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4407 : BitVec 32 := 3#32
  let v4239 : BitVec 32 := Scalar.xori v2 c3_i32_4407
  let c1_i32_4415 : BitVec 32 := 1#32
  let v4243 : BitVec 32 := Scalar.muli v4239 c1_i32_4415
  let v4244 : BitVec 32 := Scalar.addi c0_i32_4416 v4243
  v4244.toNat
def k0_dev97 (d0 : Dev nD) : Nat :=
  let c0_i32_4473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4464 : BitVec 32 := 3#32
  let v4281 : BitVec 32 := Scalar.xori v2 c3_i32_4464
  let c1_i32_4472 : BitVec 32 := 1#32
  let v4285 : BitVec 32 := Scalar.muli v4281 c1_i32_4472
  let v4286 : BitVec 32 := Scalar.addi c0_i32_4473 v4285
  v4286.toNat
def k0_dev98 (d0 : Dev nD) : Nat :=
  let c0_i32_4484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4464 : BitVec 32 := 3#32
  let v4281 : BitVec 32 := Scalar.xori v2 c3_i32_4464
  let c1_i32_4483 : BitVec 32 := 1#32
  let v4296 : BitVec 32 := Scalar.muli v4281 c1_i32_4483
  let v4297 : BitVec 32 := Scalar.addi c0_i32_4484 v4296
  v4297.toNat
def k0_dev99 (d0 : Dev nD) : Nat :=
  let c0_i32_4496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4487 : BitVec 32 := 4#32
  let v4304 : BitVec 32 := Scalar.xori v2 c4_i32_4487
  let c1_i32_4495 : BitVec 32 := 1#32
  let v4308 : BitVec 32 := Scalar.muli v4304 c1_i32_4495
  let v4309 : BitVec 32 := Scalar.addi c0_i32_4496 v4308
  v4309.toNat
def k0_dev100 (d0 : Dev nD) : Nat :=
  let c0_i32_4507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4487 : BitVec 32 := 4#32
  let v4304 : BitVec 32 := Scalar.xori v2 c4_i32_4487
  let c1_i32_4506 : BitVec 32 := 1#32
  let v4319 : BitVec 32 := Scalar.muli v4304 c1_i32_4506
  let v4320 : BitVec 32 := Scalar.addi c0_i32_4507 v4319
  v4320.toNat
def k0_dev101 (d0 : Dev nD) : Nat :=
  let c0_i32_4519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4510 : BitVec 32 := 1#32
  let v4327 : BitVec 32 := Scalar.xori v2 c1_i32_4510
  let c1_i32_4518 : BitVec 32 := 1#32
  let v4331 : BitVec 32 := Scalar.muli v4327 c1_i32_4518
  let v4332 : BitVec 32 := Scalar.addi c0_i32_4519 v4331
  v4332.toNat
def k0_dev102 (d0 : Dev nD) : Nat :=
  let c0_i32_4530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4510 : BitVec 32 := 1#32
  let v4327 : BitVec 32 := Scalar.xori v2 c1_i32_4510
  let c1_i32_4529 : BitVec 32 := 1#32
  let v4342 : BitVec 32 := Scalar.muli v4327 c1_i32_4529
  let v4343 : BitVec 32 := Scalar.addi c0_i32_4530 v4342
  v4343.toNat
def k0_dev103 (d0 : Dev nD) : Nat :=
  let c0_i32_4632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4623 : BitVec 32 := 1#32
  let v4410 : BitVec 32 := Scalar.xori v2 c1_i32_4623
  let c1_i32_4631 : BitVec 32 := 1#32
  let v4414 : BitVec 32 := Scalar.muli v4410 c1_i32_4631
  let v4415 : BitVec 32 := Scalar.addi c0_i32_4632 v4414
  v4415.toNat
def k0_dev104 (d0 : Dev nD) : Nat :=
  let c0_i32_4643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4623 : BitVec 32 := 1#32
  let v4410 : BitVec 32 := Scalar.xori v2 c1_i32_4623
  let c1_i32_4642 : BitVec 32 := 1#32
  let v4425 : BitVec 32 := Scalar.muli v4410 c1_i32_4642
  let v4426 : BitVec 32 := Scalar.addi c0_i32_4643 v4425
  v4426.toNat
def k0_dev105 (d0 : Dev nD) : Nat :=
  let c0_i32_4654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4623 : BitVec 32 := 1#32
  let v4410 : BitVec 32 := Scalar.xori v2 c1_i32_4623
  let c1_i32_4653 : BitVec 32 := 1#32
  let v4436 : BitVec 32 := Scalar.muli v4410 c1_i32_4653
  let v4437 : BitVec 32 := Scalar.addi c0_i32_4654 v4436
  v4437.toNat
def k0_dev106 (d0 : Dev nD) : Nat :=
  let c0_i32_4665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4623 : BitVec 32 := 1#32
  let v4410 : BitVec 32 := Scalar.xori v2 c1_i32_4623
  let c1_i32_4664 : BitVec 32 := 1#32
  let v4447 : BitVec 32 := Scalar.muli v4410 c1_i32_4664
  let v4448 : BitVec 32 := Scalar.addi c0_i32_4665 v4447
  v4448.toNat
def k0_dev107 (d0 : Dev nD) : Nat :=
  let c0_i32_4677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4668 : BitVec 32 := 3#32
  let v4455 : BitVec 32 := Scalar.xori v2 c3_i32_4668
  let c1_i32_4676 : BitVec 32 := 1#32
  let v4459 : BitVec 32 := Scalar.muli v4455 c1_i32_4676
  let v4460 : BitVec 32 := Scalar.addi c0_i32_4677 v4459
  v4460.toNat
def k0_dev108 (d0 : Dev nD) : Nat :=
  let c0_i32_4688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4668 : BitVec 32 := 3#32
  let v4455 : BitVec 32 := Scalar.xori v2 c3_i32_4668
  let c1_i32_4687 : BitVec 32 := 1#32
  let v4470 : BitVec 32 := Scalar.muli v4455 c1_i32_4687
  let v4471 : BitVec 32 := Scalar.addi c0_i32_4688 v4470
  v4471.toNat
def k0_dev109 (d0 : Dev nD) : Nat :=
  let c0_i32_4699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4668 : BitVec 32 := 3#32
  let v4455 : BitVec 32 := Scalar.xori v2 c3_i32_4668
  let c1_i32_4698 : BitVec 32 := 1#32
  let v4481 : BitVec 32 := Scalar.muli v4455 c1_i32_4698
  let v4482 : BitVec 32 := Scalar.addi c0_i32_4699 v4481
  v4482.toNat
def k0_dev110 (d0 : Dev nD) : Nat :=
  let c0_i32_4710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4668 : BitVec 32 := 3#32
  let v4455 : BitVec 32 := Scalar.xori v2 c3_i32_4668
  let c1_i32_4709 : BitVec 32 := 1#32
  let v4492 : BitVec 32 := Scalar.muli v4455 c1_i32_4709
  let v4493 : BitVec 32 := Scalar.addi c0_i32_4710 v4492
  v4493.toNat
def k0_dev111 (d0 : Dev nD) : Nat :=
  let c0_i32_4722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4713 : BitVec 32 := 4#32
  let v4500 : BitVec 32 := Scalar.xori v2 c4_i32_4713
  let c1_i32_4721 : BitVec 32 := 1#32
  let v4504 : BitVec 32 := Scalar.muli v4500 c1_i32_4721
  let v4505 : BitVec 32 := Scalar.addi c0_i32_4722 v4504
  v4505.toNat
def k0_dev112 (d0 : Dev nD) : Nat :=
  let c0_i32_4733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4713 : BitVec 32 := 4#32
  let v4500 : BitVec 32 := Scalar.xori v2 c4_i32_4713
  let c1_i32_4732 : BitVec 32 := 1#32
  let v4515 : BitVec 32 := Scalar.muli v4500 c1_i32_4732
  let v4516 : BitVec 32 := Scalar.addi c0_i32_4733 v4515
  v4516.toNat
def k0_dev113 (d0 : Dev nD) : Nat :=
  let c0_i32_4744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4713 : BitVec 32 := 4#32
  let v4500 : BitVec 32 := Scalar.xori v2 c4_i32_4713
  let c1_i32_4743 : BitVec 32 := 1#32
  let v4526 : BitVec 32 := Scalar.muli v4500 c1_i32_4743
  let v4527 : BitVec 32 := Scalar.addi c0_i32_4744 v4526
  v4527.toNat
def k0_dev114 (d0 : Dev nD) : Nat :=
  let c0_i32_4755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4713 : BitVec 32 := 4#32
  let v4500 : BitVec 32 := Scalar.xori v2 c4_i32_4713
  let c1_i32_4754 : BitVec 32 := 1#32
  let v4537 : BitVec 32 := Scalar.muli v4500 c1_i32_4754
  let v4538 : BitVec 32 := Scalar.addi c0_i32_4755 v4537
  v4538.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x2048 : Shape := ⟨2, ![512, 2048]⟩
abbrev S2048x32768 : Shape := ⟨2, ![2048, 32768]⟩
abbrev S32768x2048 : Shape := ⟨2, ![32768, 2048]⟩
abbrev S512x32768 : Shape := ⟨2, ![512, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x32768, .f32⟩
  | .hbm, ⟨2, _⟩ => ⟨S2048x32768, .f32⟩
  | .hbm, ⟨3, _⟩ => ⟨S2048x32768, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S512x32768, .f32⟩
  | .hbm, ⟨8, _⟩ => ⟨S_, .f32⟩
  | .hbm, ⟨9, _⟩ => ⟨S512x32768, .f32⟩
  | .hbm, ⟨10, _⟩ => ⟨S512x32768, .f32⟩
  | .hbm, ⟨11, _⟩ => ⟨S512x2048, .f32⟩
  | .hbm, ⟨12, _⟩ => ⟨S512x32768, .f32⟩
  | .hbm, ⟨13, _⟩ => ⟨S_, .f32⟩
  | .hbm, ⟨14, _⟩ => ⟨S512x32768, .f32⟩
  | .hbm, ⟨15, _⟩ => ⟨S512x32768, .f32⟩
  | .hbm, ⟨16, _⟩ => ⟨S512x2048, .f32⟩
  | .hbm, ⟨17, _⟩ => ⟨S512x32768, .f32⟩
  | .hbm, ⟨18, _⟩ => ⟨S_, .f32⟩
  | .hbm, ⟨19, _⟩ => ⟨S512x32768, .f32⟩
  | .hbm, ⟨20, _⟩ => ⟨S512x32768, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

/- The kernel's body written by loops over its messages, its weight tiles and its
   accumulations; `body_eq` says it is the printed one. -/
namespace Cert.KernelIdeal.Run

open Idealize.ShloMosaic Idealize.ShloMosaic.TcCoe
open Idealize.SL Idealize.SL.Sem
open Cert.KernelIdeal.Gen

variable {F : FTy → Type} [FloatOps F]

abbrev P (F : FTy → Type) [FloatOps F] (α : Type) := Prog (TpuEff nD τ sig (Elt F) Λ₀ .tc) α

/-! ## The buffers -/

abbrev xfM : Memref sig .tc .vmem S512x2048 .bf16 := Memref.whole cc0_scratch0
abbrev accM : Memref sig .tc .vmem S512x2048 .f32 := Memref.whole cc0_scratch1
abbrev wiM : Memref sig .tc .vmem S4x2048x512 .f32 := Memref.whole cc0_scratch2
abbrev woM : Memref sig .tc .vmem S4x512x2048 .f32 := Memref.whole cc0_scratch3
abbrev sndM : Memref sig .tc .vmem S3x448x768 .bf16 := Memref.whole cc0_scratch4
abbrev rcvM : Memref sig .tc .vmem S3x448x768 .bf16 := Memref.whole cc0_scratch5

/-- The layer's first and second weight arrays. -/
def winM (L : Fin 3) : Memref sig .tc .hbm S2048x4096 .f32 :=
  match L with
  | 0 => Memref.whole main_arg1
  | 1 => Memref.whole main_arg2
  | 2 => Memref.whole main_arg3
def woutM (L : Fin 3) : Memref sig .tc .hbm S4096x2048 .f32 :=
  match L with
  | 0 => Memref.whole main_arg4
  | 1 => Memref.whole main_arg5
  | 2 => Memref.whole main_arg6

/-! ## Tables of the messages -/

/-- The slot's row class: the gathered message carries the rows of device `c xor j`. -/
def agJ (s : Fin 3) (sl : Fin 7) : Fin 8 := (![![0, 0, 4, 0, 4, 3, 7], ![0, 0, 1, 0, 1, 4, 5], ![0, 0, 3, 0, 3, 1, 2]] : Fin 3 → Fin 7 → Fin 8) s sl
/-- The step a slot belongs to. -/
def agStep (sl : Fin 7) : Fin 3 := (![0, 1, 1, 2, 2, 2, 2] : Fin 7 → Fin 3) sl
/-- The partner's bit of a gather step and of a scatter step. -/
def agBit (s k : Fin 3) : Fin 8 := (![![4, 3, 1], ![1, 4, 3], ![3, 1, 4]] : Fin 3 → Fin 3 → Fin 8) s k
def rsBit (s k : Fin 3) : Fin 8 := (![![1, 3, 4], ![3, 4, 1], ![4, 1, 3]] : Fin 3 → Fin 3 → Fin 8) s k
/-- The slots of a gather step, and the row blocks of a scatter step. -/
def agSl (k : Fin 3) : List (Fin 7) := match k with | 0 => [0] | 1 => [1, 2] | 2 => [3, 4, 5, 6]
def rsSend (s k : Fin 3) : List (Fin 8) :=
  match s, k with
  | 0, 0 => [1, 2, 5, 6] | 0, 1 => [3, 7] | 0, 2 => [4]
  | 1, 0 => [3, 7, 2, 6] | 1, 1 => [4, 5] | 1, 2 => [1]
  | 2, 0 => [4, 5, 7, 6] | 2, 1 => [1, 2] | 2, 2 => [3]
/-- The columns of a schedule, its width, and the rows of a step in the exchange buffers. -/
def pw (s : Fin 3) : Nat := match s with | 0 => 768 | 1 => 640 | 2 => 640
def pc (s : Fin 3) : Nat := match s with | 0 => 0 | 1 => 768 | 2 => 1408
def rn (k : Fin 3) : Nat := match k with | 0 => 256 | 1 => 128 | 2 => 64
def ro (k : Fin 3) : Nat := match k with | 0 => 0 | 1 => 256 | 2 => 384

/-! ## Views -/

def pOff (s : Fin 3) (d : Dev nD) (j : BitVec 32) : Fin 2 → Nat :=
  match s with | 0 => k0_off5 d j | 1 => k0_off6 d j | 2 => k0_off7 d j

abbrev psh (s : Fin 3) : Shape := ⟨2, ![64, pw s]⟩
abbrev psh1 (s : Fin 3) : Shape := ⟨3, ![1, 64, pw s]⟩
abbrev rsh1 (s k : Fin 3) : Shape := ⟨3, ![1, rn k, pw s]⟩
abbrev rsh (s k : Fin 3) : Shape := ⟨2, ![rn k, pw s]⟩

theorem pOff_inb : ∀ (s : Fin 3) (d : Dev nD) (j : Fin 8) (a : Fin 2),
    pOff s d (BitVec.ofNat 32 j.val) a + (psh s).size a ≤ S512x2048.size a := by decide +kernel

abbrev pRect (s : Fin 3) (d : Dev nD) (j : Fin 8) : Rect S512x2048 :=
  Rect.unit (s := S512x2048) (pOff s d (BitVec.ofNat 32 j.val)) (psh s).size (pOff_inb s d j)

theorem pRect_words : ∀ (s : Fin 3) (d : Dev nD) (j : Fin 8), (pRect s d j).WholeWords (EltTy.packing .bf16) := by decide +kernel

theorem psh_pos : ∀ s : Fin 3, 0 < (psh s).numel := by decide
theorem psh1_pos : ∀ s : Fin 3, 0 < (psh1 s).numel := by decide

abbrev xfV (s : Fin 3) (d : Dev nD) (j : Fin 8) : Memref sig .tc .vmem (psh s) .bf16 :=
  xfM.slice (pRect s d j) (fun _ => rfl)

theorem rRect_inb : ∀ (s k : Fin 3) (a : Fin 3), (![s.val, ro k, 0] : Fin 3 → Nat) a + (rsh1 s k).size a ≤ S3x448x768.size a := by decide
theorem rRow_inb : ∀ (s : Fin 3) (r : Fin 7) (a : Fin 3), (![s.val, 64 * r.val, 0] : Fin 3 → Nat) a + (psh1 s).size a ≤ S3x448x768.size a := by decide

abbrev rRect (s k : Fin 3) : Rect S3x448x768 :=
  Rect.unit (s := S3x448x768) ![s.val, ro k, 0] (rsh1 s k).size (rRect_inb s k)
abbrev rRow (s : Fin 3) (r : Fin 7) : Rect S3x448x768 :=
  Rect.unit (s := S3x448x768) ![s.val, 64 * r.val, 0] (psh1 s).size (rRow_inb s r)

theorem rRect_words : ∀ s k : Fin 3, (rRect s k).WholeWords (EltTy.packing .bf16) := by decide
theorem rRow_packed : ∀ (s : Fin 3) (r : Fin 7), (rRow s r).PackedRows (EltTy.packing .bf16) := by decide
theorem rsh_squeezes : ∀ s k : Fin 3, (rsh1 s k).Squeezes (rsh s k) := by decide

abbrev sndV (s k : Fin 3) : Memref sig .tc .vmem (rsh s k) .bf16 :=
  (sndM.slice (rRect s k) (fun _ => rfl)).squeeze (rsh s k) (rsh_squeezes s k)
abbrev rcvV (s k : Fin 3) : Memref sig .tc .vmem (rsh s k) .bf16 :=
  (rcvM.slice (rRect s k) (fun _ => rfl)).squeeze (rsh s k) (rsh_squeezes s k)

/-- The first row block (of 64 rows) of a step's part of the exchange buffers. -/
def rb (k : Fin 3) (i : Nat) : Fin 7 := Fin.ofNat 7 ((match k with | 0 => 0 | 1 => 4 | 2 => 6) + i)

theorem slot_inb4 : ∀ (m : Fin 4) (a : Fin 1), (![m.val] : Fin 1 → Nat) a + S1.size a ≤ S4.size a := by decide
theorem wi_inb : ∀ (m : Fin 4) (a : Fin 3), (![m.val, 0, 0] : Fin 3 → Nat) a + S1x2048x512.size a ≤ S4x2048x512.size a := by decide
theorem wo_inb : ∀ (m : Fin 4) (a : Fin 3), (![m.val, 0, 0] : Fin 3 → Nat) a + S1x512x2048.size a ≤ S4x512x2048.size a := by decide
theorem win_inb : ∀ (t : Fin 8) (a : Fin 2), (![0, 512 * t.val] : Fin 2 → Nat) a + S2048x512.size a ≤ S2048x4096.size a := by decide
theorem wout_inb : ∀ (t : Fin 8) (a : Fin 2), (![512 * t.val, 0] : Fin 2 → Nat) a + S512x2048.size a ≤ S4096x2048.size a := by decide
theorem s33_inb : ∀ (s k : Fin 3) (a : Fin 2), (![s.val, k.val] : Fin 2 → Nat) a + S1x1.size a ≤ S3x3.size a := by decide
theorem s37_inb : ∀ (s : Fin 3) (l : Fin 7) (a : Fin 2), (![s.val, l.val] : Fin 2 → Nat) a + S1x1.size a ≤ S3x7.size a := by decide

abbrev wiR (m : Fin 4) : Rect S4x2048x512 := Rect.unit (s := S4x2048x512) ![m.val, 0, 0] S1x2048x512.size (wi_inb m)
abbrev woR (m : Fin 4) : Rect S4x512x2048 := Rect.unit (s := S4x512x2048) ![m.val, 0, 0] S1x512x2048.size (wo_inb m)
abbrev winR (t : Fin 8) : Rect S2048x4096 := Rect.unit (s := S2048x4096) ![0, 512 * t.val] S2048x512.size (win_inb t)
abbrev woutR (t : Fin 8) : Rect S4096x2048 := Rect.unit (s := S4096x2048) ![512 * t.val, 0] S512x2048.size (wout_inb t)

abbrev wiV (m : Fin 4) : Memref sig .tc .vmem S2048x512 .f32 :=
  (wiM.slice (wiR m) (fun _ => rfl)).squeeze S2048x512 squeezes_S1x2048x512_S2048x512
abbrev woV (m : Fin 4) : Memref sig .tc .vmem S512x2048 .f32 :=
  (woM.slice (woR m) (fun _ => rfl)).squeeze S512x2048 squeezes_S1x512x2048_S512x2048
abbrev winV (L : Fin 3) (t : Fin 8) : Memref sig .tc .hbm S2048x512 .f32 := (winM L).slice (winR t) (fun _ => rfl)
abbrev woutV (L : Fin 3) (t : Fin 8) : Memref sig .tc .hbm S512x2048 .f32 := (woutM L).slice (woutR t) (fun _ => rfl)

/-! ## Semaphores -/

abbrev barS : Sem sig := (SemArray.scalar (sig.barrier 0 rfl) : Sems sig S_).sem
abbrev wiS (m : Fin 4) : DmaSem sig := (((cc0_scratch6 : DmaSems sig S4).slice (Rect.unit (s := S4) ![m.val] S1.size (slot_inb4 m))).squeeze S_ squeezes_S1_S_).sem
abbrev woS (m : Fin 4) : DmaSem sig := (((cc0_scratch7 : DmaSems sig S4).slice (Rect.unit (s := S4) ![m.val] S1.size (slot_inb4 m))).squeeze S_ squeezes_S1_S_).sem
abbrev rsS (s k : Fin 3) : DmaSem sig := (((cc0_scratch8 : DmaSems sig S3x3).slice (Rect.unit (s := S3x3) ![s.val, k.val] S1x1.size (s33_inb s k))).squeeze S_ squeezes_S1x1_S_).sem
abbrev rsR (s k : Fin 3) : DmaSem sig := (((cc0_scratch9 : DmaSems sig S3x3).slice (Rect.unit (s := S3x3) ![s.val, k.val] S1x1.size (s33_inb s k))).squeeze S_ squeezes_S1x1_S_).sem
abbrev agS (s : Fin 3) (l : Fin 7) : DmaSem sig := (((cc0_scratch10 : DmaSems sig S3x7).slice (Rect.unit (s := S3x7) ![s.val, l.val] S1x1.size (s37_inb s l))).squeeze S_ squeezes_S1x1_S_).sem
abbrev agR (s : Fin 3) (l : Fin 7) : DmaSem sig := (((cc0_scratch11 : DmaSems sig S3x7).slice (Rect.unit (s := S3x7) ![s.val, l.val] S1x1.size (s37_inb s l))).squeeze S_ squeezes_S1x1_S_).sem

/-! ## Devices -/

/-- A partner's number as the kernel computes it. -/
def pdev (d0 : Dev nD) (b : BitVec 32) : Nat :=
  (Scalar.addi 0#32 (Scalar.muli (Scalar.xori (Scalar.remsi (Scalar.divsi (Dev.word d0) 1#32) 8#32) b) 1#32)).toNat
theorem pdev_lt : ∀ (d : Dev nD) (b : Fin 8), pdev d (BitVec.ofNat 32 b.val) < nD := by decide +kernel
def pd (d : Dev nD) (b : Fin 8) : Dev nD := ⟨pdev d (BitVec.ofNat 32 b.val), pdev_lt d b⟩

/-! ## The program -/

def seqL {α : Type} : List α → (α → P F PUnit) → P F PUnit
  | [], _ => pure ⟨⟩
  | a :: l, f => f a >>= fun _ => seqL l f

def ld {s : Shape} {e : EltTy} (m : Memref sig .tc .vmem s e) (r : Rect s) (h : 0 < r.shape.numel) : P F (Vec F r.shape e) :=
  Prog.lift (.load m r.toLoadRect (View.loadsAt_vmem h))

def issue (L : Fin 3) (t : Fin 8) (m : Fin 4) : P F PUnit := do
  Prog.lift (.enqueueDma (winV L t) (.here (wiV m)) (.dma (wiS m)) (View.wordExact_bits rfl) ((View.wordExact_bits rfl).reshape _ _) ⟨Or.inl rfl, trivial⟩)
  Prog.lift (.enqueueDma (woutV L t) (.here (woV m)) (.dma (woS m)) (View.wordExact_bits rfl) ((View.wordExact_bits rfl).reshape _ _) ⟨Or.inl rfl, trivial⟩)

/-- The tile's slot. -/
def sl4 (t : Fin 8) : Fin 4 := Fin.ofNat 4 t.val

def agSend (d : Dev nD) (s : Fin 3) (l : Fin 7) : P F PUnit :=
  Prog.lift (.enqueueDma (xfV s d (agJ s l)) (.remote (Dev.tc (pd d (agBit s (agStep l)))) (xfV s d (agJ s l)) (.dma (agS s l))) (.dma (agR s l))
    ((Memref.isWhole_whole cc0_scratch0).wordExact_slice rfl _ (pRect_words s d (agJ s l)))
    ((Memref.isWhole_whole cc0_scratch0).wordExact_slice rfl _ (pRect_words s d (agJ s l))) ⟨⟨rfl, Or.inl rfl⟩, trivial⟩)

def agWait (d : Dev nD) (s : Fin 3) (l : Fin 7) : P F PUnit := do
  Prog.lift (.waitDma2 (agS s l) (xfV s d (agJ s l)) (xfV s d (agJ s l))
    ((Memref.isWhole_whole cc0_scratch0).wordExact_slice rfl _ (pRect_words s d (agJ s l)))
    ((Memref.isWhole_whole cc0_scratch0).wordExact_slice rfl _ (pRect_words s d (agJ s l))))
  Prog.lift (.waitDma2 (agR s l) (xfV s d (agJ s l)) (xfV s d (agJ s l))
    ((Memref.isWhole_whole cc0_scratch0).wordExact_slice rfl _ (pRect_words s d (agJ s l)))
    ((Memref.isWhole_whole cc0_scratch0).wordExact_slice rfl _ (pRect_words s d (agJ s l))))

/-- The messages of a gather step, in program order. -/
def agL (k : Fin 3) : List (Fin 3 × Fin 7) := [0, 1, 2].flatMap fun s => (agSl k).map fun l => (s, l)

def ag (d : Dev nD) : P F PUnit :=
  seqL [0, 1, 2] fun k => do
    seqL (agL k) fun p => agSend d p.1 p.2
    seqL (agL k) fun p => agWait d p.1 p.2

abbrev fullR : Rect S512x2048 := Rect.unit (s := S512x2048) ![0, 0] S512x2048.size inb_S512x2048_S512x2048_0_0
abbrev rowR (d : Dev nD) : Rect S512x2048 := Rect.unit (s := S512x2048) (k0_off1 d) S64x2048.size (k0_off1_inb d)

/-- One tile's two products. -/
def tileV (x : Vec F S512x2048 .bf16) (wi : Vec F S1x2048x512 .f32) (wo : Vec F S1x512x2048 .f32) : FVec F S512x2048 .f32 := k0_pay3 x wi wo

def tileW (L : Fin 3) (t : Fin 8) (m : Fin 4) : P F PUnit := do
  Prog.lift (.waitDma2 (wiS m) (winV L t) (wiV m) (View.wordExact_bits rfl) ((View.wordExact_bits rfl).reshape _ _))
  Prog.lift (.waitDma2 (woS m) (woutV L t) (woV m) (View.wordExact_bits rfl) ((View.wordExact_bits rfl).reshape _ _))

def tileC (t : Fin 8) (m : Fin 4) : P F PUnit := do
  let x : Vec F S512x2048 .bf16 ← ld xfM fullR h_S512x2048
  let wi : Vec F S1x2048x512 .f32 ← ld wiM (wiR m) h_S1x2048x512
  let wo : Vec F S1x512x2048 .f32 ← ld woM (woR m) h_S1x512x2048
  match t.val with
  | 0 => do
    let _ : Vec F S512x2048 .f32 ← ld accM fullR h_S512x2048
    Prog.lift (.store accM fullR (k0_pay4 (tileV x wi wo)) Finset.univ (View.stores_vmem_bits_univ h_S512x2048 rfl) (.inl rfl))
  | _ + 1 => do
    let a : Vec F S512x2048 .f32 ← ld accM fullR h_S512x2048
    let _ : Vec F S512x2048 .f32 ← ld accM fullR h_S512x2048
    Prog.lift (.store accM fullR (k0_pay9 (tileV x wi wo) a) Finset.univ (View.stores_vmem_bits_univ h_S512x2048 rfl) (.inl rfl))

/-- The tile whose weights are copied after a tile is computed. -/
def nextT (L : Fin 3) (t : Fin 8) : List (Fin 3 × Fin 8) :=
  if t.val < 4 then [(L, Fin.ofNat 8 (t.val + 4))]
  else if L.val < 2 then [(Fin.ofNat 3 (L.val + 1), Fin.ofNat 8 (t.val + 4))] else []

def tile (L : Fin 3) (t : Fin 8) : P F PUnit := do
  tileW L t (sl4 t)
  tileC t (sl4 t)
  seqL (nextT L t) fun p => issue p.1 p.2 (sl4 t)

def sndPay (s : Fin 3) (v : Vec F (psh s) .f32) : FVec F (psh1 s) .bf16 :=
  match s with
  | 0 => k0_pay15 v
  | 1 => k0_pay47 v
  | 2 => k0_pay49 v

def accPay (s : Fin 3) (v : Vec F (psh s) .f32) (w : Vec F (psh1 s) .bf16) : FVec F (psh s) .f32 :=
  match s with
  | 0 => k0_pay30 v w
  | 1 => k0_pay34 v w
  | 2 => k0_pay41 v w

def rsStore (d : Dev nD) (s k : Fin 3) (p : Nat × Fin 8) : P F PUnit := do
  let v : Vec F (psh s) .f32 ← ld accM (pRect s d p.2) (psh_pos s)
  let _ : Vec F (psh1 s) .bf16 ← ld sndM (rRow s (rb k p.1)) (psh1_pos s)
  Prog.lift (.store sndM (rRow s (rb k p.1)) (sndPay s v) Finset.univ
    (View.stores_vmem (psh1_pos s) ((Memref.isWhole_whole cc0_scratch4).storeExact_slice rfl _ (rRow_packed s (rb k p.1))) (fun _ => rfl)) (.inl rfl))

def rsSendOp (d : Dev nD) (s k : Fin 3) : P F PUnit :=
  Prog.lift (.enqueueDma (sndV s k) (.remote (Dev.tc (pd d (rsBit s k))) (rcvV s k) (.dma (rsS s k))) (.dma (rsR s k))
    (((Memref.isWhole_whole cc0_scratch4).wordExact_slice rfl _ (rRect_words s k)).reshape _ _)
    (((Memref.isWhole_whole cc0_scratch5).wordExact_slice rfl _ (rRect_words s k)).reshape _ _) ⟨⟨rfl, Or.inl rfl⟩, trivial⟩)

def rsWait (s k : Fin 3) : P F PUnit := do
  Prog.lift (.waitDma2 (rsS s k) (rcvV s k) (sndV s k)
    (((Memref.isWhole_whole cc0_scratch5).wordExact_slice rfl _ (rRect_words s k)).reshape _ _)
    (((Memref.isWhole_whole cc0_scratch4).wordExact_slice rfl _ (rRect_words s k)).reshape _ _))
  Prog.lift (.waitDma2 (rsR s k) (sndV s k) (rcvV s k)
    (((Memref.isWhole_whole cc0_scratch4).wordExact_slice rfl _ (rRect_words s k)).reshape _ _)
    (((Memref.isWhole_whole cc0_scratch5).wordExact_slice rfl _ (rRect_words s k)).reshape _ _))

/-- The row class a received block is added to. -/
def xj (a b : Fin 8) : Fin 8 := Fin.ofNat 8 (a.val ^^^ b.val)

def rsAcc (d : Dev nD) (s k : Fin 3) (p : Nat × Fin 8) : P F PUnit := do
  let v : Vec F (psh s) .f32 ← ld accM (pRect s d (xj (rsBit s k) p.2)) (psh_pos s)
  let w : Vec F (psh1 s) .bf16 ← ld rcvM (rRow s (rb k p.1)) (psh1_pos s)
  let _ : Vec F (psh s) .f32 ← ld accM (pRect s d (xj (rsBit s k) p.2)) (psh_pos s)
  Prog.lift (.store accM (pRect s d (xj (rsBit s k) p.2)) (accPay s v w) Finset.univ (View.stores_vmem_bits_univ (psh_pos s) rfl) (.inl rfl))

/-- The blocks of a scatter step, numbered. -/
def rsB (s k : Fin 3) : List (Nat × Fin 8) := (List.range (rsSend s k).length).zip (rsSend s k)

def rs (d : Dev nD) : P F PUnit :=
  seqL [0, 1, 2] fun k => do
    seqL [0, 1, 2] fun s => do
      seqL (rsB s k) (rsStore d s k)
      rsSendOp d s k
    seqL [0, 1, 2] fun s => rsWait s k
    seqL [0, 1, 2] fun s => seqL (rsB s k) (rsAcc d s k)

def start (arg0 : Memref sig .tc .vmem S64x2048 .f32) (d : Dev nD) : P F PUnit := do
  semSignalWord (pd d 1) barS 1#32
  semSignalWord (pd d 3) barS 1#32
  semSignalWord (pd d 4) barS 1#32
  semWaitWord barS 3#32
  seqL [0, 1, 2, 3] fun t : Fin 8 => issue 0 t (sl4 t)
  let v : Vec F S64x2048 .f32 ← ld arg0 (Rect.unit (s := S64x2048) ![0, 0] S64x2048.size inb_S64x2048_S64x2048_0_0) h_S64x2048
  let _ : Vec F S64x2048 .bf16 ← ld xfM (rowR d) h_S64x2048
  Prog.lift (.store xfM (rowR d) (k0_pay2 v) Finset.univ (View.stores_vmem h_S64x2048 ((Memref.isWhole_whole cc0_scratch0).storeExact_slice rfl _ (k0_off1_packedbf16 d)) (fun _ => rfl)) (.inl rfl))

/-- The device's rows of the sum become its rows of the next activations. -/
def turn (d : Dev nD) : P F PUnit := do
  let v : Vec F S64x2048 .f32 ← ld accM (rowR d) h_S64x2048
  let _ : Vec F S64x2048 .bf16 ← ld xfM (rowR d) h_S64x2048
  Prog.lift (.store xfM (rowR d) (k0_pay194 v) Finset.univ (View.stores_vmem h_S64x2048 ((Memref.isWhole_whole cc0_scratch0).storeExact_slice rfl _ (k0_off1_packedbf16 d)) (fun _ => rfl)) (.inl rfl))

def fin (arg7 : Memref sig .tc .vmem S512x2048 .f32) : P F PUnit := do
  let x : Vec F S512x2048 .bf16 ← ld xfM fullR h_S512x2048
  let _ : Vec F S512x2048 .f32 ← ld arg7 fullR h_S512x2048
  Prog.lift (.store arg7 fullR (k0_pay1 x) Finset.univ (View.stores_vmem_bits_univ h_S512x2048 rfl) (.inl rfl))

def layer (d : Dev nD) (L : Fin 3) : P F PUnit := do
  seqL [0, 1, 2, 3, 4, 5, 6, 7] (tile L)
  rs d
  turn d
  ag d

def prog (arg0 : Memref sig .tc .vmem S64x2048 .f32) (arg7 : Memref sig .tc .vmem S512x2048 .f32) : P F PUnit := do
  let d ← Prog.lift .deviceId
  start arg0 d
  ag d
  seqL [0, 1, 2] (layer d)
  fin arg7

/-! ## The printed body is this one -/

universe v

/-- Two programs that request the same effect and go on alike are equal. -/
theorem step {E : Type → Type v} {α β : Type} {p q : Prog E α} {e e' : E β} {k k' : β → Prog E α}
    (hp : p = .op e k) (hq : q = .op e' k') (he : e = e') (h : ∀ x, k x = k' x) : p = q := by
  subst he; rw [hp, hq, funext h]

set_option maxRecDepth 200000 in
set_option maxHeartbeats 4000000 in
theorem body_eq (t : Fin cfg0.N) : bodyAt0 (F := F) t = prog (win0_0.stage (cfg0.slots t 0)) (win0_1.stage (cfg0.slots t 1)) := by
  repeat
    apply step
    · exact rfl
    · exact rfl
    · exact rfl
    intro x
  exact rfl

end Cert.KernelIdeal.Run

end
-- ==== Proof.Cells.lean ====
module

public import proofs.«01_k».proof.Proof.Prog
public import Idealize.ShloMosaic.Lib.Pipeline.Launch
public import Idealize.ShloMosaic.Lib.Pipeline.Kit
public import Idealize.ShloMosaic.Lib.Pipeline.BigSepL
public import Idealize.ShloMosaic.Lib.Pipeline.TalkSites
public import Idealize.ShloMosaic.Lib.Ring
public import Idealize.ShloMosaic.Lib.VecWindow
public import Idealize.ShloMosaic.Lib.Tactic

@[expose] public section

noncomputable section

/- The semaphores, the messages, the parts of the buffers the messages carry. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## Semaphores -/

/-- The semaphores of the kernel's own messages and copies. -/
inductive CK : Type
  | bar
  | ags (s : Fin 3) (l : Fin 7)
  | agr (s : Fin 3) (l : Fin 7)
  | rss (s k : Fin 3)
  | rsr (s k : Fin 3)
  | wi (m : Fin 4)
  | wo (m : Fin 4)
  deriving DecidableEq

def mS : List (Fin 3 × Fin 7) := [0, 1, 2].flatMap fun s => [0, 1, 2, 3, 4, 5, 6].map fun l => (s, l)
def mR : List (Fin 3 × Fin 3) := [0, 1, 2].flatMap fun s => [0, 1, 2].map fun k => (s, k)
def allCK : List CK :=
  [CK.bar] ++ mS.map (fun p => .ags p.1 p.2) ++ mS.map (fun p => .agr p.1 p.2) ++ mR.map (fun p => .rss p.1 p.2) ++ mR.map (fun p => .rsr p.1 p.2)
    ++ [0, 1, 2, 3].map CK.wi ++ [0, 1, 2, 3].map CK.wo
theorem mS_all : ∀ s l, (s, l) ∈ mS := by decide
theorem mR_all : ∀ s k, (s, k) ∈ mR := by decide
theorem allCK_all (k : CK) : k ∈ allCK := by
  have h4 : ∀ m : Fin 4, m ∈ ([0, 1, 2, 3] : List (Fin 4)) := by decide
  cases k <;> simp only [allCK, List.mem_append, List.mem_map, List.mem_singleton, Prod.exists, CK.ags.injEq, CK.agr.injEq, CK.rss.injEq, CK.rsr.injEq,
    CK.wi.injEq, CK.wo.injEq, reduceCtorEq, and_false, exists_false, or_false, false_or]
  · exact ⟨_, _, mS_all _ _, rfl, rfl⟩
  · exact ⟨_, _, mS_all _ _, rfl, rfl⟩
  · exact ⟨_, _, mR_all _ _, rfl, rfl⟩
  · exact ⟨_, _, mR_all _ _, rfl, rfl⟩
  · exact ⟨_, h4 _, rfl⟩
  · exact ⟨_, h4 _, rfl⟩
theorem allCK_nodup : allCK.Nodup := by decide +kernel
instance : Fintype CK := ⟨allCK.toFinset, fun k => List.mem_toFinset.mpr (allCK_all k)⟩

def csem : CK → SemLoc sig
  | .bar => .reg barS
  | .ags s l => .dma (agS s l)
  | .agr s l => .dma (agR s l)
  | .rss s k => .dma (rsS s k)
  | .rsr s k => .dma (rsR s k)
  | .wi m => .dma (wiS m)
  | .wo m => .dma (woS m)

theorem csem_inj : Function.Injective csem := by
  have h : ∀ a ∈ allCK, ∀ b ∈ allCK, csem a = csem b → a = b := by decide +kernel
  exact fun a b => h a (allCK_all a) b (allCK_all b)

def dec (x : SemLoc sig) : Option CK := Function.partialInv csem x
theorem dec_csem (k : CK) : dec (csem k) = some k := Function.partialInv_left csem_inj k

abbrev cell (c : Dev nD) (k : CK) : GSem nD τ sig := ((c : Thread nD τ), csem k)

theorem cell_inj : Function.Injective (fun p : Dev nD × CK => cell p.1 p.2) := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-! ## Devices -/

theorem pd_pd : ∀ (d : Dev nD) (b : Fin 8), pd (pd d b) b = d := by decide +kernel
def pe (b : Fin 8) : Dev nD ≃ Dev nD := ⟨fun d => pd d b, fun d => pd d b, fun d => pd_pd d b, fun d => pd_pd d b⟩

/-- The rows a class of device `d` names. -/
def xr (d : Dev nD) (j : Fin 8) : Fin 8 := Fin.ofNat 8 (d.val ^^^ j.val)
theorem xr_pd : ∀ (d : Dev nD) (b j : Fin 8), xr (pd d b) j = xr d (xj b j) := by decide +kernel
theorem xr_zero : ∀ d : Dev nD, (xr d 0).val = d.val := by decide

theorem pOff_eq : ∀ (s : Fin 3) (d : Dev nD) (j : Fin 8) (a : Fin 2),
    pOff s d (BitVec.ofNat 32 j.val) a = (![64 * (xr d j).val, pc s] : Fin 2 → Nat) a := by decide +kernel
theorem rowOff_eq : ∀ (d : Dev nD) (a : Fin 2), k0_off1 d a = (![64 * d.val, 0] : Fin 2 → Nat) a := by decide +kernel

/-! ## Parts of the buffers -/

/-- Schedule `s`'s columns of the rows `ρ`. -/
def pS (s : Fin 3) (ρ : Fin 8) : Finset S512x2048.Idx :=
  Finset.univ.filter fun i => (i 0).val / 64 = ρ.val ∧ pc s ≤ (i 1).val ∧ (i 1).val < pc s + pw s
/-- The rows `ρ`. -/
def rS (ρ : Fin 8) : Finset S512x2048.Idx := Finset.univ.filter fun i => (i 0).val / 64 = ρ.val
/-- A scatter step's part of an exchange buffer. -/
def eS (p : Fin 3 × Fin 3) : Finset S3x448x768.Idx :=
  Finset.univ.filter fun i => (i 0).val = p.1.val ∧ ro p.2 ≤ (i 1).val ∧ (i 1).val < ro p.2 + rn p.2 ∧ (i 2).val < pw p.1
def wiSet (m : Fin 4) : Finset S4x2048x512.Idx := Finset.univ.filter fun i => (i 0).val = m.val
def woSet (m : Fin 4) : Finset S4x512x2048.Idx := Finset.univ.filter fun i => (i 0).val = m.val
def winSet (t : Fin 8) : Finset S2048x4096.Idx := Finset.univ.filter fun i => (i 1).val / 512 = t.val
def woutSet (t : Fin 8) : Finset S4096x2048.Idx := Finset.univ.filter fun i => (i 0).val / 512 = t.val

theorem pRect_set (s : Fin 3) (d : Dev nD) (j : Fin 8) : (pRect s d j).set = pS s (xr d j) := by
  ext i
  rw [Rect.mem_set_unit, pS, Finset.mem_filter]
  have h0 := pOff_eq s d j 0; have h1 := pOff_eq s d j 1
  have e0 : (![64 * (xr d j).val, pc s] : Fin 2 → Nat) 0 = 64 * (xr d j).val := rfl
  have e1 : (![64 * (xr d j).val, pc s] : Fin 2 → Nat) 1 = pc s := rfl
  rw [e0] at h0; rw [e1] at h1
  constructor
  · intro h
    have a0 := h 0; have a1 := h 1
    rw [h0] at a0; rw [h1] at a1
    have s0 : (psh s).size 0 = 64 := rfl
    have s1 : (psh s).size 1 = pw s := rfl
    rw [s0] at a0; rw [s1] at a1
    exact ⟨Finset.mem_univ _, by omega, a1.1, a1.2⟩
  · rintro ⟨-, h, h2, h3⟩ a
    match a with
    | 0 => rw [h0]; show 64 * (xr d j).val ≤ (i 0).val ∧ (i 0).val < 64 * (xr d j).val + 64; omega
    | 1 => rw [h1]; exact ⟨h2, h3⟩

theorem rowR_set (d : Dev nD) : (rowR d).set = rS (xr d 0) := by
  ext i
  rw [Rect.mem_set_unit, rS, Finset.mem_filter, xr_zero]
  have h0 : k0_off1 d 0 = 64 * d.val := rowOff_eq d 0
  have h1 : k0_off1 d 1 = 0 := rowOff_eq d 1
  constructor
  · intro h
    have a0 := h 0
    rw [h0] at a0
    have s0 : S64x2048.size 0 = 64 := rfl
    rw [s0] at a0
    exact ⟨Finset.mem_univ _, by omega⟩
  · rintro ⟨-, h⟩ a
    match a with
    | 0 => rw [h0]; show 64 * d.val ≤ (i 0).val ∧ (i 0).val < 64 * d.val + 64; omega
    | 1 =>
      rw [h1]
      have := (i 1).isLt
      exact ⟨Nat.zero_le _, by show (i 1).val < 0 + 2048; have e : S512x2048.size 1 = 2048 := rfl; omega⟩

theorem rRect_set (s k : Fin 3) : (rRect s k).set = eS (s, k) := by
  ext i
  rw [Rect.mem_set_unit, eS, Finset.mem_filter]
  constructor
  · intro h
    have a0 := h 0; have a1 := h 1; have a2 := h 2
    change s.val ≤ (i 0).val ∧ (i 0).val < s.val + 1 at a0
    change ro k ≤ (i 1).val ∧ (i 1).val < ro k + rn k at a1
    change 0 ≤ (i 2).val ∧ (i 2).val < 0 + pw s at a2
    exact ⟨Finset.mem_univ _, by show (i 0).val = s.val; omega, a1.1, a1.2, by show (i 2).val < pw s; omega⟩
  · rintro ⟨-, h, h2, h3, h4⟩ a
    match a with
    | 0 => show s.val ≤ (i 0).val ∧ (i 0).val < s.val + 1; dsimp only at h; omega
    | 1 => exact ⟨h2, h3⟩
    | 2 => show 0 ≤ (i 2).val ∧ (i 2).val < 0 + pw s; dsimp only at h4; omega

theorem wiR_set (m : Fin 4) : (wiR m).set = wiSet m := by
  ext i
  rw [Rect.mem_set_unit, wiSet, Finset.mem_filter]
  constructor
  · intro h
    have a0 := h 0
    change m.val ≤ (i 0).val ∧ (i 0).val < m.val + 1 at a0
    exact ⟨Finset.mem_univ _, by omega⟩
  · rintro ⟨-, h⟩ a
    match a with
    | 0 => show m.val ≤ (i 0).val ∧ (i 0).val < m.val + 1; omega
    | 1 => exact ⟨Nat.zero_le _, by show (i 1).val < 0 + 2048; have := (i 1).isLt; have e : S4x2048x512.size 1 = 2048 := rfl; omega⟩
    | 2 => exact ⟨Nat.zero_le _, by show (i 2).val < 0 + 512; have := (i 2).isLt; have e : S4x2048x512.size 2 = 512 := rfl; omega⟩

theorem woR_set (m : Fin 4) : (woR m).set = woSet m := by
  ext i
  rw [Rect.mem_set_unit, woSet, Finset.mem_filter]
  constructor
  · intro h
    have a0 := h 0
    change m.val ≤ (i 0).val ∧ (i 0).val < m.val + 1 at a0
    exact ⟨Finset.mem_univ _, by omega⟩
  · rintro ⟨-, h⟩ a
    match a with
    | 0 => show m.val ≤ (i 0).val ∧ (i 0).val < m.val + 1; omega
    | 1 => exact ⟨Nat.zero_le _, by show (i 1).val < 0 + 512; have := (i 1).isLt; have e : S4x512x2048.size 1 = 512 := rfl; omega⟩
    | 2 => exact ⟨Nat.zero_le _, by show (i 2).val < 0 + 2048; have := (i 2).isLt; have e : S4x512x2048.size 2 = 2048 := rfl; omega⟩

theorem winR_set (t : Fin 8) : (winR t).set = winSet t := by
  ext i
  rw [Rect.mem_set_unit, winSet, Finset.mem_filter]
  constructor
  · intro h
    have a1 := h 1
    change 512 * t.val ≤ (i 1).val ∧ (i 1).val < 512 * t.val + 512 at a1
    exact ⟨Finset.mem_univ _, by omega⟩
  · rintro ⟨-, h⟩ a
    match a with
    | 0 => exact ⟨Nat.zero_le _, by show (i 0).val < 0 + 2048; have := (i 0).isLt; have e : S2048x4096.size 0 = 2048 := rfl; omega⟩
    | 1 => show 512 * t.val ≤ (i 1).val ∧ (i 1).val < 512 * t.val + 512; omega

theorem woutR_set (t : Fin 8) : (woutR t).set = woutSet t := by
  ext i
  rw [Rect.mem_set_unit, woutSet, Finset.mem_filter]
  constructor
  · intro h
    have a1 := h 0
    change 512 * t.val ≤ (i 0).val ∧ (i 0).val < 512 * t.val + 512 at a1
    exact ⟨Finset.mem_univ _, by omega⟩
  · rintro ⟨-, h⟩ a
    match a with
    | 0 => show 512 * t.val ≤ (i 0).val ∧ (i 0).val < 512 * t.val + 512; omega
    | 1 => exact ⟨Nat.zero_le _, by show (i 1).val < 0 + 2048; have := (i 1).isLt; have e : S4096x2048.size 1 = 2048 := rfl; omega⟩

theorem xfV_set (s : Fin 3) (d : Dev nD) (j : Fin 8) : (xfV s d j).view.set = pS s (xr d j) := by
  show ((View.whole cc0_scratch0).slice (pRect s d j)).set = _
  rw [View.set_slice_whole]; exact pRect_set s d j
theorem sndV_set (s k : Fin 3) : (sndV s k).view.set = eS (s, k) := by
  refine (View.set_reshape _ _).trans ?_
  show ((View.whole cc0_scratch4).slice (rRect s k)).set = _
  rw [View.set_slice_whole]; exact rRect_set s k
theorem rcvV_set (s k : Fin 3) : (rcvV s k).view.set = eS (s, k) := by
  refine (View.set_reshape _ _).trans ?_
  show ((View.whole cc0_scratch5).slice (rRect s k)).set = _
  rw [View.set_slice_whole]; exact rRect_set s k
theorem wiV_set (m : Fin 4) : (wiV m).view.set = wiSet m := by
  refine (View.set_reshape _ _).trans ?_
  show ((View.whole cc0_scratch2).slice (wiR m)).set = _
  rw [View.set_slice_whole]; exact wiR_set m
theorem woV_set (m : Fin 4) : (woV m).view.set = woSet m := by
  refine (View.set_reshape _ _).trans ?_
  show ((View.whole cc0_scratch3).slice (woR m)).set = _
  rw [View.set_slice_whole]; exact woR_set m

end Cert.KernelIdeal.Run

end
-- ==== Proof.Sched.lean ====
module

public import proofs.«01_k».proof.Proof.Cells

@[expose] public section

noncomputable section

/- What the buffers hold at each point, and what each semaphore's rounds hand over. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## Contents -/

abbrev XB (F : FTy → Type) [FloatOps F] : Type := (cc0_scratch0 : Ref sig .tc).ty.Contents (Elt F)
abbrev AB (F : FTy → Type) [FloatOps F] : Type := (cc0_scratch1 : Ref sig .tc).ty.Contents (Elt F)
abbrev EB (F : FTy → Type) [FloatOps F] : Type := (cc0_scratch4 : Ref sig .tc).ty.Contents (Elt F)

def wIn (c : Dev nD) (L : Fin 3) : Buf (Elt F) ((winM L).view.loc (c : Thread nD τ)) :=
  match L with
  | 0 => m ((c : Thread nD τ).loc main_arg1)
  | 1 => m ((c : Thread nD τ).loc main_arg2)
  | 2 => m ((c : Thread nD τ).loc main_arg3)
def wOut (c : Dev nD) (L : Fin 3) : Buf (Elt F) ((woutM L).view.loc (c : Thread nD τ)) :=
  match L with
  | 0 => m ((c : Thread nD τ).loc main_arg4)
  | 1 => m ((c : Thread nD τ).loc main_arg5)
  | 2 => m ((c : Thread nD τ).loc main_arg6)

/-- The input block of a device, as its window holds it. -/
def xstg (c : Dev nD) : (cc0_stg0_0 : Ref sig .tc).ty.Contents (Elt F) :=
  (win0_0.blk (0 : Fin 1)).view.read (Elt F) (m ((c : Thread nD τ).loc main_arg0))

/-- A slot holding a tile's weights. -/
def wiC (c : Dev nD) (L : Fin 3) (t : Fin 8) (q : Fin 4) : Buf (Elt F) ((wiV q).view.loc (c : Thread nD τ)) :=
  (wiV q).view.rep ((winV L t).view.read (Elt F) (wIn m c L))
def woC (c : Dev nD) (L : Fin 3) (t : Fin 8) (q : Fin 4) : Buf (Elt F) ((woV q).view.loc (c : Thread nD τ)) :=
  (woV q).view.rep ((woutV L t).view.read (Elt F) (wOut m c L))

/-- The sum after a tile. -/
def tileX (X : XB F) (c : Dev nD) (L : Fin 3) (a : AB F) (t : Fin 8) : AB F :=
  match t.val with
  | 0 => k0_pay4 (tileV X (wiM.view.readAt (Elt F) (wiR (sl4 t)).toLoadRect (wiC m c L t (sl4 t))) (woM.view.readAt (Elt F) (woR (sl4 t)).toLoadRect (woC m c L t (sl4 t))))
  | _ + 1 => k0_pay9 (tileV X (wiM.view.readAt (Elt F) (wiR (sl4 t)).toLoadRect (wiC m c L t (sl4 t))) (woM.view.readAt (Elt F) (woR (sl4 t)).toLoadRect (woC m c L t (sl4 t)))) a

def acc0 : AB F := fun _ => Classical.arbitrary _
def xf0 : XB F := fun _ => Classical.arbitrary _

def tilesX (X : XB F) (c : Dev nD) (L : Fin 3) : AB F :=
  ([0, 1, 2, 3, 4, 5, 6, 7] : List (Fin 8)).foldl (tileX m X c L) acc0

/-- The block a partner sends for its rows of class `j`, from its sum `v`. -/
def sent (v : AB F) (d : Dev nD) (s : Fin 3) (j : Fin 8) : FVec F (psh1 s) .bf16 :=
  sndPay s (accM.view.readAt (Elt F) (pRect s d j).toLoadRect v)

def accAt (d : Dev nD) (s k : Fin 3) (v f : AB F) (j : Fin 8) : AB F :=
  (accM.access (pRect s d (xj (rsBit s k) j))).write (Elt F) f
    (accPay s (accM.view.readAt (Elt F) (pRect s d (xj (rsBit s k) j)).toLoadRect f) (sent v (pd d (rsBit s k)) s j)) Finset.univ

/-- The sum after a scatter step, from every device's sum before it. -/
def accK (A : Dev nD → AB F) (k : Fin 3) (d : Dev nD) : AB F :=
  ([0, 1, 2] : List (Fin 3)).foldl (fun f s => (rsB s k).foldl (fun f p => accAt d s k (A (pd d (rsBit s k))) f p.2) f) (A d)

def accR (A : Dev nD → AB F) : ℕ → Dev nD → AB F
  | 0 => A
  | k + 1 => accK (accR A k) (Fin.ofNat 3 k)

def dv (i : S512x2048.Idx) : Dev nD := ⟨(i 0).val / 64, by have h := (i 0).isLt; have e : S512x2048.size 0 = 512 := rfl; show _ < 8; omega⟩

/-- The activations made of every device's rows. -/
def joinX (P : Dev nD → FVec F S64x2048 .bf16) : XB F := fun i => (xfM.access (rowR (dv i))).write (Elt F) xf0 (P (dv i)) Finset.univ i

/-- The activations after each gather. -/
def Xn : ℕ → XB F
  | 0 => joinX fun d => k0_pay2 (xstg m d)
  | n + 1 => joinX fun d => k0_pay194 (accM.view.readAt (Elt F) (rowR d).toLoadRect (accR (fun c => tilesX m (Xn n) c (Fin.ofNat 3 n)) 3 d))

/-- The sums of layer `n` before scatter step `k`. -/
def An (n k : ℕ) : Dev nD → AB F := accR (fun c => tilesX m (Xn m n) c (Fin.ofNat 3 n)) k

/-! ## Held parts -/

def xp (c : Dev nD) (s : Fin 3) (ρ : Fin 8) (f : XB F) : sProp 𝕄 := ((c : Thread nD τ).loc cc0_scratch0) ↦[pS s ρ]{fullShare} f
def sp (c : Dev nD) (p : Fin 3 × Fin 3) (f : EB F) : sProp 𝕄 := ((c : Thread nD τ).loc cc0_scratch4) ↦[eS p]{fullShare} f
def rp (c : Dev nD) (p : Fin 3 × Fin 3) (f : EB F) : sProp 𝕄 := ((c : Thread nD τ).loc cc0_scratch5) ↦[eS p]{fullShare} f
def wip (c : Dev nD) (q : Fin 4) (f : Buf (Elt F) ((c : Thread nD τ).loc cc0_scratch2)) : sProp 𝕄 := ((c : Thread nD τ).loc cc0_scratch2) ↦[wiSet q]{fullShare} f
def wop (c : Dev nD) (q : Fin 4) (f : Buf (Elt F) ((c : Thread nD τ).loc cc0_scratch3)) : sProp 𝕄 := ((c : Thread nD τ).loc cc0_scratch3) ↦[woSet q]{fullShare} f
def wsi (c : Dev nD) (L : Fin 3) (t : Fin 8) : sProp 𝕄 := (winV L t).view.loc (c : Thread nD τ) ↦[(winV L t).view.set]{fullShare} wIn m c L
def wso (c : Dev nD) (L : Fin 3) (t : Fin 8) : sProp 𝕄 := (woutV L t).view.loc (c : Thread nD τ) ↦[(woutV L t).view.set]{fullShare} wOut m c L

/-- The first slot of a gather step. -/
def isFst (l : Fin 7) : Bool := (![true, true, false, true, false, false, false] : Fin 7 → Bool) l
/-- The partners' bits, and the gather step of a schedule with the bit. -/
def bb (δ : Fin 3) : Fin 8 := (![1, 3, 4] : Fin 3 → Fin 8) δ
def kb (s δ : Fin 3) : Fin 3 := (![![2, 1, 0], ![0, 2, 1], ![1, 0, 2]] : Fin 3 → Fin 3 → Fin 3) s δ
theorem kb_bit : ∀ s δ, agBit s (kb s δ) = bb δ := by decide
theorem rs_rev : ∀ s k, agBit s k.rev = rsBit s k := by decide
theorem ag_rev : ∀ s k, rsBit s k.rev = agBit s k := by decide
theorem agSl_step : ∀ k, ∀ l ∈ agSl k, agStep l = k := by decide

/-- A device's parts that its partner's gather messages of one step fill: what lets the partner send them. -/
def xgr (q : Dev nD) (s k : Fin 3) : sProp 𝕄 := bigSepL (agSl k) fun l => iprop(∃ f : XB F, xp q s (xr (pd q (agBit s k)) (agJ s l)) f)
def barPay (c : Dev nD) (δ : Fin 3) : sProp 𝕄 := bigSepL [0, 1, 2] fun s => xgr (F := F) (pd c (bb δ)) s (kb s δ)

def agsPay (c : Dev nD) (s : Fin 3) (l : Fin 7) (n : ℕ) : sProp 𝕄 := xp c s (xr c (agJ s l)) (Xn m n)
def agExtra (p : Dev nD) (s : Fin 3) (l : Fin 7) (n : ℕ) : sProp 𝕄 :=
  if isFst l = true ∧ n < 3 then iprop((∃ f, rp (F := F) p (s, (agStep l).rev) f) ∗ reached ER (cell p (.rsr s (agStep l).rev)) n) else iprop(emp)
def agrPay (c : Dev nD) (s : Fin 3) (l : Fin 7) (n : ℕ) : sProp 𝕄 :=
  iprop(xp c s (xr (pd c (agBit s (agStep l))) (agJ s l)) (Xn m n) ∗ agExtra (F := F) (pd c (agBit s (agStep l))) s l n)
def rssPay (c : Dev nD) (s k : Fin 3) : sProp 𝕄 := iprop(∃ f, sp (F := F) c (s, k) f)
/-- The exchange buffer holds what the partner `q` sends of its sum `v`. -/
def Sent (v : AB F) (q : Dev nD) (s k : Fin 3) (M : Memref sig .tc .vmem S3x448x768 .bf16) (f : M.view.ty.Contents (Elt F)) : Prop :=
  ∀ p ∈ rsB s k, M.view.readAt (Elt F) (rRow s (rb k p.1)).toLoadRect f = sent v q s p.2
/-- A device's parts that the partner's gather messages of a step fill next, with the cells' rounds: what lets the partner send them. -/
def xgn (q : Dev nD) (s k : Fin 3) (n : ℕ) : sProp 𝕄 :=
  bigSepL (agSl k) fun l => iprop((∃ f : XB F, xp q s (xr (pd q (agBit s k)) (agJ s l)) f) ∗ reached ER (cell q (.agr s l)) n)
def rsrPay (c : Dev nD) (s k : Fin 3) (n : ℕ) : sProp 𝕄 :=
  iprop((∃ f : EB F, ⌜Sent (An m n k.val (pd c (rsBit s k))) (pd c (rsBit s k)) s k rcvM f⌝ ∗ rp c (s, k) f) ∗ xgn (F := F) (pd c (rsBit s k)) s k.rev (n + 1))
/-- The layer and tile of a slot's round. -/
def slL (r : ℕ) : Fin 3 := Fin.ofNat 3 (r / 2)
def slT (q : Fin 4) (r : ℕ) : Fin 8 := Fin.ofNat 8 (4 * (r % 2) + q.val)
def wiPay (c : Dev nD) (q : Fin 4) (r : ℕ) : sProp 𝕄 := iprop(wip c q (wiC m c (slL r) (slT q r) q) ∗ wsi m c (slL r) (slT q r))
def woPay (c : Dev nD) (q : Fin 4) (r : ℕ) : sProp 𝕄 := iprop(wop c q (woC m c (slL r) (slT q r) q) ∗ wso m c (slL r) (slT q r))

instance bigSepL_storable {I : Type} (l : List I) (Φ : I → sProp 𝕄) [∀ i, BI.Storable (upEmb : UEmb _ 𝕄) (Φ i)] : BI.Storable (upEmb : UEmb _ 𝕄) (bigSepL l Φ) := by
  induction l with
  | nil => show BI.Storable _ iprop(emp); infer_instance
  | cons i l ih => rw [bigSepL_cons']; infer_instance

/-! ## The schedule -/

/-- The rounds of a cell. -/
def nr : CK → ℕ
  | .bar => 1
  | .ags _ _ => 4
  | .agr _ _ => 4
  | .rss _ _ => 3
  | .rsr _ _ => 3
  | .wi _ => 6
  | .wo _ => 6
def amt : CK → ℕ
  | .bar => 1
  | .ags s _ => (xfV s 0 0).view.dmaCredit
  | .agr s _ => (xfV s 0 0).view.dmaCredit
  | .rss s k => (rcvV s k).view.dmaCredit
  | .rsr s k => (rcvV s k).view.dmaCredit
  | .wi q => (wiV q).view.dmaCredit
  | .wo q => (woV q).view.dmaCredit

theorem amt_pos (k : CK) : 0 < amt k := by
  cases k
  case bar => exact Nat.one_pos
  case ags s l => exact View.dmaCredit_pos _ (psh_pos s)
  case agr s l => exact View.dmaCredit_pos _ (psh_pos s)
  case rss s k => exact View.dmaCredit_pos _ (by revert s k; decide)
  case rsr s k => exact View.dmaCredit_pos _ (by revert s k; decide)
  case wi q => exact View.dmaCredit_pos _ (by decide)
  case wo q => exact View.dmaCredit_pos _ (by decide)

def dset : CK → Finset (Fin 3)
  | .bar => Finset.univ
  | _ => {0}

def pay (c : Dev nD) (r : ℕ) (δ : Fin 3) : CK → sProp 𝕄
  | .bar => barPay (F := F) c δ
  | .ags s l => agsPay m c s l r
  | .agr s l => agrPay m c s l r
  | .rss s k => rssPay (F := F) c s k
  | .rsr s k => rsrPay m c s k r
  | .wi q => wiPay m c q r
  | .wo q => woPay m c q r

instance pay_storable (c : Dev nD) (r : ℕ) (δ : Fin 3) (k : CK) : BI.Storable (upEmb : UEmb _ 𝕄) (pay m c r δ k) := by
  cases k
  · unfold pay barPay xgr xp; infer_instance
  · unfold pay agsPay xp; infer_instance
  · unfold pay agrPay agExtra xp rp; dsimp only; split <;> infer_instance
  · unfold pay rssPay sp; infer_instance
  · unfold pay rsrPay xgn xp rp; infer_instance
  · unfold pay wiPay wip wsi; infer_instance
  · unfold pay woPay wop wso; infer_instance

def Rd : Rounds.Schedule (GSem nD τ sig) (Fin 3) 𝕄 where
  duties g r := match dec g.2 with
    | some k => if r < nr k then dset k else ∅
    | none => ∅
  unitless _ := False
  amount g _ _ := match dec g.2 with
    | some k => amt k
    | none => 1
  payload g r δ := match dec g.2 with
    | some k => pay m g.1.1 r δ k
    | none => iprop(emp)
  amount_pos g _ _ _ := by
    split
    · exact amt_pos _
    · exact Nat.one_pos

instance Rd_storable (g : GSem nD τ sig) (r : ℕ) (δ : Fin 3) : BI.Storable (upEmb : UEmb _ 𝕄) ((Rd m).payload g r δ) := by
  dsimp only [Rd]
  split <;> infer_instance

theorem Rd_duties (c : Dev nD) (k : CK) (r : ℕ) (h : r < nr k) : (Rd m).duties (cell c k) r = dset k := by
  show (match dec (csem k) with | some k => if r < nr k then dset k else ∅ | none => ∅) = _
  rw [dec_csem]; exact if_pos h
theorem Rd_later (c : Dev nD) (k : CK) : ∀ r, nr k ≤ r → (Rd m).duties (cell c k) r = ∅ := fun r h => by
  show (match dec (csem k) with | some k => if r < nr k then dset k else ∅ | none => ∅) = _
  rw [dec_csem]; exact if_neg (Nat.not_lt.mpr h)
theorem Rd_amount (c : Dev nD) (k : CK) (r : ℕ) (δ : Fin 3) : (Rd m).amount (cell c k) r δ = amt k := by
  show (match dec (csem k) with | some k => amt k | none => 1) = _
  rw [dec_csem]
theorem Rd_payload (c : Dev nD) (k : CK) (r : ℕ) (δ : Fin 3) : (Rd m).payload (cell c k) r δ = pay m c r δ k := by
  show (match dec (csem k) with | some k => pay m c r δ k | none => iprop(emp)) = _
  rw [dec_csem]

theorem mem_duties (c : Dev nD) (k : CK) (r : ℕ) (h : r < nr k) : 0 ∈ (Rd m).duties (cell c k) r := by
  rw [Rd_duties m c k r h]; cases k <;> first | exact Finset.mem_univ _ | exact Finset.mem_singleton_self _

theorem Rd_expect (c : Dev nD) (k : CK) (r : ℕ) (h : r < nr k) (hk : dset k = {0}) : (Rd m).expect (cell c k) r = amt k := by
  unfold Schedule.expect Schedule.amountOf
  rw [Rd_duties m c k r h, hk, Finset.sum_singleton, Rd_amount]
theorem Rd_expect_bar (c : Dev nD) : (Rd m).expect (cell c .bar) 0 = 3 := by
  unfold Schedule.expect Schedule.amountOf
  rw [Rd_duties m c .bar 0 (by decide), Finset.sum_congr rfl fun δ _ => Rd_amount m c .bar 0 δ]
  rfl

theorem Rd_rest (c : Dev nD) (k : CK) (r : ℕ) (h : r < nr k) (hk : dset k = {0}) :
    bigSep ((Rd m).duties (cell c k) r \ ∅) (fun δ => (Rd m).payload (cell c k) r δ) = pay m c r 0 k := by
  rw [Finset.sdiff_empty, Rd_duties m c k r h, hk, bigSep_singleton, Rd_payload]
theorem Rd_rest_bar (c : Dev nD) :
    bigSep ((Rd m).duties (cell c .bar) 0 \ ∅) (fun δ => (Rd m).payload (cell c .bar) 0 δ) = bigSepL [0, 1, 2] fun δ => barPay (F := F) c δ := by
  rw [Finset.sdiff_empty, Rd_duties m c .bar 0 (by decide)]
  show bigSep Finset.univ _ = _
  rw [bigSep_univ_eq_bigSepL [0, 1, 2] (by decide) (by decide)]
  simp only [Rd_payload]; rfl

/-! ## Messages: what each device owes the others -/

inductive Msg : Type
  | bar (δ : Fin 3)
  | ag (n : Fin 4) (s : Fin 3) (l : Fin 7)
  | rs (n s k : Fin 3)
  deriving DecidableEq

namespace Msg
/-- The partner's bit, the cell, the round, the duty, the phase. -/
def bit : Msg → Fin 8
  | bar δ => bb δ
  | ag _ s l => agBit s (agStep l)
  | rs _ s k => rsBit s k
def ck : Msg → CK
  | bar _ => .bar
  | ag _ s l => .agr s l
  | rs _ s k => .rsr s k
def rnd : Msg → ℕ
  | bar _ => 0
  | ag n _ _ => n.val
  | rs n _ _ => n.val
def duty : Msg → Fin 3
  | bar δ => δ
  | _ => 0
/-- When the message is awaited. -/
def lvl : Msg → ℕ
  | bar _ => 1
  | ag n _ l => 2 + 6 * n.val + (agStep l).val
  | rs n _ k => 5 + 6 * n.val + k.val
/-- The payment to device `c`. -/
def at' (c : Dev nD) (μ : Msg) : Pay nD τ sig := (cell c μ.ck, μ.rnd, amt μ.ck)
/-- What device `d` pays with the message. -/
def from' (d : Dev nD) (μ : Msg) : Pay nD τ sig := at' (pd d μ.bit) μ
end Msg

def barMs : List Msg := [0, 1, 2].map Msg.bar
def agKs (n : Fin 4) (k : Fin 3) : List Msg := (agL k).map fun p => Msg.ag n p.1 p.2
def agMs (n : Fin 4) : List Msg := [0, 1, 2].flatMap (agKs n)
def rsKs (n k : Fin 3) : List Msg := [0, 1, 2].map fun s => Msg.rs n s k
def rsMs (n : Fin 3) : List Msg := [0, 1, 2].flatMap (rsKs n)
def allMs : List Msg := barMs ++ (agMs 0 ++ (rsMs 0 ++ (agMs 1 ++ (rsMs 1 ++ (agMs 2 ++ (rsMs 2 ++ agMs 3))))))

theorem allMs_nodup : allMs.Nodup := by decide +kernel
theorem allMs_all (μ : Msg) : μ ∈ allMs := by
  have h1 : ∀ δ, Msg.bar δ ∈ allMs := by decide +kernel
  have h2 : ∀ n s l, Msg.ag n s l ∈ allMs := by decide +kernel
  have h3 : ∀ n s k, Msg.rs n s k ∈ allMs := by decide +kernel
  cases μ
  · exact h1 _
  · exact h2 _ _ _
  · exact h3 _ _ _

/-- What device `d` owes with the messages of a list. -/
def owe (d : Dev nD) (l : List Msg) : CellTallies nD τ sig ℕ := tallyL (l.map (Msg.from' d))

theorem owe_cons (d : Dev nD) (μ : Msg) (l : List Msg) : owe d (μ :: l) = owe d l + tallyAt (cell (pd d μ.bit) μ.ck) μ.rnd (amt μ.ck) := by
  unfold owe; rw [List.map_cons, tallyL, add_comm]; rfl

/-! ## Levels -/

def L (g : GSem nD τ sig) : Finset ℕ := if g.1.2 = .tc then Finset.range 6 else ∅
def lv (g : GSem nD τ sig) (i : ℕ) : ℕ :=
  match dec g.2 with
  | some .bar => 1
  | some (.agr _ l) => 2 + 6 * i + (agStep l).val
  | some (.rsr _ k) => 5 + 6 * i + k.val
  | _ => 0

theorem L_of_ne (g : GSem nD τ sig) (h : g.1.2 ≠ .tc) : L g = ∅ := if_neg h
theorem L_tc (c : Dev nD) (sm : SemLoc sig) : L ((c : Thread nD τ), sm) = Finset.range 6 := if_pos rfl

def lvK (k : CK) (i : ℕ) : ℕ :=
  match k with
  | .bar => 1
  | .agr _ l => 2 + 6 * i + (agStep l).val
  | .rsr _ k => 5 + 6 * i + k.val
  | _ => 0
theorem lv_cell (c : Dev nD) (k : CK) (i : ℕ) : lv (cell c k) i = lvK k i := by
  unfold lv; dsimp only; rw [dec_csem]; cases k <;> rfl
theorem lv_msg (c : Dev nD) (μ : Msg) : lv (cell c μ.ck) μ.rnd = μ.lvl := by
  rw [lv_cell]; cases μ <;> rfl

theorem owe_pos {d : Dev nD} {l : List Msg} {g : GSem nD τ sig} {i : ℕ} (h : 0 < owe d l g i) : ∃ μ ∈ l, g = cell (pd d μ.bit) μ.ck ∧ i = μ.rnd := by
  obtain ⟨x, hx, h1, h2⟩ := TalkSites.tallyL_pos h
  obtain ⟨μ, hμ, rfl⟩ := List.mem_map.mp hx
  exact ⟨μ, hμ, h1, h2⟩

theorem rnd_lt (μ : Msg) : μ.rnd < 6 := by
  cases μ
  · exact (by decide : (0 : ℕ) < 6)
  · rename_i n _ _; have := n.isLt; show n.val < 6; omega
  · rename_i n _ _; have := n.isLt; show n.val < 6; omega
theorem lvl_pos (μ : Msg) : 0 < μ.lvl := by cases μ <;> simp only [Msg.lvl] <;> omega

omit [FloatOps F] in
/-- A device may wait at a semaphore below everything it still owes. -/
theorem mayWait (c : Dev nD) (sm : SemLoc sig) (i : ℕ) (hi : i < 6) (l : List Msg) (h : ∀ μ ∈ l, lv ((c : Thread nD τ), sm) i < μ.lvl) :
    (levAts L lv : sProp 𝕄) ⊢ MayWait (c : Thread nD τ) sm i (owe c l) :=
  MayOwe.of_cut (L := L) (lev := lv) (lv ((c : Thread nD τ), sm) i)
    (fun p hp => by rw [Finset.mem_singleton.mp hp, L_tc]; exact Finset.mem_range.mpr hi)
    (fun g u hg => by obtain ⟨μ, -, rfl, rfl⟩ := owe_pos hg; rw [L_tc]; exact Finset.mem_range.mpr (rnd_lt μ))
    (fun p hp => by rw [Finset.mem_singleton.mp hp])
    (fun g u hg => by obtain ⟨μ, hμ, rfl, rfl⟩ := owe_pos hg; rw [lv_msg]; exact h μ hμ)

end Cert.KernelIdeal.Run

end
-- ==== Proof.Steps.lean ====
module

public import proofs.«01_k».proof.Proof.Sched

@[expose] public section

noncomputable section

/- What a part of the program needs and gives, how parts are put together, and the single messages. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-! ## Lists of assertions -/

theorem bigSepL_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h1 : iprop((Φ i ∗ Ψ i) ∗ bigSepL l Φ ∗ bigSepL l Ψ) ⊢ iprop((Φ i ∗ bigSepL l Φ) ∗ Ψ i ∗ bigSepL l Ψ) := by
      iintro ⟨⟨H1, H2⟩, H3, H4⟩
      isplitl [H1 H3]
      · isplitl [H1] <;> iassumption
      · isplitl [H2] <;> iassumption
    have h2 : iprop((Φ i ∗ bigSepL l Φ) ∗ Ψ i ∗ bigSepL l Ψ) ⊢ iprop((Φ i ∗ Ψ i) ∗ bigSepL l Φ ∗ bigSepL l Ψ) := by
      iintro ⟨⟨H1, H3⟩, H2, H4⟩
      isplitl [H1 H2]
      · isplitl [H1] <;> iassumption
      · isplitl [H3] <;> iassumption
    exact h1.antisymm h2

theorem bigSepL_flatMap {I J : Type} (l : List I) (g : I → List J) (Φ : J → sProp 𝕄) : bigSepL (l.flatMap g) Φ = bigSepL l fun i => bigSepL (g i) Φ := by
  induction l with
  | nil => rfl
  | cons i l ih => rw [List.flatMap_cons, bigSepL_append, bigSepL_cons', ih]

theorem bigSepL_congr {I : Type} {l : List I} {Φ Ψ : I → sProp 𝕄} (h : ∀ i ∈ l, Φ i = Ψ i) : bigSepL l Φ = bigSepL l Ψ := by
  induction l with
  | nil => rfl
  | cons i l ih => rw [bigSepL_cons', bigSepL_cons', h i List.mem_cons_self, ih fun k hk => h k (List.mem_cons_of_mem _ hk)]

/-! ## The cells' invariants, the first rounds, the levels -/

def Recs : sProp 𝕄 :=
  iprop((bigSep Finset.univ fun p : Dev nD × CK => cellInv ER (Rd m) (K p) (cell p.1 p.2)) ∗ (bigSep Finset.univ fun p : Dev nD × CK => reached ER (cell p.1 p.2) 0)
    ∗ levAts L lv)
instance Recs_persistent : BI.Persistent (Recs m K) := by unfold Recs; infer_instance

theorem inv_of (c : Dev nD) (k : CK) : Recs m K ⊢ cellInv ER (Rd m) (K (c, k)) (cell c k) := by
  unfold Recs
  iintro ⟨H, -⟩
  iapply (show (bigSep Finset.univ fun p : Dev nD × CK => cellInv ER (Rd m) (K p) (cell p.1 p.2)) ⊢ cellInv ER (Rd m) (K (c, k)) (cell c k) from bigSep_elim (Finset.mem_univ (c, k)))
  iexact H
theorem reached_of (c : Dev nD) (k : CK) : Recs m K ⊢ reached ER (cell c k) 0 := by
  unfold Recs
  iintro ⟨-, H, -⟩
  iapply (show (bigSep Finset.univ fun p : Dev nD × CK => (reached ER (cell p.1 p.2) 0 : sProp 𝕄)) ⊢ reached ER (cell c k) 0 from bigSep_elim (Finset.mem_univ (c, k)))
  iexact H
theorem lev_of : Recs m K ⊢ levAts L lv := by
  unfold Recs
  iintro ⟨-, -, H⟩
  iexact H

/-! ## Specifications -/

/-- What the device owes, whatever it has waited at. -/
def ow (d : Dev nD) (l : List Msg) : sProp 𝕄 := iprop(∃ W, owes (d : Thread nD τ) (owe d l) W)

/-- From `A` the program `p`, run by device `c`, makes `B`. -/
def Spec (c : Dev nD) (p : P F PUnit) (A B : sProp 𝕄) : Prop :=
  ∀ Q : PUnit → sProp 𝕄, iprop(Recs m K ∗ A ∗ (B -∗ Q ⟨⟩)) ⊢ wp frame (wpE (defs₀ (F := F)) 𝒱₀ (c : Thread nD τ) none) Set.univ p Q

variable {m K}

namespace Spec
variable {c : Dev nD} {p q : P F PUnit} {A B C A' B' R : sProp (MT nD τ sig ℕ (Elt F) ℕ UU ℕ)}

theorem seq (h1 : Spec m K c p A B) (h2 : Spec m K c q B C) : Spec m K c (p >>= fun _ => q) A C := fun Q => by
  rw [wp_bind]
  iintro ⟨#HR, HA, HQ⟩
  iapply (h1 fun _ => wp frame (wpE (defs₀ (F := F)) 𝒱₀ (c : Thread nD τ) none) Set.univ q Q)
  isplitr; · iexact HR
  isplitl [HA]; · iexact HA
  iintro HB
  iapply (h2 Q)
  isplitr; · iexact HR
  isplitl [HB]; · iexact HB
  iexact HQ

theorem conseq (h : Spec m K c p A B) (hA : A' ⊢ A) (hB : B ⊢ B') : Spec m K c p A' B' := fun Q => by
  iintro ⟨#HR, HA, HQ⟩
  iapply (h Q)
  isplitr; · iexact HR
  isplitl [HA]; · iapply hA; iexact HA
  iintro HB
  iapply HQ
  iapply hB; iexact HB

theorem pre (h : Spec m K c p A B) (hA : A' ⊢ A) : Spec m K c p A' B := h.conseq hA .rfl
theorem post (h : Spec m K c p A B) (hB : B ⊢ B') : Spec m K c p A B' := h.conseq .rfl hB

theorem frame (h : Spec m K c p A B) (R : sProp 𝕄) : Spec m K c p iprop(A ∗ R) iprop(B ∗ R) := fun Q => by
  iintro ⟨#HR, ⟨HA, HF⟩, HQ⟩
  iapply (h Q)
  isplitr; · iexact HR
  isplitl [HA]; · iexact HA
  iintro HB
  iapply HQ
  isplitl [HB] <;> iassumption

theorem exists_ {ι : Type} {A : ι → sProp 𝕄} (h : ∀ i, Spec m K c p (A i) B) : Spec m K c p iprop(∃ i, A i) B := fun Q => by
  iintro ⟨#HR, ⟨%i, HA⟩, HQ⟩
  iapply (h i Q)
  isplitr; · iexact HR
  isplitl [HA]; · iexact HA
  iexact HQ

theorem skip : Spec m K c (pure ⟨⟩) A A := fun Q => by
  rw [Prog.pure_eq_ret, wp_ret]
  iintro ⟨-, HA, HQ⟩
  imodintro
  iapply HQ
  iexact HA

/-- A loop: each turn takes its own part of what is held, a common part going on. -/
theorem each {α : Type} (f : α → P F PUnit) (l : List α) (A B : α → sProp 𝕄) (St : List α → List α → sProp 𝕄)
    (h : ∀ done a rest, l = done ++ a :: rest → Spec m K c (f a) iprop(A a ∗ St done (a :: rest)) iprop(B a ∗ St (done ++ [a]) rest)) :
    Spec m K c (seqL l f) iprop(bigSepL l A ∗ St [] l) iprop(bigSepL l B ∗ St l []) := by
  suffices H : ∀ rest done, l = done ++ rest → Spec m K c (seqL rest f) iprop(bigSepL rest A ∗ St done rest) iprop(bigSepL rest B ∗ St l []) from H l [] rfl
  intro rest
  induction rest with
  | nil =>
    intro done hl
    rw [List.append_nil] at hl; subst hl
    exact skip (F := F)
  | cons a rest ih =>
    intro done hl
    have h1 := h done a rest hl
    have h2 := ih (done ++ [a]) (by rw [hl, List.append_assoc]; rfl)
    refine (seq (h1.frame (bigSepL rest A)) ((h2.frame (B a)).pre ?_)).conseq ?_ ?_
    · iintro ⟨⟨H1, H2⟩, H3⟩
      isplitr [H1]
      · isplitl [H3] <;> iassumption
      iexact H1
    · rw [bigSepL_cons']
      iintro ⟨⟨H1, H2⟩, H3⟩
      isplitr [H2]
      · isplitl [H1] <;> iassumption
      iexact H2
    · rw [bigSepL_cons']
      iintro ⟨⟨H1, H2⟩, H3⟩
      isplitr [H2]
      · isplitl [H3] <;> iassumption
      iexact H2

/-- The same with nothing in common but a constant part. -/
theorem each' {α : Type} (f : α → P F PUnit) (l : List α) (A B : α → sProp 𝕄) (St : sProp 𝕄)
    (h : ∀ a ∈ l, Spec m K c (f a) iprop(A a ∗ St) iprop(B a ∗ St)) :
    Spec m K c (seqL l f) iprop(bigSepL l A ∗ St) iprop(bigSepL l B ∗ St) :=
  each f l A B (fun _ _ => St) fun done a rest hl => h a (by rw [hl]; simp)

end Spec

/-! ## One wait, one local copy, one send -/

open TalkSites in
/-- A wait for a round of one of the device's own cells. -/
theorem wait_spec (c : Dev nD) (k : CK) (r : ℕ) (hr : r < nr k) (hk : dset k = {0}) (Rem : List Msg) (hlv : ∀ μ ∈ Rem, lvK k r < μ.lvl)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem k) (amt k) Kt) :
    Spec m K c (Prog.lift w) iprop((atPos ER (cell c k) r ∅ 0 ∗ cred (tallyAt (cell c k) r (amt k))) ∗ ow c Rem)
      iprop((atPos ER (cell c k) (r + 1) ∅ 0 ∗ reached ER (cell c k) (r + 1) ∗ pay m c r 0 k) ∗ ow c Rem) := fun Q => by
  unfold Prog.lift ow
  iintro ⟨#HR, ⟨⟨Hat, Hcr⟩, %W, HO⟩, HQ⟩
  iapply (Rounds.wp_wait_rest_token 𝒱₀ ER (Rd m) (c : Thread nD τ) none (κ := K (c, k)) hw (Set.mem_univ _) r (O := owe c Rem) (W := W) (R := r) (m := 0) (T := ∅)
      (by rw [Nat.zero_add, Rd_expect m c k r hr hk])) $$ [Hat Hcr HO]
  · isplitr; · iapply (inv_of m K c k); iexact HR
    isplitl [Hcr]; · iexact Hcr
    isplitl [HO]; · iexact HO
    isplitr
    · iapply (mayWait c (csem k) r (lt_of_lt_of_le hr (by cases k <;> (simp only [nr]; omega))) Rem (fun μ hμ => by rw [show lv ((c : Thread nD τ), csem k) r = lvK k r from lv_cell c k r]; exact hlv μ hμ))
      iapply (lev_of m K); iexact HR
    iexact Hat
  iintro ⟨HO, Hat, Hre, Hpay⟩
  rw [wp_ret]
  imodintro
  iapply HQ
  isplitr [HO]
  · isplitl [Hat]; · iexact Hat
    isplitl [Hre]; · iexact Hre
    iapply (Entails.of_eq (Rd_rest m c k r hr hk)); iexact Hpay
  iexists _; iexact HO

/-- The parts of a slot: its two buffers' copies of one round. -/
theorem wi_copied (c : Dev nD) (L : Fin 3) (t : Fin 8) (q : Fin 4) (fd : Buf (Elt F) ((c : Thread nD τ).loc cc0_scratch2)) :
    ((wiV q).view.loc (c : Thread nD τ) ↦[(wiV q).view.set]{fullShare} ((wiV q).view.write (Elt F) fd ((winV L t).view.read (Elt F) (wIn m c L)) Finset.univ) : sProp 𝕄)
      ⊢ wip c q (wiC m c L t q) := by
  unfold wip wiC
  refine (pointsTo_rep_of_read (c : Thread nD τ) (wiV q) _ fullShare _ (View.read_write_univ _ _)).trans (Entails.of_eq ?_)
  rw [wiV_set]
theorem wo_copied (c : Dev nD) (L : Fin 3) (t : Fin 8) (q : Fin 4) (fd : Buf (Elt F) ((c : Thread nD τ).loc cc0_scratch3)) :
    ((woV q).view.loc (c : Thread nD τ) ↦[(woV q).view.set]{fullShare} ((woV q).view.write (Elt F) fd ((woutV L t).view.read (Elt F) (wOut m c L)) Finset.univ) : sProp 𝕄)
      ⊢ wop c q (woC m c L t q) := by
  unfold wop woC
  refine (pointsTo_rep_of_read (c : Thread nD τ) (woV q) _ fullShare _ (View.read_write_univ _ _)).trans (Entails.of_eq ?_)
  rw [woV_set]

def srcs (m : (ℓ : Loc nD τ sig) → Buf (Elt F) ℓ) (c : Dev nD) (q : Fin 4) (r : ℕ) : sProp 𝕄 := iprop(wsi m c (slL r) (slT q r) ∗ wso m c (slL r) (slT q r))
def wtoks (c : Dev nD) (q : Fin 4) (r : ℕ) : sProp 𝕄 := iprop(dutyTok ER (cell c (.wi q)) r 0 ∗ dutyTok ER (cell c (.wo q)) r 0)
def wat (c : Dev nD) (q : Fin 4) (r : ℕ) : sProp 𝕄 :=
  iprop((atPos ER (cell c (.wi q)) r ∅ 0 ∗ reached ER (cell c (.wi q)) r) ∗ (atPos ER (cell c (.wo q)) r ∅ 0 ∗ reached ER (cell c (.wo q)) r))
def wbuf (c : Dev nD) (q : Fin 4) : sProp 𝕄 := iprop((∃ f, wip (F := F) c q f) ∗ (∃ f, wop (F := F) c q f))
def wcr (c : Dev nD) (q : Fin 4) (r : ℕ) : sProp 𝕄 := iprop(cred (tallyAt (cell c (.wi q)) r (amt (.wi q))) ∗ cred (tallyAt (cell c (.wo q)) r (amt (.wo q))))

/-- The two copies that start a slot's round. -/
theorem issue_spec (c : Dev nD) (L : Fin 3) (t : Fin 8) (q : Fin 4) (r : ℕ) (hr : r < 6) (hL : L = slL r) (ht : t = slT q r) :
    Spec m K c (issue L t q) iprop((wat (F := F) c q r ∗ wbuf c q) ∗ srcs m c q r ∗ wtoks c q r) iprop(wat c q r ∗ wcr c q r) := fun Q => by
  subst hL ht
  unfold issue wat wbuf srcs wtoks wcr
  simp only [Prog.lift, Prog.bind_op, Prog.bind_ret]
  iintro ⟨#HR, ⟨⟨⟨⟨Ha1, #Hr1⟩, Ha2, #Hr2⟩, ⟨%f1, H1⟩, %f2, H2⟩, ⟨Hs1, Hs2⟩, Ht1, Ht2⟩, HQ⟩
  unfold wsi wso
  ihave H1 := (Entails.of_eq (show wip c q f1 = ((wiV q).view.loc (c : Thread nD τ) ↦[(wiV q).view.set]{fullShare} f1 : sProp 𝕄) by unfold wip; rw [wiV_set])) $$ H1
  ihave H2 := (Entails.of_eq (show wop c q f2 = ((woV q).view.loc (c : Thread nD τ) ↦[(woV q).view.set]{fullShare} f2 : sProp 𝕄) by unfold wop; rw [woV_set])) $$ H2
  iapply (Rounds.wp_copy_pointsTo 𝒱₀ ER (Rd m) (c : Thread nD τ) none (src := winV (slL r) (slT q r)) (dst := wiV q) (sem := .dma (wiS q)) (κ := K (c, .wi q)) (r := r) (d := 0) (fd := f1) (fs := wIn m c (slL r)) (q := fullShare) (mem_duties m c (.wi q) r hr) r (amt (.wi q)) rfl
      (Rd_amount m c (.wi q) r 0) (by
        refine BIBase.Entails.trans ?_ (Entails.of_eq (Rd_payload m c (.wi q) r 0).symm)
        show _ ⊢ wiPay m c q r
        unfold wiPay wsi
        exact sep_mono_left (wi_copied c _ _ q _))) $$ [H1 Hs1 Ht1]
  · isplitr; · iapply (inv_of m K c (.wi q)); iexact HR
    isplitl [Hs1]; · iexact Hs1
    isplitl [H1]; · iexact H1
    isplitl [Ht1]; · iexact Ht1
    iexact Hr1
  iintro Hc1
  iapply (Rounds.wp_copy_pointsTo 𝒱₀ ER (Rd m) (c : Thread nD τ) none (src := woutV (slL r) (slT q r)) (dst := woV q) (sem := .dma (woS q)) (κ := K (c, .wo q)) (r := r) (d := 0) (fd := f2) (fs := wOut m c (slL r)) (q := fullShare) (mem_duties m c (.wo q) r hr) r (amt (.wo q)) rfl
      (Rd_amount m c (.wo q) r 0) (by
        refine BIBase.Entails.trans ?_ (Entails.of_eq (Rd_payload m c (.wo q) r 0).symm)
        show _ ⊢ woPay m c q r
        unfold woPay wso
        exact sep_mono_left (wo_copied c _ _ q _))) $$ [H2 Hs2 Ht2]
  · isplitr; · iapply (inv_of m K c (.wo q)); iexact HR
    isplitl [Hs2]; · iexact Hs2
    isplitl [H2]; · iexact H2
    isplitl [Ht2]; · iexact Ht2
    iexact Hr2
  iintro Hc2
  rw [wp_ret]
  imodintro
  iapply HQ
  isplitl [Ha1 Ha2]
  · isplitl [Ha1]
    · isplitl [Ha1]; · iexact Ha1
      iexact Hr1
    · isplitl [Ha2]; · iexact Ha2
      iexact Hr2
  isplitl [Hc1]; · iexact Hc1
  iexact Hc2

/-! ### Gather messages -/

def agAt (d : Dev nD) (n : ℕ) (s : Fin 3) (l : Fin 7) : sProp 𝕄 :=
  iprop((atPos ER (cell d (.ags s l)) n ∅ 0 ∗ reached ER (cell d (.ags s l)) n) ∗ (atPos ER (cell d (.agr s l)) n ∅ 0 ∗ reached ER (cell d (.agr s l)) n))
/-- The tokens a device pays one message with, the credit it waits for the partner's. -/
def agTok (d : Dev nD) (n : ℕ) (s : Fin 3) (l : Fin 7) : sProp 𝕄 :=
  iprop((dutyTok ER (cell d (.ags s l)) n 0 ∗ dutyTok ER (cell (pd d (agBit s (agStep l))) (.agr s l)) n 0) ∗ cred (tallyAt (cell d (.agr s l)) n (amt (.agr s l))))
/-- The partner's part a message fills. -/
def agGr (d : Dev nD) (n : ℕ) (s : Fin 3) (l : Fin 7) : sProp 𝕄 :=
  iprop((∃ f : XB F, xp (pd d (agBit s (agStep l))) s (xr d (agJ s l)) f) ∗ reached ER (cell (pd d (agBit s (agStep l))) (.agr s l)) n)

theorem xfV_read_write (c : Dev nD) (s : Fin 3) (d : Dev nD) (j : Fin 8) (fd fs : XB F) :
    ((c : Thread nD τ).loc cc0_scratch0 ↦[pS s (xr d j)]{fullShare} ((xfV s d j).view.write (Elt F) fd ((xfV s d j).view.read (Elt F) fs) Finset.univ) : sProp 𝕄)
      = xp c s (xr d j) fs := by
  unfold xp
  refine pointsTo_congr fun i hi => ?_
  rw [View.write_read_eq_piecewise, Finset.piecewise_eq_of_mem]
  rw [View.setOn_univ, xfV_set]; exact hi

theorem agSend_spec (d : Dev nD) (n : Fin 4) (s : Fin 3) (l : Fin 7) (Rem : List Msg) :
    Spec m K d (agSend d s l)
      iprop((agAt (F := F) d n.val s l ∗ agTok d n.val s l ∗ agGr d n.val s l ∗ xp d s (xr d (agJ s l)) (Xn m n.val) ∗ agExtra d s l n.val) ∗ ow d (Msg.ag n s l :: Rem))
      iprop((agAt d n.val s l ∗ cred (tallyAt (cell d (.ags s l)) n.val (amt (.ags s l))) ∗ cred (tallyAt (cell d (.agr s l)) n.val (amt (.agr s l)))) ∗ ow d Rem) := fun Q => by
  unfold agSend agAt agTok agGr ow Prog.lift
  iintro ⟨#HR, ⟨⟨⟨⟨Ha1, #Hr1⟩, Ha2, #Hr2⟩, ⟨⟨Ht1, Ht2⟩, Hcr⟩, ⟨⟨%f, Hd⟩, #Hrp⟩, Hx, He⟩, %W, HO⟩, HQ⟩
  iapply (Rounds.wp_send_pointsTo_with 𝒱₀ ER (Rd m) (d : Thread nD τ) none (c' := Dev.tc (pd d (agBit s (agStep l)))) (src := xfV s d (agJ s l)) (dst := xfV s d (agJ s l)) (sS := .dma (agS s l)) (sem := .dma (agR s l)) (κ₁ := K (d, .ags s l)) (κ₂ := K (pd d (agBit s (agStep l)), .agr s l))
      (r₁ := n.val) (r₂ := n.val) (d₁ := 0) (d₂ := 0) (fs := Xn m n.val) (fd := f) (q := fullShare) (F := agExtra (F := F) d s l n.val)
      (mem_duties m d (.ags s l) n.val n.isLt) (mem_duties m (pd d (agBit s (agStep l))) (.agr s l) n.val n.isLt)
      n.val n.val (amt (.ags s l)) rfl (Rd_amount m d (.ags s l) n.val 0) (Rd_amount m (pd d (agBit s (agStep l))) (.agr s l) n.val 0)
      (O₀ := owe d (Msg.ag n s l :: Rem)) (owe d Rem) (owe_cons d (Msg.ag n s l) Rem) (W := W)
      (by
        refine BIBase.Entails.trans (Entails.of_eq ?_) (Entails.of_eq (Rd_payload m d (.ags s l) n.val 0).symm)
        rw [xfV_set]; rfl)
      (by
        refine BIBase.Entails.trans ?_ (Entails.of_eq (Rd_payload m (pd d (agBit s (agStep l))) (.agr s l) n.val 0).symm)
        show _ ⊢ agrPay m (pd d (agBit s (agStep l))) s l n.val
        unfold agrPay
        rw [pd_pd, xfV_set]
        exact sep_mono_left (Entails.of_eq (xfV_read_write _ s d (agJ s l) _ _)))) $$ [Hx Hd He HO Ht1 Ht2]
  · isplitr; · iapply (inv_of m K d (.ags s l)); iexact HR
    isplitr; · iapply (inv_of m K (pd d (agBit s (agStep l))) (.agr s l)); iexact HR
    isplitl [Hx]; · rw [xfV_set]; unfold xp; iexact Hx
    isplitl [Hd He]
    · isplitl [Hd]; · rw [xfV_set]; unfold xp; iexact Hd
      iexact He
    isplitl [HO]; · iexact HO
    isplitl [Ht1]; · iexact Ht1
    isplitr; · iexact Hr1
    isplitl [Ht2]; · iexact Ht2
    iexact Hrp
  iintro ⟨Hcs, HO⟩
  rw [wp_ret]
  imodintro
  iapply HQ
  isplitr [HO]
  · isplitl [Ha1 Ha2]
    · isplitl [Ha1]
      · isplitl [Ha1]; · iexact Ha1
        iexact Hr1
      · isplitl [Ha2]; · iexact Ha2
        iexact Hr2
    isplitl [Hcs]; · iexact Hcs
    iexact Hcr
  iexists W; iexact HO

theorem agWait_spec (d : Dev nD) (n : Fin 4) (s : Fin 3) (l : Fin 7) (Rem : List Msg) (h : ∀ μ ∈ Rem, 2 + 6 * n.val + (agStep l).val < μ.lvl) :
    Spec m K d (agWait d s l)
      iprop((agAt (F := F) d n.val s l ∗ cred (tallyAt (cell d (.ags s l)) n.val (amt (.ags s l))) ∗ cred (tallyAt (cell d (.agr s l)) n.val (amt (.agr s l)))) ∗ ow d Rem)
      iprop((agAt d (n.val + 1) s l ∗ xp d s (xr d (agJ s l)) (Xn m n.val) ∗ xp d s (xr (pd d (agBit s (agStep l))) (agJ s l)) (Xn m n.val)
        ∗ agExtra (pd d (agBit s (agStep l))) s l n.val) ∗ ow d Rem) := by
  unfold agWait
  refine Spec.seq
    (((wait_spec (m := m) (K := K) d (.ags s l) n.val n.isLt rfl Rem (fun μ hμ => lvl_pos μ) _ (fun Kt => rfl)).frame
        iprop(atPos ER (cell d (.agr s l)) n.val ∅ 0 ∗ cred (tallyAt (cell d (.agr s l)) n.val (amt (.agr s l))))).pre ?_)
    (((wait_spec (m := m) (K := K) d (.agr s l) n.val n.isLt rfl Rem h _ (fun Kt => rfl)).frame
        iprop(atPos ER (cell d (.ags s l)) (n.val + 1) ∅ 0 ∗ reached ER (cell d (.ags s l)) (n.val + 1) ∗ pay m d n.val 0 (.ags s l))).conseq ?_ ?_)
  · unfold agAt
    iintro ⟨⟨⟨⟨H1, -⟩, H2, -⟩, H3, H4⟩, H5⟩
    isplitl [H1 H3 H5]
    · isplitr [H5]
      · isplitl [H1]; · iexact H1
        iexact H3
      iexact H5
    isplitl [H2]; · iexact H2
    iexact H4
  · iintro ⟨⟨H1, H2⟩, H3, H4⟩
    isplitr [H1]
    · isplitr [H2]
      · isplitl [H3]; · iexact H3
        iexact H4
      iexact H2
    iexact H1
  · unfold agAt pay agsPay agrPay
    iintro ⟨⟨⟨H1, H2, H3, H4⟩, H5⟩, H6, H7, H8⟩
    isplitr [H5]
    · isplitl [H1 H2 H6 H7]
      · isplitl [H6 H7]
        · isplitl [H6]; · iexact H6
          iexact H7
        isplitl [H1]; · iexact H1
        iexact H2
      isplitl [H8]; · iexact H8
      isplitl [H3]; · iexact H3
      iexact H4
    iexact H5

/-! ### Scatter messages -/

def rsAt (d : Dev nD) (n : ℕ) (s k : Fin 3) : sProp 𝕄 :=
  iprop((atPos ER (cell d (.rss s k)) n ∅ 0 ∗ reached ER (cell d (.rss s k)) n) ∗ (atPos ER (cell d (.rsr s k)) n ∅ 0 ∗ reached ER (cell d (.rsr s k)) n))
def rsTok (d : Dev nD) (n : ℕ) (s k : Fin 3) : sProp 𝕄 :=
  iprop((dutyTok ER (cell d (.rss s k)) n 0 ∗ dutyTok ER (cell (pd d (rsBit s k)) (.rsr s k)) n 0) ∗ cred (tallyAt (cell d (.rsr s k)) n (amt (.rsr s k))))
def rsGr (d : Dev nD) (n : ℕ) (s k : Fin 3) : sProp 𝕄 :=
  iprop((∃ f : EB F, rp (pd d (rsBit s k)) (s, k) f) ∗ reached ER (cell (pd d (rsBit s k)) (.rsr s k)) n)

theorem rowE : ∀ s k, ∀ p ∈ rsB s k, ro k ≤ 64 * (rb k p.1).val ∧ 64 * (rb k p.1).val + 64 ≤ ro k + rn k := by decide

/-- A row block of a step lies in the step's part. -/
theorem rRow_sub (s k : Fin 3) (p : ℕ × Fin 8) (hp : p ∈ rsB s k) : (rRow s (rb k p.1)).set ⊆ eS (s, k) := fun i hi => by
  rw [Rect.mem_set_unit] at hi
  have h := rowE s k p hp
  have a0 := hi 0; have a1 := hi 1; have a2 := hi 2
  change s.val ≤ (i 0).val ∧ (i 0).val < s.val + 1 at a0
  change 64 * (rb k p.1).val ≤ (i 1).val ∧ (i 1).val < 64 * (rb k p.1).val + 64 at a1
  change 0 ≤ (i 2).val ∧ (i 2).val < 0 + pw s at a2
  rw [eS, Finset.mem_filter]
  exact ⟨Finset.mem_univ _, by show (i 0).val = s.val; omega, by show ro k ≤ _; omega, by show _ < ro k + rn k; omega, by show _ < pw s; omega⟩

/-- What arrives in the partner's buffer is what was in the sender's. -/
theorem rcv_write (s k : Fin 3) (fd fs : EB F) (i : S3x448x768.Idx) (hi : i ∈ eS (s, k)) :
    (rcvV s k).view.write (Elt F) fd ((sndV s k).view.read (Elt F) fs) Finset.univ i = fs i := by
  have h1 : i ∈ (rcvV s k).view.setOn Finset.univ := by rw [View.setOn_univ, rcvV_set]; exact hi
  obtain ⟨x, -, rfl⟩ := Finset.mem_map.mp h1
  rw [View.write_emb_of_mem _ _ (Finset.mem_univ x)]
  rfl

theorem Sent_rcv (v : AB F) (q : Dev nD) (s k : Fin 3) (fd fs : EB F) (h : Sent v q s k sndM fs) :
    Sent v q s k rcvM ((rcvV s k).view.write (Elt F) fd ((sndV s k).view.read (Elt F) fs) Finset.univ) := fun p hp => by
  refine (View.readAt_congr (v := rcvM.view) (r := (rRow s (rb k p.1)).toLoadRect) (g := fs) fun i hi => ?_).trans (h p hp)
  obtain ⟨x, hx, rfl⟩ := Finset.mem_map.mp hi
  exact rcv_write s k fd fs _ (rRow_sub s k p hp hx)

theorem rsSend_spec (d : Dev nD) (n s k : Fin 3) (Rem : List Msg) :
    Spec m K d (rsSendOp d s k)
      iprop((rsAt (F := F) d n.val s k ∗ rsTok d n.val s k ∗ rsGr d n.val s k ∗ (∃ f : EB F, ⌜Sent (An m n.val k.val d) d s k sndM f⌝ ∗ sp d (s, k) f) ∗ xgn d s k.rev (n.val + 1))
        ∗ ow d (Msg.rs n s k :: Rem))
      iprop((rsAt d n.val s k ∗ cred (tallyAt (cell d (.rss s k)) n.val (amt (.rss s k))) ∗ cred (tallyAt (cell d (.rsr s k)) n.val (amt (.rsr s k)))) ∗ ow d Rem) := fun Q => by
  unfold rsSendOp rsAt rsTok rsGr ow Prog.lift
  iintro ⟨#HR, ⟨⟨⟨⟨Ha1, #Hr1⟩, Ha2, #Hr2⟩, ⟨⟨Ht1, Ht2⟩, Hcr⟩, ⟨⟨%f, Hd⟩, #Hrp⟩, ⟨%g, %hg, Hx⟩, He⟩, %W, HO⟩, HQ⟩
  iapply (Rounds.wp_send_pointsTo_with 𝒱₀ ER (Rd m) (d : Thread nD τ) none (c' := Dev.tc (pd d (rsBit s k))) (src := sndV s k) (dst := rcvV s k)
      (sS := .dma (rsS s k)) (sem := .dma (rsR s k)) (κ₁ := K (d, .rss s k)) (κ₂ := K (pd d (rsBit s k), .rsr s k))
      (r₁ := n.val) (r₂ := n.val) (d₁ := 0) (d₂ := 0) (fs := g) (fd := f) (q := fullShare) (F := xgn (F := F) d s k.rev (n.val + 1))
      (mem_duties m d (.rss s k) n.val n.isLt) (mem_duties m (pd d (rsBit s k)) (.rsr s k) n.val n.isLt)
      n.val n.val (amt (.rss s k)) rfl (Rd_amount m d (.rss s k) n.val 0) (Rd_amount m (pd d (rsBit s k)) (.rsr s k) n.val 0)
      (O₀ := owe d (Msg.rs n s k :: Rem)) (owe d Rem) (owe_cons d (Msg.rs n s k) Rem) (W := W)
      (by
        refine BIBase.Entails.trans ?_ (Entails.of_eq (Rd_payload m d (.rss s k) n.val 0).symm)
        show _ ⊢ rssPay d s k
        unfold rssPay sp
        rw [sndV_set]
        iintro H
        iexists g; iexact H)
      (by
        refine BIBase.Entails.trans ?_ (Entails.of_eq (Rd_payload m (pd d (rsBit s k)) (.rsr s k) n.val 0).symm)
        show _ ⊢ rsrPay m (pd d (rsBit s k)) s k n.val
        unfold rsrPay rp
        rw [pd_pd, rcvV_set]
        refine sep_mono_left ?_
        iintro H
        iexists _
        isplitr
        · ipureintro; exact Sent_rcv _ d s k f g hg
        iexact H)) $$ [Hx Hd He HO Ht1 Ht2]
  · isplitr; · iapply (inv_of m K d (.rss s k)); iexact HR
    isplitr; · iapply (inv_of m K (pd d (rsBit s k)) (.rsr s k)); iexact HR
    isplitl [Hx]; · rw [sndV_set]; unfold sp; iexact Hx
    isplitl [Hd He]
    · isplitl [Hd]; · rw [rcvV_set]; unfold rp; iexact Hd
      iexact He
    isplitl [HO]; · iexact HO
    isplitl [Ht1]; · iexact Ht1
    isplitr; · iexact Hr1
    isplitl [Ht2]; · iexact Ht2
    iexact Hrp
  iintro ⟨Hcs, HO⟩
  rw [wp_ret]
  imodintro
  iapply HQ
  isplitr [HO]
  · isplitl [Ha1 Ha2]
    · isplitl [Ha1]
      · isplitl [Ha1]; · iexact Ha1
        iexact Hr1
      · isplitl [Ha2]; · iexact Ha2
        iexact Hr2
    isplitl [Hcs]; · iexact Hcs
    iexact Hcr
  iexists W; iexact HO

theorem rsWait_spec (d : Dev nD) (n s k : Fin 3) (Rem : List Msg) (h : ∀ μ ∈ Rem, 5 + 6 * n.val + k.val < μ.lvl) :
    Spec m K d (rsWait s k)
      iprop((rsAt (F := F) d n.val s k ∗ cred (tallyAt (cell d (.rss s k)) n.val (amt (.rss s k))) ∗ cred (tallyAt (cell d (.rsr s k)) n.val (amt (.rsr s k)))) ∗ ow d Rem)
      iprop((rsAt d (n.val + 1) s k ∗ rssPay d s k ∗ rsrPay m d s k n.val) ∗ ow d Rem) := by
  unfold rsWait
  refine Spec.seq
    (((wait_spec (m := m) (K := K) d (.rss s k) n.val n.isLt rfl Rem (fun μ hμ => lvl_pos μ) _ (fun Kt => rfl)).frame
        iprop(atPos ER (cell d (.rsr s k)) n.val ∅ 0 ∗ cred (tallyAt (cell d (.rsr s k)) n.val (amt (.rsr s k))))).pre ?_)
    (((wait_spec (m := m) (K := K) d (.rsr s k) n.val n.isLt rfl Rem h _ (fun Kt => rfl)).frame
        iprop(atPos ER (cell d (.rss s k)) (n.val + 1) ∅ 0 ∗ reached ER (cell d (.rss s k)) (n.val + 1) ∗ pay m d n.val 0 (.rss s k))).conseq ?_ ?_)
  · unfold rsAt
    iintro ⟨⟨⟨⟨H1, -⟩, H2, -⟩, H3, H4⟩, H5⟩
    isplitl [H1 H3 H5]
    · isplitr [H5]
      · isplitl [H1]; · iexact H1
        iexact H3
      iexact H5
    isplitl [H2]; · iexact H2
    iexact H4
  · iintro ⟨⟨H1, H2⟩, H3, H4⟩
    isplitr [H1]
    · isplitr [H2]
      · isplitl [H3]; · iexact H3
        iexact H4
      iexact H2
    iexact H1
  · unfold rsAt pay
    iintro ⟨⟨⟨H1, H2, H3⟩, H5⟩, H6, H7, H8⟩
    isplitr [H5]
    · isplitl [H1 H2 H6 H7]
      · isplitl [H6 H7]
        · isplitl [H6]; · iexact H6
          iexact H7
        isplitl [H1]; · iexact H1
        iexact H2
      isplitl [H8]; · iexact H8
      iexact H3
    iexact H5

end Cert.KernelIdeal.Run

end
-- ==== Proof.Gather.lean ====
module

public import proofs.«01_k».proof.Proof.Steps

@[expose] public section

noncomputable section

/- A gather: three steps of messages, after which the device holds every part. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-! ## Loops -/

namespace Spec
variable {c : Dev nD} {A B C D : sProp (MT nD τ sig ℕ (Elt F) ℕ UU ℕ)}

theorem loop3 {f : Fin 3 → P F PUnit} (h0 : Spec m K c (f 0) A B) (h1 : Spec m K c (f 1) B C) (h2 : Spec m K c (f 2) C D) :
    Spec m K c (seqL [0, 1, 2] f) A D :=
  seq h0 (seq h1 (seq h2 skip))

theorem bigSepL_emp {I : Type} (l : List I) : bigSepL l (fun _ => (iprop(emp) : sProp 𝕄)) = iprop(emp) := by
  induction l with
  | nil => rfl
  | cons i l ih => rw [bigSepL_cons', ih]; exact equiv_iff.mp emp_sep

/-- A loop over a common part only. -/
theorem eachS {α : Type} (f : α → P F PUnit) (l : List α) (St : List α → sProp 𝕄)
    (h : ∀ done a rest, l = done ++ a :: rest → Spec m K c (f a) (St done) (St (done ++ [a]))) :
    Spec m K c (seqL l f) (St []) (St l) := by
  refine (each f l (fun _ => iprop(emp)) (fun _ => iprop(emp)) (fun done _ => St done) fun done a rest hl => (h done a rest hl).conseq ?_ ?_).conseq ?_ ?_
  · iintro ⟨-, H⟩; iexact H
  · iintro H; isplitr; · iempintro
    iexact H
  · rw [bigSepL_emp]
    iintro H; isplitr; · iempintro
    iexact H
  · iintro ⟨-, H⟩; iexact H

end Spec

/-! ## A gather -/

/-- What a message of a gather needs beside the part it carries, and what it leaves. -/
def gIn (d : Dev nD) (n : ℕ) (p : Fin 3 × Fin 7) : sProp 𝕄 := iprop(agAt d n p.1 p.2 ∗ agTok d n p.1 p.2 ∗ agGr d n p.1 p.2 ∗ agExtra d p.1 p.2 n)
def gOut (d : Dev nD) (n : ℕ) (p : Fin 3 × Fin 7) : sProp 𝕄 := iprop(agAt d (n + 1) p.1 p.2 ∗ agExtra (pd d (agBit p.1 (agStep p.2))) p.1 p.2 n)

/-- The parts of the classes `js s`, at the contents `X`. -/
def parts (d : Dev nD) (js : Fin 3 → List (Fin 8)) (X : XB F) : sProp 𝕄 := bigSepL [0, 1, 2] fun s => bigSepL (js s) fun j => xp d s (xr d j) X
theorem parts_append (d : Dev nD) (js js' : Fin 3 → List (Fin 8)) (X : XB F) : parts d (fun s => js s ++ js' s) X = iprop(parts d js X ∗ parts d js' X) := by
  unfold parts
  rw [← bigSepL_sep]
  exact bigSepL_congr fun s _ => bigSepL_append _ _ _

/-- The classes a step sends, and those it receives. -/
def outC (k s : Fin 3) : List (Fin 8) := (agSl k).map (agJ s)
def inC (k s : Fin 3) : List (Fin 8) := (agSl k).map fun l => xj (agBit s k) (agJ s l)
def own : Fin 3 → List (Fin 8) := fun _ => [0]
def all8 (s : Fin 3) : List (Fin 8) := outC 2 s ++ inC 2 s
theorem outC0 : outC 0 = own := by unfold outC own; decide
theorem outC1 : outC 1 = fun s => outC 0 s ++ inC 0 s := by unfold outC inC; decide
theorem outC2 : outC 2 = fun s => outC 1 s ++ inC 1 s := by unfold outC inC; decide

theorem all8_parts (d : Dev nD) (X : XB F) : parts d all8 X = iprop(((parts d own X ∗ parts d (inC 0) X) ∗ parts d (inC 1) X) ∗ parts d (inC 2) X) := by
  show parts d (fun s => outC 2 s ++ inC 2 s) X = _
  rw [parts_append, outC2, parts_append, outC1, parts_append, outC0]

theorem out_eq (d : Dev nD) (k : Fin 3) (X : XB F) : (bigSepL (agL k) fun p => xp d p.1 (xr d (agJ p.1 p.2)) X) = parts d (outC k) X := by
  unfold agL parts outC
  rw [bigSepL_flatMap]
  refine bigSepL_congr fun s _ => ?_
  rw [bigSepL_map, bigSepL_map]
theorem in_eq (d : Dev nD) (k : Fin 3) (X : XB F) : (bigSepL (agL k) fun p => xp d p.1 (xr (pd d (agBit p.1 (agStep p.2))) (agJ p.1 p.2)) X) = parts d (inC k) X := by
  unfold agL parts inC
  rw [bigSepL_flatMap]
  refine bigSepL_congr fun s _ => ?_
  rw [bigSepL_map, bigSepL_map]
  refine bigSepL_congr fun l hl => ?_
  dsimp only
  rw [agSl_step k l hl, xr_pd]

theorem agL_step : ∀ k, ∀ p ∈ agL k, agStep p.2 = k := by decide
theorem agKs_lvl (n : Fin 4) (k : Fin 3) (μ : Msg) (h : μ ∈ agKs n k) : μ.lvl = 2 + 6 * n.val + k.val := by
  obtain ⟨p, hp, rfl⟩ := List.mem_map.mp h
  show 2 + 6 * n.val + (agStep p.2).val = _
  rw [agL_step k p hp]

theorem agStep_spec (d : Dev nD) (n : Fin 4) (k : Fin 3) (Rem : List Msg) (h : ∀ μ ∈ Rem, 2 + 6 * n.val + k.val < μ.lvl) :
    Spec m K d (seqL (agL k) (fun p => agSend d p.1 p.2) >>= fun _ => seqL (agL k) fun p => agWait d p.1 p.2)
      iprop((bigSepL (agL k) (gIn (F := F) d n.val) ∗ parts d (outC k) (Xn m n.val)) ∗ ow d (agKs n k ++ Rem))
      iprop((bigSepL (agL k) (gOut d n.val) ∗ parts d (outC k) (Xn m n.val) ∗ parts d (inC k) (Xn m n.val)) ∗ ow d Rem) := by
  have h1 := Spec.each (m := m) (K := K) (c := d) (fun p : Fin 3 × Fin 7 => agSend d p.1 p.2) (agL k)
    (fun p => iprop(agAt (F := F) d n.val p.1 p.2 ∗ agTok d n.val p.1 p.2 ∗ agGr d n.val p.1 p.2 ∗ xp d p.1 (xr d (agJ p.1 p.2)) (Xn m n.val) ∗ agExtra d p.1 p.2 n.val))
    (fun p => iprop(agAt d n.val p.1 p.2 ∗ cred (tallyAt (cell d (.ags p.1 p.2)) n.val (amt (.ags p.1 p.2))) ∗ cred (tallyAt (cell d (.agr p.1 p.2)) n.val (amt (.agr p.1 p.2)))))
    (fun _ rest => ow d (rest.map (fun p => Msg.ag n p.1 p.2) ++ Rem)) (fun done p rest hl => agSend_spec d n p.1 p.2 _)
  have h2 := Spec.each' (m := m) (K := K) (c := d) (fun p : Fin 3 × Fin 7 => agWait d p.1 p.2) (agL k)
    (fun p => iprop(agAt (F := F) d n.val p.1 p.2 ∗ cred (tallyAt (cell d (.ags p.1 p.2)) n.val (amt (.ags p.1 p.2))) ∗ cred (tallyAt (cell d (.agr p.1 p.2)) n.val (amt (.agr p.1 p.2)))))
    (fun p => iprop(agAt d (n.val + 1) p.1 p.2 ∗ xp d p.1 (xr d (agJ p.1 p.2)) (Xn m n.val) ∗ xp d p.1 (xr (pd d (agBit p.1 (agStep p.2))) (agJ p.1 p.2)) (Xn m n.val)
        ∗ agExtra (pd d (agBit p.1 (agStep p.2))) p.1 p.2 n.val)) (ow d Rem)
    (fun p hp => agWait_spec d n p.1 p.2 Rem (by rw [agL_step k p hp]; exact h))
  refine (h1.seq h2).conseq ?_ ?_
  · unfold gIn agKs
    rw [← out_eq]
    simp only [bigSepL_sep]
    iintro ⟨⟨⟨H1, H2, H3, H4⟩, H5⟩, H6⟩
    isplitr [H6]
    · isplitl [H1]; · iexact H1
      isplitl [H2]; · iexact H2
      isplitl [H3]; · iexact H3
      isplitl [H5]; · iexact H5
      iexact H4
    iexact H6
  · unfold gOut
    rw [← out_eq, ← in_eq]
    simp only [bigSepL_sep]
    iintro ⟨⟨H1, H2, H3, H4⟩, H6⟩
    isplitr [H6]
    · isplitl [H1 H4]
      · isplitl [H1]; · iexact H1
        iexact H4
      isplitl [H2]; · iexact H2
      iexact H3
    iexact H6

def gIns (d : Dev nD) (n : ℕ) : sProp 𝕄 := iprop(bigSepL (agL 0) (gIn d n) ∗ bigSepL (agL 1) (gIn d n) ∗ bigSepL (agL 2) (gIn d n))
def gOuts (d : Dev nD) (n : ℕ) : sProp 𝕄 := iprop(bigSepL (agL 0) (gOut d n) ∗ bigSepL (agL 1) (gOut d n) ∗ bigSepL (agL 2) (gOut d n))

theorem ag_spec (d : Dev nD) (n : Fin 4) (Rem : List Msg) (h : ∀ μ ∈ Rem, 4 + 6 * n.val < μ.lvl) :
    Spec m K d (ag d) iprop((gIns (F := F) d n.val ∗ parts d own (Xn m n.val)) ∗ ow d (agMs n ++ Rem)) iprop((gOuts d n.val ∗ parts d all8 (Xn m n.val)) ∗ ow d Rem) := by
  have s0 := agStep_spec (m := m) (K := K) d n 0 (agKs n 1 ++ (agKs n 2 ++ Rem)) (fun μ hμ => by
    rcases List.mem_append.mp hμ with h1 | hμ
    · rw [agKs_lvl n 1 μ h1]; exact Nat.add_lt_add_left (by decide) _
    rcases List.mem_append.mp hμ with h1 | hμ
    · rw [agKs_lvl n 2 μ h1]; exact Nat.add_lt_add_left (by decide) _
    · have := h μ hμ; show 2 + 6 * n.val + 0 < _; omega)
  have s1 := agStep_spec (m := m) (K := K) d n 1 (agKs n 2 ++ Rem) (fun μ hμ => by
    rcases List.mem_append.mp hμ with h1 | hμ
    · rw [agKs_lvl n 2 μ h1]; exact Nat.add_lt_add_left (by decide) _
    · have := h μ hμ; show 2 + 6 * n.val + 1 < _; omega)
  have s2 := agStep_spec (m := m) (K := K) d n 2 Rem (fun μ hμ => by have := h μ hμ; show 2 + 6 * n.val + 2 < _; omega)
  unfold ag
  refine Spec.loop3 (B := iprop(((bigSepL (agL 0) (gOut d n.val) ∗ parts d (outC 1) (Xn m n.val)) ∗ ow d (agKs n 1 ++ (agKs n 2 ++ Rem))) ∗ bigSepL (agL 1) (gIn d n.val) ∗ bigSepL (agL 2) (gIn d n.val)))
    (C := iprop(((bigSepL (agL 1) (gOut d n.val) ∗ parts d (outC 2) (Xn m n.val)) ∗ ow d (agKs n 2 ++ Rem)) ∗ bigSepL (agL 0) (gOut d n.val) ∗ bigSepL (agL 2) (gIn d n.val)))
    ((s0.frame iprop(bigSepL (agL 1) (gIn d n.val) ∗ bigSepL (agL 2) (gIn d n.val))).conseq ?_ ?_)
    ((s1.frame iprop(bigSepL (agL 0) (gOut d n.val) ∗ bigSepL (agL 2) (gIn d n.val))).conseq ?_ ?_)
    ((s2.frame iprop(bigSepL (agL 0) (gOut d n.val) ∗ bigSepL (agL 1) (gOut d n.val))).conseq ?_ ?_)
  · unfold gIns
    rw [outC0, show agMs n = agKs n 0 ++ (agKs n 1 ++ (agKs n 2 ++ [])) from rfl]
    simp only [List.append_assoc, List.nil_append, List.append_nil]
    iintro ⟨⟨⟨H1, H2, H3⟩, H4⟩, H5⟩
    isplitl [H1 H4 H5]
    · isplitl [H1 H4]
      · isplitl [H1] <;> iassumption
      iexact H5
    isplitl [H2] <;> iassumption
  · rw [outC1, parts_append]
  · iintro ⟨⟨⟨H1, H2⟩, H3⟩, H4, H5⟩
    isplitl [H2 H3 H4]
    · isplitl [H2 H4]
      · isplitl [H4] <;> iassumption
      iexact H3
    isplitl [H1] <;> iassumption
  · rw [outC2, parts_append]
  · iintro ⟨⟨⟨H1, H2⟩, H3⟩, H4, H5⟩
    isplitl [H2 H3 H5]
    · isplitl [H2 H5]
      · isplitl [H5] <;> iassumption
      iexact H3
    isplitl [H4] <;> iassumption
  · unfold gOuts
    rw [show parts d all8 (Xn m n.val) = _ from parts_append d (outC 2) (inC 2) (Xn m n.val)]
    iintro ⟨⟨⟨H1, H2⟩, H3⟩, H4, H5⟩
    isplitr [H3]
    · isplitr [H2]
      · isplitl [H4]; · iexact H4
        isplitl [H5] <;> iassumption
      iexact H2
    iexact H3

end Cert.KernelIdeal.Run

end
-- ==== Proof.Scatter.lean ====
module

public import proofs.«01_k».proof.Proof.Gather
public import Idealize.ShloMosaic.Lib.ViewIndex

@[expose] public section

noncomputable section

/- A scatter: three steps, in each of which every device sends half of the rows it still sums and adds what arrives. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-- The whole sum of a device. -/
def accW (d : Dev nD) (a : AB F) : sProp 𝕄 := ((d : Thread nD τ).loc cc0_scratch1) ↦[Finset.univ]{fullShare} a

theorem rows_ne : ∀ s k, (rsB s k).Pairwise fun p q => rb k p.1 ≠ rb k q.1 := by decide

theorem rRow_disjoint (s k : Fin 3) (p q : ℕ × Fin 8) (h : rb k p.1 ≠ rb k q.1) : Disjoint (rRow s (rb k p.1)).set (rRow s (rb k q.1)).set := by
  rw [Finset.disjoint_left]
  intro i hi hj
  rw [Rect.mem_set_unit] at hi hj
  have a := hi 1; have b := hj 1
  change 64 * (rb k p.1).val ≤ (i 1).val ∧ (i 1).val < 64 * (rb k p.1).val + 64 at a
  change 64 * (rb k q.1).val ≤ (i 1).val ∧ (i 1).val < 64 * (rb k q.1).val + 64 at b
  exact h (Fin.ext (by omega))

theorem snd_sub (s k : Fin 3) (p : ℕ × Fin 8) (hp : p ∈ rsB s k) : sndM.view.setOn (rRow s (rb k p.1)).toLoadRect.set ⊆ eS (s, k) := fun i hi => by
  obtain ⟨x, hx, rfl⟩ := Finset.mem_map.mp hi
  exact rRow_sub s k p hp hx
theorem rcv_sub (s k : Fin 3) (p : ℕ × Fin 8) (hp : p ∈ rsB s k) : rcvM.view.setOn (rRow s (rb k p.1)).toLoadRect.set ⊆ eS (s, k) := fun i hi => by
  obtain ⟨x, hx, rfl⟩ := Finset.mem_map.mp hi
  exact rRow_sub s k p hp hx
theorem snd_sub' (s k : Fin 3) (p : ℕ × Fin 8) (hp : p ∈ rsB s k) : (sndM.access (rRow s (rb k p.1))).setOn Finset.univ ⊆ eS (s, k) := fun i hi => by
  rw [View.setOn_univ, View.set_slice] at hi
  exact snd_sub s k p hp hi

/-- The blocks of a step written so far are there. -/
def Stored (a : AB F) (d : Dev nD) (s k : Fin 3) (f : EB F) (done : List (ℕ × Fin 8)) : Prop :=
  ∀ p ∈ done, sndM.view.readAt (Elt F) (rRow s (rb k p.1)).toLoadRect f = sent a d s p.2

theorem Stored_write (a : AB F) (d : Dev nD) (s k : Fin 3) (f : EB F) (done : List (ℕ × Fin 8)) (p : ℕ × Fin 8)
    (hne : ∀ q ∈ done, rb k q.1 ≠ rb k p.1) (h : Stored a d s k f done) :
    Stored a d s k ((sndM.access (rRow s (rb k p.1))).write (Elt F) f (sent a d s p.2) Finset.univ) (done ++ [p]) := fun q hq => by
  rcases List.mem_append.mp hq with hq | hq
  · refine Eq.trans ?_ (h q hq)
    refine View.read_slice_write_slice_of_disjoint (v := sndM.view) (rRow s (rb k q.1)) (rRow s (rb k p.1)) f _ Finset.univ ?_
    rw [View.setOn_univ]
    exact View.disjoint_slice (v := sndM.view) (rRow_disjoint s k q p (hne q hq))
  · obtain rfl := List.mem_singleton.mp hq
    exact View.read_write_univ (v := sndM.access (rRow s (rb k q.1))) f (sent a d s q.2)

theorem store_spec (d : Dev nD) (s k : Fin 3) (a : AB F) :
    Spec m K d (seqL (rsB s k) (rsStore d s k)) iprop((∃ f : EB F, sp d (s, k) f) ∗ accW d a) iprop((∃ f : EB F, ⌜Sent a d s k sndM f⌝ ∗ sp d (s, k) f) ∗ accW d a) := by
  refine (Spec.eachS (rsStore d s k) (rsB s k) (fun done => iprop((∃ f : EB F, ⌜Stored a d s k f done⌝ ∗ sp d (s, k) f) ∗ accW d a)) ?_).pre ?_
  · intro done p rest hl Q
    have hp : p ∈ rsB s k := by rw [hl]; simp
    have hne : ∀ q ∈ done, rb k q.1 ≠ rb k p.1 := fun q hq => by
      have h := rows_ne s k
      rw [hl, List.pairwise_append] at h
      exact h.2.2 q hq p (List.mem_cons_self)
    unfold rsStore ld sp accW Prog.lift
    simp only [Prog.bind_op, Prog.bind_ret]
    iintro ⟨#HR, ⟨⟨%f, %hf, Hs⟩, Ha⟩, HQ⟩
    iapply (wp_load 𝒱₀ (d : Thread nD τ) none Set.univ (m := accM) (S := Finset.univ) (Finset.subset_univ _)) $$ [Ha]
    · iexact Ha
    iintro Ha
    iapply (wp_load 𝒱₀ (d : Thread nD τ) none Set.univ (m := sndM) (S := eS (s, k)) (snd_sub s k p hp)) $$ [Hs]
    · iexact Hs
    iintro Hs
    iapply (wp_store 𝒱₀ (d : Thread nD τ) none Set.univ (m := sndM) (r := rRow s (rb k p.1)) (Mk := Finset.univ) (S := eS (s, k)) (snd_sub' s k p hp)) $$ [Hs]
    · iexact Hs
    iintro Hs
    rw [wp_ret]
    imodintro
    iapply HQ
    isplitl [Hs]
    · iexists _
      isplitr
      · ipureintro
        exact Stored_write a d s k f done p hne hf
      iexact Hs
    iexact Ha
  · iintro ⟨⟨%f, Hs⟩, Ha⟩
    isplitl [Hs]
    · iexists f
      isplitr
      · ipureintro; exact fun p hp => absurd hp List.not_mem_nil
      iexact Hs
    iexact Ha

/-- What has arrived for a step. -/
def Arr (d : Dev nD) (s k : Fin 3) (v : AB F) : sProp 𝕄 := iprop(∃ g : EB F, ⌜Sent v (pd d (rsBit s k)) s k rcvM g⌝ ∗ rp d (s, k) g)

theorem acc_spec (d : Dev nD) (s k : Fin 3) (v f : AB F) :
    Spec m K d (seqL (rsB s k) (rsAcc d s k)) iprop(accW d f ∗ Arr d s k v) iprop(accW d ((rsB s k).foldl (fun f p => accAt d s k v f p.2) f) ∗ Arr d s k v) := by
  have H := Spec.eachS (m := m) (K := K) (c := d) (rsAcc d s k) (rsB s k) (fun done => iprop(accW d (done.foldl (fun f p => accAt d s k v f p.2) f) ∗ Arr d s k v))
  rw [List.foldl_nil] at H
  refine H fun done p rest hl Q => ?_
  have hp : p ∈ rsB s k := by rw [hl]; simp
  rw [List.foldl_append, List.foldl_cons, List.foldl_nil]
  generalize done.foldl (fun f p => accAt d s k v f p.2) f = f
  unfold rsAcc ld Arr rp accW Prog.lift
  simp only [Prog.bind_op, Prog.bind_ret]
  iintro ⟨#HR, ⟨Ha, %g, %hg, Hs⟩, HQ⟩
  iapply (wp_load 𝒱₀ (d : Thread nD τ) none Set.univ (m := accM) (S := Finset.univ) (Finset.subset_univ _)) $$ [Ha]
  · iexact Ha
  iintro Ha
  iapply (wp_load 𝒱₀ (d : Thread nD τ) none Set.univ (m := rcvM) (S := eS (s, k)) (rcv_sub s k p hp)) $$ [Hs]
  · iexact Hs
  iintro Hs
  iapply (wp_load 𝒱₀ (d : Thread nD τ) none Set.univ (m := accM) (S := Finset.univ) (Finset.subset_univ _)) $$ [Ha]
  · iexact Ha
  iintro Ha
  iapply (wp_store 𝒱₀ (d : Thread nD τ) none Set.univ (m := accM) (r := pRect s d (xj (rsBit s k) p.2)) (Mk := Finset.univ) (S := Finset.univ) (Finset.subset_univ _)) $$ [Ha]
  · iexact Ha
  iintro Ha
  rw [wp_ret]
  imodintro
  iapply HQ
  isplitl [Ha]
  · unfold accAt
    rw [← hg p hp]
    iexact Ha
  iexists g
  isplitr; · ipureintro; exact hg
  iexact Hs

/-! ## A scatter -/

def rIn (d : Dev nD) (n : ℕ) (k s : Fin 3) : sProp 𝕄 :=
  iprop(rsAt d n s k ∗ rsTok d n s k ∗ rsGr d n s k ∗ (∃ f : EB F, sp d (s, k) f) ∗ xgn d s k.rev (n + 1))
def rOut (d : Dev nD) (n : ℕ) (k s : Fin 3) : sProp 𝕄 :=
  iprop(rsAt d (n + 1) s k ∗ (∃ f : EB F, sp d (s, k) f) ∗ (∃ f : EB F, rp d (s, k) f) ∗ xgn (pd d (rsBit s k)) s k.rev (n + 1))

theorem rsKs_lvl (n k : Fin 3) (μ : Msg) (h : μ ∈ rsKs n k) : μ.lvl = 5 + 6 * n.val + k.val := by
  obtain ⟨s, -, rfl⟩ := List.mem_map.mp h
  rfl

theorem An_succ (n : ℕ) (k : Fin 3) : An m n (k.val + 1) = accK (An m n k.val) k := by
  have e : Fin.ofNat 3 k.val = k := Fin.ext (Nat.mod_eq_of_lt k.isLt)
  unfold An
  rw [accR, e]

theorem rsStep_spec (d : Dev nD) (n k : Fin 3) (Rem : List Msg) (h : ∀ μ ∈ Rem, 5 + 6 * n.val + k.val < μ.lvl) :
    Spec m K d ((seqL [0, 1, 2] fun s : Fin 3 => seqL (rsB s k) (rsStore d s k) >>= fun _ => rsSendOp d s k) >>= fun _ =>
        (seqL [0, 1, 2] fun s : Fin 3 => rsWait s k) >>= fun _ => seqL [0, 1, 2] fun s : Fin 3 => seqL (rsB s k) (rsAcc d s k))
      iprop((bigSepL [0, 1, 2] (rIn (F := F) d n.val k) ∗ accW d (An m n.val k.val d)) ∗ ow d (rsKs n k ++ Rem))
      iprop((bigSepL [0, 1, 2] (rOut d n.val k) ∗ accW d (An m n.val (k.val + 1) d)) ∗ ow d Rem) := by
  have h1 := Spec.each (m := m) (K := K) (c := d) (fun s : Fin 3 => seqL (rsB s k) (rsStore d s k) >>= fun _ => rsSendOp d s k) [0, 1, 2]
    (rIn (F := F) d n.val k)
    (fun s => iprop(rsAt d n.val s k ∗ cred (tallyAt (cell d (.rss s k)) n.val (amt (.rss s k))) ∗ cred (tallyAt (cell d (.rsr s k)) n.val (amt (.rsr s k)))))
    (fun _ rest => iprop(accW d (An m n.val k.val d) ∗ ow d (rest.map (fun s => Msg.rs n s k) ++ Rem))) (fun done s rest hl => by
      refine Spec.seq (B := iprop(((∃ f : EB F, ⌜Sent (An m n.val k.val d) d s k sndM f⌝ ∗ sp d (s, k) f) ∗ accW d (An m n.val k.val d))
          ∗ (rsAt d n.val s k ∗ rsTok d n.val s k ∗ rsGr d n.val s k ∗ xgn d s k.rev (n.val + 1)) ∗ ow d (Msg.rs n s k :: (rest.map (fun s => Msg.rs n s k) ++ Rem))))
        (((store_spec d s k (An m n.val k.val d)).frame iprop((rsAt d n.val s k ∗ rsTok d n.val s k ∗ rsGr d n.val s k ∗ xgn d s k.rev (n.val + 1)) ∗ ow d (Msg.rs n s k :: (rest.map (fun s => Msg.rs n s k) ++ Rem)))).pre ?_)
        (((rsSend_spec d n s k (rest.map (fun s => Msg.rs n s k) ++ Rem)).frame (accW d (An m n.val k.val d))).conseq ?_ ?_)
      · unfold rIn
        rw [List.map_cons, List.cons_append]
        iintro ⟨⟨H1, H2, H3, H4, H5⟩, H6, H7⟩
        isplitl [H4 H6]
        · isplitl [H4] <;> iassumption
        isplitr [H7]
        · isplitl [H1]; · iexact H1
          isplitl [H2]; · iexact H2
          isplitl [H3] <;> iassumption
        iexact H7
      · iintro ⟨⟨H4, H6⟩, ⟨H1, H2, H3, H5⟩, H7⟩
        isplitr [H6]
        · isplitr [H7]
          · isplitl [H1]; · iexact H1
            isplitl [H2]; · iexact H2
            isplitl [H3]; · iexact H3
            isplitl [H4] <;> iassumption
          iexact H7
        iexact H6
      · iintro ⟨⟨H1, H2⟩, H3⟩
        isplitl [H1]; · iexact H1
        isplitl [H3] <;> iassumption)
  have h2 := Spec.each' (m := m) (K := K) (c := d) (fun s : Fin 3 => rsWait s k) [0, 1, 2]
    (fun s => iprop(rsAt (F := F) d n.val s k ∗ cred (tallyAt (cell d (.rss s k)) n.val (amt (.rss s k))) ∗ cred (tallyAt (cell d (.rsr s k)) n.val (amt (.rsr s k)))))
    (fun s => iprop(rsAt d (n.val + 1) s k ∗ rssPay d s k ∗ rsrPay m d s k n.val)) (ow d Rem) (fun s _ => rsWait_spec d n s k Rem h)
  have h3 := Spec.each (m := m) (K := K) (c := d) (fun s : Fin 3 => seqL (rsB s k) (rsAcc d s k)) [0, 1, 2]
    (fun s => Arr (F := F) d s k (An m n.val k.val (pd d (rsBit s k)))) (fun s => Arr d s k (An m n.val k.val (pd d (rsBit s k))))
    (fun done _ => accW d (done.foldl (fun f s => (rsB s k).foldl (fun f p => accAt d s k (An m n.val k.val (pd d (rsBit s k))) f p.2) f) (An m n.val k.val d)))
    (fun done s rest hl => by
      rw [List.foldl_append, List.foldl_cons, List.foldl_nil]
      refine (acc_spec d s k (An m n.val k.val (pd d (rsBit s k))) (done.foldl (fun f s => (rsB s k).foldl (fun f p => accAt d s k (An m n.val k.val (pd d (rsBit s k))) f p.2) f) (An m n.val k.val d))).conseq ?_ ?_
      · iintro ⟨H1, H2⟩
        isplitl [H2]; · iexact H2
        iexact H1
      · iintro ⟨H1, H2⟩
        isplitl [H2]; · iexact H2
        iexact H1)
  refine Spec.seq (h1.pre ?_) (Spec.seq ((h2.frame (accW d (An m n.val k.val d))).pre ?_)
    ((h3.frame iprop((bigSepL [0, 1, 2] fun s => iprop(rsAt d (n.val + 1) s k ∗ rssPay d s k ∗ xgn (pd d (rsBit s k)) s k.rev (n.val + 1))) ∗ ow d Rem)).conseq ?_ ?_))
  · unfold rsKs
    iintro ⟨⟨H1, H2⟩, H3⟩
    isplitl [H1]; · iexact H1
    isplitl [H2] <;> iassumption
  · iintro ⟨H1, H2, H3⟩
    isplitr [H2]
    · isplitl [H1]; · iexact H1
      iexact H3
    iexact H2
  · simp only [rsrPay, Arr, bigSepL_sep]
    iintro ⟨⟨⟨H1, H2, H3, H4⟩, H5⟩, H6⟩
    isplitl [H3 H6]
    · isplitl [H3]; · iexact H3
      iexact H6
    isplitr [H5]
    · isplitl [H1]; · iexact H1
      isplitl [H2] <;> iassumption
    iexact H5
  · rw [An_succ]
    unfold rOut rssPay
    simp only [bigSepL_sep]
    iintro ⟨⟨H1, H2⟩, ⟨H3, H4, H5⟩, H6⟩
    isplitr [H6]
    · isplitr [H2]
      · isplitl [H3]; · iexact H3
        isplitl [H4]; · iexact H4
        isplitl [H1]
        · iapply (show bigSepL [0, 1, 2] (fun s => Arr d s k (An m n.val k.val (pd d (rsBit s k)))) ⊢ bigSepL [0, 1, 2] (fun s => iprop(∃ f : EB F, rp d (s, k) f)) from
            bigSepL_mono fun s _ => by
              unfold Arr
              iintro ⟨%g, -, H⟩
              iexists g; iexact H)
          iexact H1
        iexact H5
      iexact H2
    iexact H6

def rIns (d : Dev nD) (n : ℕ) : sProp 𝕄 := iprop(bigSepL [0, 1, 2] (rIn d n 0) ∗ bigSepL [0, 1, 2] (rIn d n 1) ∗ bigSepL [0, 1, 2] (rIn d n 2))
def rOuts (d : Dev nD) (n : ℕ) : sProp 𝕄 := iprop(bigSepL [0, 1, 2] (rOut d n 0) ∗ bigSepL [0, 1, 2] (rOut d n 1) ∗ bigSepL [0, 1, 2] (rOut d n 2))

theorem rs_spec (d : Dev nD) (n : Fin 3) (Rem : List Msg) (h : ∀ μ ∈ Rem, 7 + 6 * n.val < μ.lvl) :
    Spec m K d (rs d) iprop((rIns (F := F) d n.val ∗ accW d (An m n.val 0 d)) ∗ ow d (rsMs n ++ Rem)) iprop((rOuts d n.val ∗ accW d (An m n.val 3 d)) ∗ ow d Rem) := by
  have s0 := rsStep_spec (m := m) (K := K) d n 0 (rsKs n 1 ++ (rsKs n 2 ++ Rem)) (fun μ hμ => by
    rcases List.mem_append.mp hμ with h1 | hμ
    · rw [rsKs_lvl n 1 μ h1]; exact Nat.add_lt_add_left (by decide) _
    rcases List.mem_append.mp hμ with h1 | hμ
    · rw [rsKs_lvl n 2 μ h1]; exact Nat.add_lt_add_left (by decide) _
    · have := h μ hμ; show 5 + 6 * n.val + 0 < _; omega)
  have s1 := rsStep_spec (m := m) (K := K) d n 1 (rsKs n 2 ++ Rem) (fun μ hμ => by
    rcases List.mem_append.mp hμ with h1 | hμ
    · rw [rsKs_lvl n 2 μ h1]; exact Nat.add_lt_add_left (by decide) _
    · have := h μ hμ; show 5 + 6 * n.val + 1 < _; omega)
  have s2 := rsStep_spec (m := m) (K := K) d n 2 Rem (fun μ hμ => by have := h μ hμ; show 5 + 6 * n.val + 2 < _; omega)
  unfold rs
  refine Spec.loop3 (B := iprop(((bigSepL [0, 1, 2] (rOut d n.val 0) ∗ accW d (An m n.val 1 d)) ∗ ow d (rsKs n 1 ++ (rsKs n 2 ++ Rem))) ∗ bigSepL [0, 1, 2] (rIn d n.val 1) ∗ bigSepL [0, 1, 2] (rIn d n.val 2)))
    (C := iprop(((bigSepL [0, 1, 2] (rOut d n.val 1) ∗ accW d (An m n.val 2 d)) ∗ ow d (rsKs n 2 ++ Rem)) ∗ bigSepL [0, 1, 2] (rOut d n.val 0) ∗ bigSepL [0, 1, 2] (rIn d n.val 2)))
    ((s0.frame iprop(bigSepL [0, 1, 2] (rIn d n.val 1) ∗ bigSepL [0, 1, 2] (rIn d n.val 2))).conseq ?_ .rfl)
    ((s1.frame iprop(bigSepL [0, 1, 2] (rOut d n.val 0) ∗ bigSepL [0, 1, 2] (rIn d n.val 2))).conseq ?_ .rfl)
    ((s2.frame iprop(bigSepL [0, 1, 2] (rOut d n.val 0) ∗ bigSepL [0, 1, 2] (rOut d n.val 1))).conseq ?_ ?_)
  · unfold rIns
    rw [show rsMs n = rsKs n 0 ++ (rsKs n 1 ++ (rsKs n 2 ++ [])) from rfl]
    simp only [List.append_assoc, List.nil_append, List.append_nil]
    iintro ⟨⟨⟨H1, H2, H3⟩, H4⟩, H5⟩
    isplitl [H1 H4 H5]
    · isplitl [H1 H4]
      · isplitl [H1]; · iexact H1
        iexact H4
      iexact H5
    isplitl [H2] <;> iassumption
  · iintro ⟨⟨⟨H1, H2⟩, H3⟩, H4, H5⟩
    isplitl [H2 H3 H4]
    · isplitl [H2 H4]
      · isplitl [H4]; · iexact H4
        iexact H2
      iexact H3
    isplitl [H1] <;> iassumption
  · iintro ⟨⟨⟨H1, H2⟩, H3⟩, H4, H5⟩
    isplitl [H2 H3 H5]
    · isplitl [H2 H5]
      · isplitl [H5]; · iexact H5
        iexact H2
      iexact H3
    isplitl [H4] <;> iassumption
  · unfold rOuts
    iintro ⟨⟨⟨H1, H2⟩, H3⟩, H4, H5⟩
    isplitr [H3]
    · isplitr [H2]
      · isplitl [H4]; · iexact H4
        isplitl [H5] <;> iassumption
      iexact H2
    iexact H3

end Cert.KernelIdeal.Run

end
-- ==== Proof.Pieces.lean ====
module

public import proofs.«01_k».proof.Proof.Scatter

@[expose] public section

noncomputable section

/- The activations as parts, and a device writing its own rows of them. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-! ## The parts of the activations -/

/-- The activations a device holds, whole, and its own rows. -/
def xfW (d : Dev nD) (X : XB F) : sProp 𝕄 := ((d : Thread nD τ).loc cc0_scratch0) ↦[Finset.univ]{fullShare} X
def rowW (d : Dev nD) (X : XB F) : sProp 𝕄 := ((d : Thread nD τ).loc cc0_scratch0) ↦[rS (xr d 0)]{fullShare} X

theorem pS_disjoint (p q : Fin 3 × Fin 8) (h : p ≠ q) : Disjoint (pS p.1 p.2) (pS q.1 q.2) := by
  rw [Finset.disjoint_left]
  intro i hi hj
  rw [pS, Finset.mem_filter] at hi hj
  obtain ⟨s, ρ⟩ := p; obtain ⟨s', ρ'⟩ := q
  obtain ⟨-, a1, a2, a3⟩ := hi; obtain ⟨-, b1, b2, b3⟩ := hj
  change _ = ρ.val at a1; change _ = ρ'.val at b1
  have e : ρ = ρ' := Fin.ext (a1.symm.trans b1)
  subst e
  have hs : s = s' := by
    revert a2 a3 b2 b3
    generalize (i 1).val = x
    fin_cases s <;> fin_cases s' <;> simp only [pc, pw, Fin.zero_eta, Fin.mk_one, Fin.reduceFinMk] <;> intros <;> first | trivial | rfl | omega
  subst hs
  exact h rfl

theorem col_lt (i : S512x2048.Idx) : (i 1).val < 2048 := (i 1).isLt
theorem row_lt (i : S512x2048.Idx) : (i 0).val < 512 := (i 0).isLt
/-- The schedule an element's column belongs to. -/
theorem col_sched (x : ℕ) (h : x < 2048) : ∃ s, pc s ≤ x ∧ x < pc s + pw s := by
  rcases Nat.lt_or_ge x 768 with h1 | h1
  · exact ⟨0, Nat.zero_le _, by show x < 0 + 768; omega⟩
  rcases Nat.lt_or_ge x 1408 with h2 | h2
  · exact ⟨1, by show 768 ≤ x; omega, by show x < 768 + 640; omega⟩
  · exact ⟨2, by show 1408 ≤ x; omega, by show x < 1408 + 640; omega⟩

theorem pS_cover : (Finset.univ : Finset (Fin 3 × Fin 8)).biUnion (fun p => pS p.1 p.2) = Finset.univ := by
  ext i
  refine ⟨fun _ => Finset.mem_univ _, fun _ => ?_⟩
  obtain ⟨s, h1, h2⟩ := col_sched _ (col_lt i)
  have h := row_lt i
  exact Finset.mem_biUnion.mpr ⟨(s, ⟨(i 0).val / 64, by omega⟩), Finset.mem_univ _, Finset.mem_filter.mpr ⟨Finset.mem_univ _, rfl, h1, h2⟩⟩
theorem rS_cover (ρ : Fin 8) : (Finset.univ : Finset (Fin 3)).biUnion (fun s => pS s ρ) = rS ρ := by
  ext i
  rw [Finset.mem_biUnion]
  constructor
  · rintro ⟨s, -, h⟩
    exact Finset.mem_filter.mpr ⟨Finset.mem_univ _, (Finset.mem_filter.mp h).2.1⟩
  · intro h
    obtain ⟨s, h1, h2⟩ := col_sched _ (col_lt i)
    exact ⟨s, Finset.mem_univ _, Finset.mem_filter.mpr ⟨Finset.mem_univ _, (Finset.mem_filter.mp h).2, h1, h2⟩⟩

theorem all8_univ : ∀ s d, Finset.univ = ((all8 s).map (xr d)).toFinset := by decide +kernel
theorem all8_nodup : ∀ s d, ((all8 s).map (xr d)).Nodup := by decide +kernel

theorem all_eq (d : Dev nD) (X : XB F) : parts d all8 X = xfW d X := by
  unfold xfW parts
  rw [Ring.pointsTo_blocks (ℓ := (d : Thread nD τ).loc cc0_scratch0) (fun p : Fin 3 × Fin 8 => pS p.1 p.2) pS_disjoint pS_cover X, bigSep_univ_prod, bigSep_univ_eq_bigSepL [0, 1, 2] (by decide) (by decide)]
  refine bigSepL_congr fun s _ => ?_
  rw [bigSep_univ_eq_bigSepL ((all8 s).map (xr d)) (all8_univ s d) (all8_nodup s d), bigSepL_map]
  rfl

theorem own_eq (d : Dev nD) (X : XB F) : parts d own X = rowW d X := by
  unfold rowW parts own
  rw [Ring.pointsTo_sub_blocks (ℓ := (d : Thread nD τ).loc cc0_scratch0) (fun s : Fin 3 => pS s (xr d 0)) (fun s s' h => pS_disjoint (s, xr d 0) (s', xr d 0) fun e => h (Prod.mk.inj e).1) (rS (xr d 0)) (rS_cover _) X,
    bigSep_univ_eq_bigSepL [0, 1, 2] (by decide) (by decide)]
  refine bigSepL_congr fun s _ => ?_
  rw [bigSepL_cons']
  exact equiv_iff.mp sep_emp

/-! ## A device's own rows -/

theorem rowR_sub (d : Dev nD) : xfM.view.setOn (rowR d).toLoadRect.set ⊆ rS (xr d 0) := fun i hi => by
  obtain ⟨x, hx, rfl⟩ := Finset.mem_map.mp hi
  rw [← rowR_set]; exact hx
theorem rowR_access_set (d : Dev nD) : (xfM.access (rowR d)).setOn Finset.univ = rS (xr d 0) := by
  rw [View.setOn_univ]
  show ((View.whole cc0_scratch0).slice (rowR d)).set = _
  rw [View.set_slice_whole]; exact rowR_set d

theorem dv_row (d : Dev nD) (i : S512x2048.Idx) (h : i ∈ rS (xr d 0)) : dv i = d := by
  have e := (Finset.mem_filter.mp h).2
  rw [xr_zero] at e
  exact Fin.ext e

/-- Rows written into any contents are the device's rows of the activations made of everyone's. -/
theorem row_write (d : Dev nD) (f : XB F) (V : Dev nD → FVec F S64x2048 .bf16) (i : S512x2048.Idx) (h : i ∈ rS (xr d 0)) :
    (xfM.access (rowR d)).write (Elt F) f (V d) Finset.univ i = joinX V i := by
  unfold joinX
  rw [dv_row d i h]
  refine (congrFun (View.write_eq_piecewise (v := xfM.access (rowR d)) f xf0 (V d) Finset.univ) i).trans (Finset.piecewise_eq_of_mem _ _ _ ?_)
  rw [rowR_access_set]; exact h

theorem rowW_write (d : Dev nD) (f : XB F) (V : Dev nD → FVec F S64x2048 .bf16) :
    rowW d ((xfM.access (rowR d)).write (Elt F) f (V d) Finset.univ) ⊢ rowW d (joinX V) := by
  unfold rowW
  exact Entails.of_eq (pointsTo_congr fun i hi => row_write d f V i hi)

theorem row_wp (d : Dev nD) (f : XB F) (V : Dev nD → FVec F S64x2048 .bf16) {hx} {hm} (Q : PUnit → sProp 𝕄) :
    iprop(rowW d f ∗ (rowW d (joinX V) -∗ Q ⟨⟩)) ⊢ wp frame (wpE (defs₀ (F := F)) 𝒱₀ (d : Thread nD τ) none) Set.univ
      (Prog.lift (.store xfM (rowR d) (V d) Finset.univ hx hm) : P F PUnit) Q := by
  have h := rowW_write d f V
  unfold rowW at h ⊢
  unfold Prog.lift
  iintro ⟨Hx, HQ⟩
  iapply (wp_store 𝒱₀ (d : Thread nD τ) none Set.univ (m := xfM) (r := rowR d) (Mk := Finset.univ) (S := rS (xr d 0)) (f := f) (le_of_eq (rowR_access_set d))) $$ [Hx]
  · iexact Hx
  iintro Hx
  rw [wp_ret]
  imodintro
  iapply HQ
  iapply h
  iexact Hx

theorem turn_spec (d : Dev nD) (n : Fin 3) (f : XB F) :
    Spec m K d (turn d) iprop(parts d own f ∗ accW d (An m n.val 3 d)) iprop(parts d own (Xn m (n.val + 1)) ∗ accW d (An m n.val 3 d)) := fun Q => by
  rw [own_eq, own_eq]
  unfold turn ld
  iintro ⟨#HR, ⟨Hx, Ha⟩, HQ⟩
  rw [wp_bind]
  unfold accW rowW Prog.lift
  iapply (wp_load 𝒱₀ (d : Thread nD τ) none Set.univ (m := accM) (S := Finset.univ) (Finset.subset_univ _)) $$ [Ha]
  · iexact Ha
  iintro Ha
  rw [wp_ret]
  imodintro
  rw [wp_bind]
  iapply (wp_load 𝒱₀ (d : Thread nD τ) none Set.univ (m := xfM) (S := rS (xr d 0)) (rowR_sub d)) $$ [Hx]
  · iexact Hx
  iintro Hx
  rw [wp_ret]
  imodintro
  iapply (row_wp d f (fun c => k0_pay194 (accM.view.readAt (Elt F) (rowR c).toLoadRect (An m n.val 3 c))) Q)
  unfold rowW
  isplitl [Hx]; · iexact Hx
  iintro Hx
  iapply HQ
  isplitl [Hx]; · iexact Hx
  iexact Ha

end Cert.KernelIdeal.Run

end
-- ==== Proof.Tiles.lean ====
module

public import proofs.«01_k».proof.Proof.Pieces

@[expose] public section

noncomputable section

/- A layer as eight tiles, each adding one tile of the hidden dimension to the sum. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-! ## A slot of weights -/

/-- A slot at its round `r`: its copies run (or, after the last round, its buffers are back), the weights of the rounds before are back, those of
    the later rounds are still there. -/
def slotSt (m : (ℓ : Loc nD τ sig) → Buf (Elt F) ℓ) (d : Dev nD) (q : Fin 4) (r : ℕ) : sProp 𝕄 :=
  iprop(wat d q r ∗ (if r < 6 then wcr d q r else wbuf d q) ∗ bigSepL (List.range r) (srcs m d q) ∗ bigSepL (List.range' (r + 1) (5 - r)) fun r => iprop(srcs m d q r ∗ wtoks d q r))
def slots (m : (ℓ : Loc nD τ sig) → Buf (Elt F) ℓ) (d : Dev nD) (r : ℕ) : sProp 𝕄 := bigSepL [0, 1, 2, 3] fun q : Fin 4 => slotSt m d q r

/-- The two weights of a slot's round, arrived. -/
def arrW (m : (ℓ : Loc nD τ sig) → Buf (Elt F) ℓ) (d : Dev nD) (L : Fin 3) (t : Fin 8) (q : Fin 4) : sProp 𝕄 := iprop(wip d q (wiC m d L t q) ∗ wop d q (woC m d L t q))

theorem tileW_spec (d : Dev nD) (L : Fin 3) (t : Fin 8) (q : Fin 4) (r : ℕ) (hr : r < 6) (hL : L = slL r) (ht : t = slT q r) (Rem : List Msg) :
    Spec m K d (tileW L t q) iprop((wat (F := F) d q r ∗ wcr d q r) ∗ ow d Rem) iprop((wat d q (r + 1) ∗ arrW m d L t q ∗ srcs m d q r) ∗ ow d Rem) := by
  subst hL ht
  unfold tileW
  refine Spec.seq
    (((wait_spec (m := m) (K := K) d (.wi q) r hr rfl Rem (fun μ _ => lvl_pos μ) _ (fun Kt => rfl)).frame
        iprop(atPos ER (cell d (.wo q)) r ∅ 0 ∗ cred (tallyAt (cell d (.wo q)) r (amt (.wo q))))).pre ?_)
    (((wait_spec (m := m) (K := K) d (.wo q) r hr rfl Rem (fun μ _ => lvl_pos μ) _ (fun Kt => rfl)).frame
        iprop(atPos ER (cell d (.wi q)) (r + 1) ∅ 0 ∗ reached ER (cell d (.wi q)) (r + 1) ∗ wiPay m d q r)).conseq ?_ ?_)
  · unfold wat wcr
    iintro ⟨⟨⟨⟨H1, -⟩, H2, -⟩, H3, H4⟩, HO⟩
    isplitl [H1 H3 HO]
    · isplitl [H1 H3]
      · isplitl [H1]; · iexact H1
        iexact H3
      iexact HO
    isplitl [H2]; · iexact H2
    iexact H4
  · iintro ⟨⟨⟨H1, H2, H3⟩, HO⟩, H4, H5⟩
    isplitl [H4 H5 HO]
    · isplitl [H4 H5]
      · isplitl [H4]; · iexact H4
        iexact H5
      iexact HO
    isplitl [H1]; · iexact H1
    isplitl [H2]; · iexact H2
    iapply (show pay m d r 0 (.wi q) ⊢ wiPay m d q r from .rfl); iexact H3
  · iintro ⟨⟨⟨H1, H2, H3⟩, HO⟩, H4, H5, H6⟩
    ihave H3 := (show pay m d r 0 (.wo q) ⊢ woPay m d q r from .rfl) $$ H3
    unfold wat arrW srcs wiPay woPay
    icases H3 with ⟨H3, H3'⟩
    icases H6 with ⟨H6, H6'⟩
    isplitr [HO]
    · isplitl [H1 H2 H4 H5]
      · isplitl [H4 H5]
        · isplitl [H4] <;> iassumption
        isplitl [H1] <;> iassumption
      isplitl [H3 H6]
      · isplitl [H6] <;> iassumption
      isplitl [H6'] <;> iassumption
    iexact HO

theorem hz : (![0, 0] : Fin 2 → ℕ) = fun _ => 0 := funext fun a => by fin_cases a <;> rfl

theorem wi_sub (q : Fin 4) : wiM.view.setOn (wiR q).toLoadRect.set ⊆ wiSet q := fun i hi => by
  obtain ⟨x, hx, rfl⟩ := Finset.mem_map.mp hi
  rw [← wiR_set]; exact hx
theorem wo_sub (q : Fin 4) : woM.view.setOn (woR q).toLoadRect.set ⊆ woSet q := fun i hi => by
  obtain ⟨x, hx, rfl⟩ := Finset.mem_map.mp hi
  rw [← woR_set]; exact hx

theorem acc_full (f : AB F) : accM.view.readAt (Elt F) fullR.toLoadRect f = f := Memref.readAt_unit_zero (Elt F) cc0_scratch1 hz _ f
theorem xf_full (f : XB F) : xfM.view.readAt (Elt F) fullR.toLoadRect f = f := Memref.readAt_unit_zero (Elt F) cc0_scratch0 hz _ f
theorem acc_store (f w : AB F) : (accM.access fullR).write (Elt F) f w Finset.univ = w := Memref.write_access_unit_zero_univ (Elt F) cc0_scratch1 hz _ f w

theorem tileC_spec (d : Dev nD) (L : Fin 3) (t : Fin 8) (X : XB F) (a : AB F) :
    Spec m K d (tileC t (sl4 t)) iprop(arrW m d L t (sl4 t) ∗ xfW d X ∗ accW d a) iprop(arrW m d L t (sl4 t) ∗ xfW d X ∗ accW d (tileX m X d L a t)) := fun Q => by
  obtain ⟨v, hv⟩ := t
  unfold tileC ld arrW wip wop xfW accW
  cases v with
  | zero =>
    unfold Prog.lift
    simp only [Prog.bind_op, Prog.bind_ret]
    iintro ⟨#HR, ⟨⟨Hi, Ho⟩, Hx, Ha⟩, HQ⟩
    iapply (wp_load 𝒱₀ (d : Thread nD τ) none Set.univ (m := xfM) (S := Finset.univ) (Finset.subset_univ _)) $$ [Hx]
    · iexact Hx
    iintro Hx
    iapply (wp_load 𝒱₀ (d : Thread nD τ) none Set.univ (m := wiM) (S := wiSet (sl4 ⟨0, hv⟩)) (wi_sub _)) $$ [Hi]
    · iexact Hi
    iintro Hi
    iapply (wp_load 𝒱₀ (d : Thread nD τ) none Set.univ (m := woM) (S := woSet (sl4 ⟨0, hv⟩)) (wo_sub _)) $$ [Ho]
    · iexact Ho
    iintro Ho
    iapply (wp_load 𝒱₀ (d : Thread nD τ) none Set.univ (m := accM) (S := Finset.univ) (Finset.subset_univ _)) $$ [Ha]
    · iexact Ha
    iintro Ha
    iapply (wp_store 𝒱₀ (d : Thread nD τ) none Set.univ (m := accM) (r := fullR) (Mk := Finset.univ) (S := Finset.univ) (Finset.subset_univ _)) $$ [Ha]
    · iexact Ha
    iintro Ha
    rw [acc_store, xf_full, wp_ret]
    imodintro
    iapply HQ
    isplitl [Hi Ho]
    · isplitl [Hi]; · iexact Hi
      iexact Ho
    isplitl [Hx]; · iexact Hx
    iexact Ha
  | succ v =>
    unfold Prog.lift
    simp only [Prog.bind_op, Prog.bind_ret]
    iintro ⟨#HR, ⟨⟨Hi, Ho⟩, Hx, Ha⟩, HQ⟩
    iapply (wp_load 𝒱₀ (d : Thread nD τ) none Set.univ (m := xfM) (S := Finset.univ) (Finset.subset_univ _)) $$ [Hx]
    · iexact Hx
    iintro Hx
    iapply (wp_load 𝒱₀ (d : Thread nD τ) none Set.univ (m := wiM) (S := wiSet (sl4 ⟨v + 1, hv⟩)) (wi_sub _)) $$ [Hi]
    · iexact Hi
    iintro Hi
    iapply (wp_load 𝒱₀ (d : Thread nD τ) none Set.univ (m := woM) (S := woSet (sl4 ⟨v + 1, hv⟩)) (wo_sub _)) $$ [Ho]
    · iexact Ho
    iintro Ho
    iapply (wp_load 𝒱₀ (d : Thread nD τ) none Set.univ (m := accM) (S := Finset.univ) (Finset.subset_univ _)) $$ [Ha]
    · iexact Ha
    iintro Ha
    iapply (wp_load 𝒱₀ (d : Thread nD τ) none Set.univ (m := accM) (S := Finset.univ) (Finset.subset_univ _)) $$ [Ha]
    · iexact Ha
    iintro Ha
    iapply (wp_store 𝒱₀ (d : Thread nD τ) none Set.univ (m := accM) (r := fullR) (Mk := Finset.univ) (S := Finset.univ) (Finset.subset_univ _)) $$ [Ha]
    · iexact Ha
    iintro Ha
    rw [acc_store, xf_full, acc_full, wp_ret]
    imodintro
    iapply HQ
    isplitl [Hi Ho]
    · isplitl [Hi]; · iexact Hi
      iexact Ho
    isplitl [Hx]; · iexact Hx
    iexact Ha

/-- A slot's buffers are there again once its weights were used. -/
theorem arr_buf (d : Dev nD) (L : Fin 3) (t : Fin 8) (q : Fin 4) : arrW m d L t q ⊢ wbuf d q := by
  unfold arrW wbuf
  iintro ⟨H1, H2⟩
  isplitl [H1]; · iexists _; iexact H1
  iexists _; iexact H2

/-- The round of a tile at its slot. -/
def rdT (n : Fin 3) (t : Fin 8) : ℕ := 2 * n.val + t.val / 4
theorem rdT_lt : ∀ n t, rdT n t < 6 := by decide
theorem rdT_L : ∀ n t, n = slL (rdT n t) := by decide
theorem rdT_T : ∀ n t, t = slT (sl4 t) (rdT n t) := by decide
theorem rdT_next : ∀ n t, nextT n t = if rdT n t + 1 < 6 then [(slL (rdT n t + 1), slT (sl4 t) (rdT n t + 1))] else [] := by decide

theorem range_split (r : ℕ) (h : r + 1 < 6) : List.range' (r + 1) (5 - r) = (r + 1) :: List.range' (r + 1 + 1) (5 - (r + 1)) := by
  rw [show 5 - r = (5 - (r + 1)) + 1 by omega, List.range'_succ]

theorem next_spec (d : Dev nD) (n : Fin 3) (t : Fin 8) :
    Spec m K d (seqL (nextT n t) fun p => issue p.1 p.2 (sl4 t))
      iprop(wat (F := F) d (sl4 t) (rdT n t + 1) ∗ wbuf d (sl4 t) ∗ bigSepL (List.range (rdT n t)) (srcs m d (sl4 t)) ∗ srcs m d (sl4 t) (rdT n t)
        ∗ bigSepL (List.range' (rdT n t + 1) (5 - rdT n t)) fun r => iprop(srcs m d (sl4 t) r ∗ wtoks d (sl4 t) r))
      (slotSt m d (sl4 t) (rdT n t + 1)) := by
  rw [rdT_next n t]
  unfold slotSt
  by_cases h : rdT n t + 1 < 6
  · rw [if_pos h, if_pos h, range_split _ h, bigSepL_cons', List.range_succ, bigSepL_append, bigSepL_cons']
    refine Spec.seq (((issue_spec (m := m) (K := K) d _ _ (sl4 t) (rdT n t + 1) h rfl rfl).frame
      iprop(bigSepL (List.range (rdT n t)) (srcs m d (sl4 t)) ∗ srcs m d (sl4 t) (rdT n t)
        ∗ bigSepL (List.range' (rdT n t + 1 + 1) (5 - (rdT n t + 1))) fun r => iprop(srcs m d (sl4 t) r ∗ wtoks d (sl4 t) r))).conseq ?_ ?_) Spec.skip
    · iintro ⟨H1, H2, H3, H4, ⟨H5, H6⟩, H7⟩
      isplitl [H1 H2 H5 H6]
      · isplitl [H1 H2]
        · isplitl [H1] <;> iassumption
        isplitl [H5] <;> iassumption
      isplitl [H3]; · iexact H3
      isplitl [H4]; · iexact H4
      iexact H7
    · iintro ⟨⟨H1, H2⟩, H3, H4, H5⟩
      isplitl [H1]; · iexact H1
      isplitl [H2]; · iexact H2
      isplitl [H3 H4]
      · isplitl [H3]; · iexact H3
        isplitl [H4]; · iexact H4
        iempintro
      iexact H5
  · rw [if_neg h, if_neg h, List.range_succ, bigSepL_append, bigSepL_cons']
    have e : 5 - rdT n t = 0 := by have := rdT_lt n t; omega
    rw [show 5 - (rdT n t + 1) = 0 by omega, e]
    refine Spec.skip.post ?_
    iintro ⟨H1, H2, H3, H4, H5⟩
    isplitl [H1]; · iexact H1
    isplitl [H2]; · iexact H2
    isplitl [H3 H4]
    · isplitl [H3]; · iexact H3
      isplitl [H4]; · iexact H4
      iempintro
    iexact H5

theorem tile_spec (d : Dev nD) (n : Fin 3) (t : Fin 8) (X : XB F) (a : AB F) (Rem : List Msg) :
    Spec m K d (tile n t) iprop(slotSt m d (sl4 t) (rdT n t) ∗ (xfW d X ∗ ow d Rem) ∗ accW d a)
      iprop(slotSt m d (sl4 t) (rdT n t + 1) ∗ (xfW d X ∗ ow d Rem) ∗ accW d (tileX m X d n a t)) := by
  unfold tile
  have hr := rdT_lt n t
  refine Spec.seq (((tileW_spec (m := m) (K := K) d n t (sl4 t) (rdT n t) hr (rdT_L n t) (rdT_T n t) Rem).frame
      iprop((xfW d X ∗ accW d a) ∗ bigSepL (List.range (rdT n t)) (srcs m d (sl4 t)) ∗ bigSepL (List.range' (rdT n t + 1) (5 - rdT n t)) fun r => iprop(srcs m d (sl4 t) r ∗ wtoks d (sl4 t) r))).pre ?_)
    (Spec.seq (((tileC_spec (m := m) (K := K) d n t X a).frame
      iprop((wat d (sl4 t) (rdT n t + 1) ∗ srcs m d (sl4 t) (rdT n t) ∗ bigSepL (List.range (rdT n t)) (srcs m d (sl4 t))
        ∗ bigSepL (List.range' (rdT n t + 1) (5 - rdT n t)) fun r => iprop(srcs m d (sl4 t) r ∗ wtoks d (sl4 t) r)) ∗ ow d Rem)).pre ?_)
      (((next_spec (m := m) (K := K) d n t).frame iprop((xfW d X ∗ ow d Rem) ∗ accW d (tileX m X d n a t))).pre ?_))
  · unfold slotSt
    rw [if_pos hr]
    iintro ⟨⟨H1, H2, H3, H4⟩, ⟨H5, H6⟩, H7⟩
    isplitl [H1 H2 H6]
    · isplitl [H1 H2]
      · isplitl [H1] <;> iassumption
      iexact H6
    isplitl [H5 H7]
    · isplitl [H5] <;> iassumption
    isplitl [H3] <;> iassumption
  · iintro ⟨⟨⟨H1, H2, H3⟩, H4⟩, ⟨H5, H6⟩, H7, H8⟩
    isplitl [H2 H5 H6]
    · isplitl [H2]; · iexact H2
      isplitl [H5] <;> iassumption
    isplitr [H4]
    · isplitl [H1]; · iexact H1
      isplitl [H3]; · iexact H3
      isplitl [H7] <;> iassumption
    iexact H4
  · iintro ⟨⟨H1, H2, H3⟩, ⟨H4, H5, H6, H7⟩, H8⟩
    isplitr [H2 H3 H8]
    · isplitl [H4]; · iexact H4
      isplitl [H1]; · iapply (arr_buf d n t (sl4 t)); iexact H1
      isplitl [H6]; · iexact H6
      isplitl [H5] <;> iassumption
    isplitl [H2 H8]
    · isplitl [H2] <;> iassumption
    iexact H3

/-! ## The tiles of a layer -/

theorem seqL_append {α : Type} (f : α → P F PUnit) (l l' : List α) : seqL (l ++ l') f = (seqL l f >>= fun _ => seqL l' f) := by
  induction l with
  | nil => rfl
  | cons a l ih =>
    show (f a >>= fun _ => seqL (l ++ l') f) = ((f a >>= fun _ => seqL l f) >>= fun _ => seqL l' f)
    rw [ih, Prog.bind_assoc]

theorem four_spec (d : Dev nD) (n : Fin 3) (X : XB F) (Rem : List Msg) (l : List (Fin 8)) (hl : l.map sl4 = [0, 1, 2, 3]) (r : ℕ) (hr : ∀ t ∈ l, rdT n t = r) (a : AB F) :
    Spec m K d (seqL l (tile n)) iprop(slots m d r ∗ (xfW d X ∗ ow d Rem) ∗ accW d a)
      iprop(slots m d (r + 1) ∗ (xfW d X ∗ ow d Rem) ∗ accW d (l.foldl (tileX m X d n) a)) := by
  have h := Spec.each (m := m) (K := K) (c := d) (tile n) l (fun t => slotSt m d (sl4 t) (rdT n t)) (fun t => slotSt m d (sl4 t) (rdT n t + 1))
    (fun done _ => iprop((xfW d X ∗ ow d Rem) ∗ accW d (done.foldl (tileX m X d n) a))) (fun done t rest hl => by
      rw [List.foldl_append, List.foldl_cons, List.foldl_nil]
      exact tile_spec d n t X _ Rem)
  have e (r' : ℕ) : slots m d r' = bigSepL l fun t => slotSt m d (sl4 t) r' := by
    unfold slots; rw [← hl, bigSepL_map]
  rw [e, e]
  rw [List.foldl_nil] at h
  have e1 : (bigSepL l fun t => slotSt m d (sl4 t) (rdT n t)) = bigSepL l fun t => slotSt m d (sl4 t) r := bigSepL_congr fun t ht => by rw [hr t ht]
  have e2 : (bigSepL l fun t => slotSt m d (sl4 t) (rdT n t + 1)) = bigSepL l fun t => slotSt m d (sl4 t) (r + 1) := bigSepL_congr fun t ht => by rw [hr t ht]
  rw [e1, e2] at h
  exact h

/-- The first tile overwrites the sum. -/
theorem first4 (d : Dev nD) (n : Fin 3) (X : XB F) (a : AB F) :
    ([0, 1, 2, 3] : List (Fin 8)).foldl (tileX m X d n) a = ([0, 1, 2, 3] : List (Fin 8)).foldl (tileX m X d n) acc0 := by
  have e : tileX m X d n a 0 = tileX m X d n acc0 0 := rfl
  simp only [List.foldl_cons, List.foldl_nil]
  rw [e]

theorem tilesX_eq (d : Dev nD) (n : Fin 3) (X : XB F) :
    tilesX m X d n = ([4, 5, 6, 7] : List (Fin 8)).foldl (tileX m X d n) (([0, 1, 2, 3] : List (Fin 8)).foldl (tileX m X d n) acc0) := by
  unfold tilesX
  rw [← List.foldl_append, show ([0, 1, 2, 3] : List (Fin 8)) ++ [4, 5, 6, 7] = [0, 1, 2, 3, 4, 5, 6, 7] from rfl]

theorem rdT_lo : ∀ n : Fin 3, ∀ t ∈ ([0, 1, 2, 3] : List (Fin 8)), rdT n t = 2 * n.val := by decide
theorem rdT_hi : ∀ n : Fin 3, ∀ t ∈ ([4, 5, 6, 7] : List (Fin 8)), rdT n t = 2 * n.val + 1 := by decide

theorem tiles_spec (d : Dev nD) (n : Fin 3) (X : XB F) (Rem : List Msg) :
    Spec m K d (seqL [0, 1, 2, 3, 4, 5, 6, 7] (tile n)) iprop(slots m d (2 * n.val) ∗ (xfW d X ∗ ow d Rem) ∗ ∃ a, accW d a)
      iprop(slots m d (2 * n.val + 2) ∗ (xfW d X ∗ ow d Rem) ∗ accW d (tilesX m X d n)) := by
  rw [show ([0, 1, 2, 3, 4, 5, 6, 7] : List (Fin 8)) = [0, 1, 2, 3] ++ [4, 5, 6, 7] from rfl, seqL_append, tilesX_eq]
  have h (a : AB F) := (four_spec (m := m) (K := K) d n X Rem [0, 1, 2, 3] (by decide) (2 * n.val) (rdT_lo n) a).seq
    (four_spec (m := m) (K := K) d n X Rem [4, 5, 6, 7] (by decide) (2 * n.val + 1) (rdT_hi n) (([0, 1, 2, 3] : List (Fin 8)).foldl (tileX m X d n) a))
  simp only [first4] at h
  refine (Spec.exists_ h).pre ?_
  iintro ⟨H1, H2, %a, H3⟩
  iexists a
  isplitl [H1]; · iexact H1
  isplitl [H2] <;> iassumption

end Cert.KernelIdeal.Run

end
-- ==== Proof.Layer.lean ====
module

public import proofs.«01_k».proof.Proof.Tiles

@[expose] public section

noncomputable section

/- A whole layer: its tiles, the scatter of the sums, the next activations and their gather. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-! ## From a gather to a scatter and back -/

theorem agL_nest (k : Fin 3) (Φ : Fin 3 × Fin 7 → sProp 𝕄) : bigSepL (agL k) Φ = bigSepL [0, 1, 2] fun s => bigSepL (agSl k) fun l => Φ (s, l) := by
  unfold agL
  rw [bigSepL_flatMap]
  exact bigSepL_congr fun s _ => bigSepL_map _ _ _

theorem agSl_cons : ∀ k, ∃ l ls, agSl k = l :: ls ∧ isFst l = true ∧ agStep l = k ∧ ∀ l' ∈ ls, isFst l' = false := by
  intro k; fin_cases k
  · exact ⟨_, _, rfl, by decide, by decide, by decide⟩
  · exact ⟨_, _, rfl, by decide, by decide, by decide⟩
  · exact ⟨_, _, rfl, by decide, by decide, by decide⟩

/-- What a step's gather messages carry beside the activations: the device's part of the exchange buffer. -/
theorem extra_eq (p : Dev nD) (s k : Fin 3) (n : ℕ) : (bigSepL (agSl k) fun l => agExtra (F := F) p s l n)
    = if n < 3 then iprop((∃ f, rp (F := F) p (s, k.rev) f) ∗ reached ER (cell p (.rsr s k.rev)) n) else iprop(emp) := by
  obtain ⟨l, ls, e, h1, h2, h3⟩ := agSl_cons k
  have h4 : (bigSepL ls fun l => agExtra (F := F) p s l n) = iprop(emp) := by
    rw [bigSepL_congr (Ψ := fun _ => iprop(emp)) fun l' hl => by unfold agExtra; rw [if_neg (fun h => by rw [h3 l' hl] at h; exact absurd h.1 (by decide))]]
    exact Spec.bigSepL_emp ls
  have h5 (A : sProp 𝕄) : iprop(A ∗ emp) = A := equiv_iff.mp sep_emp
  rw [e, bigSepL_cons', h4, h5]
  unfold agExtra
  rw [h2]
  by_cases hn : n < 3
  · rw [if_pos ⟨h1, hn⟩, if_pos hn]
  · rw [if_neg (fun h => hn h.2), if_neg hn]

/-- One step's cells of the gather, all at one round. -/
def agAts (d : Dev nD) (n : ℕ) (k s : Fin 3) : sProp 𝕄 := bigSepL (agSl k) fun l => agAt d n s l
def agToks (d : Dev nD) (n : ℕ) (k s : Fin 3) : sProp 𝕄 := bigSepL (agSl k) fun l => agTok d n s l

theorem agAts_reached (d : Dev nD) (n : ℕ) (k s : Fin 3) : agAts (F := F) d n k s ⊢ iprop(agAts d n k s ∗ bigSepL (agSl k) fun l => reached ER (cell d (.agr s l)) n) := by
  unfold agAts
  rw [← bigSepL_sep]
  refine bigSepL_mono fun l _ => ?_
  unfold agAt
  iintro ⟨⟨H1, H2⟩, H3, #H4⟩
  isplitl [H1 H2 H3]
  · isplitl [H1 H2]
    · isplitl [H1] <;> iassumption
    isplitl [H3]; · iexact H3
    iexact H4
  iexact H4

/-- After a gather, one step and schedule: the partner's part of the exchange buffer came, the own foreign rows may go. -/
theorem to_scatter (d : Dev nD) (n : ℕ) (hn : n < 3) (k s : Fin 3) (X : XB F) :
    iprop((bigSepL (agSl k) fun l => gOut (F := F) d n (s, l)) ∗ bigSepL (inC k s) fun j => xp d s (xr d j) X)
      ⊢ iprop(agAts d (n + 1) k s ∗ rsGr d n s k.rev ∗ xgn d s k (n + 1)) := by
  have e1 : (bigSepL (agSl k) fun l => gOut (F := F) d n (s, l)) = iprop(agAts d (n + 1) k s ∗ rsGr d n s k.rev) := by
    unfold gOut agAts
    rw [bigSepL_sep]
    have h : (bigSepL (agSl k) fun l => agExtra (F := F) (pd d (agBit s (agStep l))) s l n) = rsGr d n s k.rev := by
      rw [bigSepL_congr (Ψ := fun l => agExtra (F := F) (pd d (agBit s k)) s l n) fun l hl => by rw [agSl_step k l hl], extra_eq, if_pos hn]
      unfold rsGr
      rw [ag_rev]
    rw [← h]
  have e2 : (bigSepL (inC k s) fun j => xp d s (xr d j) X) ⊢ bigSepL (agSl k) fun l => iprop(∃ f : XB F, xp d s (xr (pd d (agBit s k)) (agJ s l)) f) := by
    unfold inC
    rw [bigSepL_map]
    refine bigSepL_mono fun l _ => ?_
    rw [xr_pd]
    iintro H; iexists X; iexact H
  rw [e1]
  unfold xgn
  rw [bigSepL_sep]
  iintro ⟨⟨H1, H2⟩, H3⟩
  ihave H1 := (agAts_reached d (n + 1) k s) $$ H1
  icases H1 with ⟨H1, H4⟩
  isplitl [H1]; · iexact H1
  isplitl [H2]; · iexact H2
  isplitl [H3]; · iapply e2; iexact H3
  iexact H4

/-- What is left of an exchange buffer after the last scatter. -/
def rEnd (d : Dev nD) (n : ℕ) (k s : Fin 3) : sProp 𝕄 := if n < 3 then iprop(emp) else iprop(∃ f : EB F, rp d (s, k) f)

/-- Before a gather, one step and schedule. -/
theorem to_gather (d : Dev nD) (n : ℕ) (k s : Fin 3) :
    iprop((rsAt (F := F) d n s k.rev ∗ (∃ f : EB F, rp d (s, k.rev) f) ∗ xgn (pd d (rsBit s k.rev)) s k n) ∗ agAts d n k s ∗ agToks d n k s)
      ⊢ iprop((bigSepL (agSl k) fun l => gIn d n (s, l)) ∗ rsAt d n s k.rev ∗ rEnd d n k.rev s) := by
  have e1 : xgn (F := F) (pd d (rsBit s k.rev)) s k n = bigSepL (agSl k) fun l => agGr d n s l := by
    unfold xgn agGr
    refine bigSepL_congr fun l hl => ?_
    rw [ag_rev, pd_pd, agSl_step k l hl]
  have e2 : iprop(rsAt (F := F) d n s k.rev ∗ ∃ f : EB F, rp d (s, k.rev) f) ⊢ iprop((bigSepL (agSl k) fun l => agExtra (F := F) d s l n) ∗ rsAt d n s k.rev ∗ rEnd d n k.rev s) := by
    rw [extra_eq]
    unfold rEnd rsAt
    by_cases hn : n < 3
    · rw [if_pos hn, if_pos hn]
      iintro ⟨⟨⟨H1, H2⟩, H3, #H4⟩, H5⟩
      isplitl [H5]
      · isplitl [H5]; · iexact H5
        iexact H4
      isplitl
      · isplitl [H1 H2]
        · isplitl [H1] <;> iassumption
        isplitl [H3]; · iexact H3
        iexact H4
      iempintro
    · rw [if_neg hn, if_neg hn]
      iintro ⟨H1, H5⟩
      isplitr; · iempintro
      isplitl [H1]; · iexact H1
      iexact H5
  rw [e1]
  unfold gIn agAts agToks
  rw [bigSepL_sep, bigSepL_sep, bigSepL_sep]
  iintro ⟨⟨H1, H2, H3⟩, H4, H5⟩
  ihave H := e2 $$ [H1 H2]
  · isplitl [H1] <;> iassumption
  icases H with ⟨H1, H2, H6⟩
  isplitr [H2 H6]
  · isplitl [H4]; · iexact H4
    isplitl [H5]; · iexact H5
    isplitl [H3] <;> iassumption
  isplitl [H2] <;> iassumption

/-! ## One step for all schedules -/

/-- A scatter step's cells at a round, and the own half of the exchange. -/
def rsRest (d : Dev nD) (n : ℕ) (k : Fin 3) : sProp 𝕄 := bigSepL [0, 1, 2] fun s => iprop(rsAt (F := F) d n s k ∗ ∃ f : EB F, sp d (s, k) f)
def rsToks (d : Dev nD) (n : ℕ) (k : Fin 3) : sProp 𝕄 := bigSepL [0, 1, 2] fun s => rsTok (F := F) d n s k
def agAll (d : Dev nD) (n : ℕ) (k : Fin 3) : sProp 𝕄 := bigSepL [0, 1, 2] fun s => agAts (F := F) d n k s
def agTks (d : Dev nD) (n : ℕ) (k : Fin 3) : sProp 𝕄 := bigSepL [0, 1, 2] fun s => agToks (F := F) d n k s
def rEnds (d : Dev nD) (n : ℕ) (k : Fin 3) : sProp 𝕄 := bigSepL [0, 1, 2] fun s => rEnd (F := F) d n k s
/-- What a scatter step leaves, by the round it leaves it at. -/
def rO (d : Dev nD) (n : ℕ) (k s : Fin 3) : sProp 𝕄 :=
  iprop(rsAt (F := F) d n s k.rev ∗ (∃ f : EB F, sp d (s, k.rev) f) ∗ (∃ f : EB F, rp d (s, k.rev) f) ∗ xgn (pd d (rsBit s k.rev)) s k n)

theorem rOut_eq (d : Dev nD) (n : ℕ) (k s : Fin 3) : rOut (F := F) d n k.rev s = rO d (n + 1) k s := by
  unfold rOut rO; rw [Fin.rev_rev]

theorem scatter_in (d : Dev nD) (n : ℕ) (hn : n < 3) (k : Fin 3) (X : XB F) :
    iprop((bigSepL (agL k) (gOut d n) ∗ parts d (inC k) X) ∗ rsRest d n k.rev ∗ rsToks d n k.rev)
      ⊢ iprop(agAll d (n + 1) k ∗ bigSepL [0, 1, 2] (rIn (F := F) d n k.rev)) := by
  rw [agL_nest]
  have h : iprop((bigSepL [0, 1, 2] fun s => bigSepL (agSl k) fun l => gOut (F := F) d n (s, l)) ∗ parts d (inC k) X)
      ⊢ iprop(agAll d (n + 1) k ∗ (bigSepL [0, 1, 2] fun s => rsGr d n s k.rev) ∗ bigSepL [0, 1, 2] fun s => xgn (F := F) d s k (n + 1)) := by
    unfold parts agAll
    rw [← bigSepL_sep, ← bigSepL_sep, ← bigSepL_sep]
    exact bigSepL_mono fun s _ => to_scatter d n hn k s X
  unfold rsRest rsToks
  have e : (bigSepL [0, 1, 2] (rIn (F := F) d n k.rev)) = iprop((bigSepL [0, 1, 2] fun s => rsAt d n s k.rev) ∗ (bigSepL [0, 1, 2] fun s => rsTok d n s k.rev)
      ∗ (bigSepL [0, 1, 2] fun s => rsGr d n s k.rev) ∗ (bigSepL [0, 1, 2] fun s => iprop(∃ f : EB F, sp d (s, k.rev) f)) ∗ bigSepL [0, 1, 2] fun s => xgn d s k (n + 1)) := by
    rw [← bigSepL_sep, ← bigSepL_sep, ← bigSepL_sep, ← bigSepL_sep]
    refine bigSepL_congr fun s _ => ?_
    unfold rIn
    rw [Fin.rev_rev]
  rw [e, bigSepL_sep]
  iintro ⟨H, ⟨H1, H2⟩, H3⟩
  ihave H := h $$ H
  icases H with ⟨H4, H5, H6⟩
  isplitl [H4]; · iexact H4
  isplitl [H1]; · iexact H1
  isplitl [H3]; · iexact H3
  isplitl [H5]; · iexact H5
  isplitl [H2] <;> iassumption

theorem gather_in (d : Dev nD) (n : ℕ) (k : Fin 3) :
    iprop(bigSepL [0, 1, 2] (rO d n k) ∗ agAll d n k ∗ agTks d n k) ⊢ iprop(bigSepL (agL k) (gIn (F := F) d n) ∗ rsRest d n k.rev ∗ rEnds d n k.rev) := by
  rw [agL_nest]
  have h : iprop((bigSepL [0, 1, 2] fun s => iprop(rsAt (F := F) d n s k.rev ∗ (∃ f : EB F, rp d (s, k.rev) f) ∗ xgn (pd d (rsBit s k.rev)) s k n)) ∗ agAll d n k ∗ agTks d n k)
      ⊢ iprop((bigSepL [0, 1, 2] fun s => bigSepL (agSl k) fun l => gIn d n (s, l)) ∗ (bigSepL [0, 1, 2] fun s => rsAt d n s k.rev) ∗ rEnds d n k.rev) := by
    unfold agAll agTks rEnds
    rw [← bigSepL_sep, ← bigSepL_sep, ← bigSepL_sep, ← bigSepL_sep]
    exact bigSepL_mono fun s _ => to_gather d n k s
  unfold rO rsRest
  simp only [bigSepL_sep] at h ⊢
  iintro ⟨⟨H1, H2, H3, H4⟩, H5, H6⟩
  ihave H := h $$ [H1 H3 H4 H5 H6]
  · isplitl [H1 H3 H4]
    · isplitl [H1]; · iexact H1
      isplitl [H3] <;> iassumption
    isplitl [H5] <;> iassumption
  icases H with ⟨H1, H3, H4⟩
  isplitl [H1]; · iexact H1
  isplitl [H2 H3]
  · isplitl [H3] <;> iassumption
  iexact H4

/-! ## A layer -/

/-- Three steps' worth. -/
def all3 (Φ : Fin 3 → sProp 𝕄) : sProp 𝕄 := iprop(Φ 0 ∗ Φ 1 ∗ Φ 2)

theorem scatter_all (d : Dev nD) (n : ℕ) (hn : n < 3) (X : XB F) :
    iprop(gOuts d n ∗ parts d all8 X ∗ all3 (rsRest d n) ∗ all3 (rsToks d n)) ⊢ iprop(all3 (agAll d (n + 1)) ∗ rIns (F := F) d n ∗ parts d own X) := by
  have h0 := scatter_in (F := F) d n hn 0 X
  have h1 := scatter_in (F := F) d n hn 1 X
  have h2 := scatter_in (F := F) d n hn 2 X
  rw [show Fin.rev (0 : Fin 3) = 2 from rfl] at h0
  rw [show Fin.rev (1 : Fin 3) = 1 from rfl] at h1
  rw [show Fin.rev (2 : Fin 3) = 0 from rfl] at h2
  rw [all8_parts]
  unfold gOuts all3 rIns
  iintro ⟨⟨G0, G1, G2⟩, ⟨⟨⟨O, P0⟩, P1⟩, P2⟩, ⟨R0, R1, R2⟩, T0, T1, T2⟩
  ihave H0 := h0 $$ [G0 P0 R2 T2]
  · isplitl [G0 P0]
    · isplitl [G0] <;> iassumption
    isplitl [R2] <;> iassumption
  ihave H1 := h1 $$ [G1 P1 R1 T1]
  · isplitl [G1 P1]
    · isplitl [G1] <;> iassumption
    isplitl [R1] <;> iassumption
  ihave H2 := h2 $$ [G2 P2 R0 T0]
  · isplitl [G2 P2]
    · isplitl [G2] <;> iassumption
    isplitl [R0] <;> iassumption
  icases H0 with ⟨A0, B0⟩
  icases H1 with ⟨A1, B1⟩
  icases H2 with ⟨A2, B2⟩
  isplitl [A0 A1 A2]
  · isplitl [A0]; · iexact A0
    isplitl [A1] <;> iassumption
  isplitl [B0 B1 B2]
  · isplitl [B2]; · iexact B2
    isplitl [B1] <;> iassumption
  iexact O

theorem gather_all (d : Dev nD) (n : ℕ) :
    iprop(all3 (fun k => bigSepL [0, 1, 2] (rO d n k)) ∗ all3 (agAll d n) ∗ all3 (agTks d n)) ⊢ iprop(gIns (F := F) d n ∗ all3 (rsRest d n) ∗ all3 (rEnds d n)) := by
  have h0 := gather_in (F := F) d n 0
  have h1 := gather_in (F := F) d n 1
  have h2 := gather_in (F := F) d n 2
  rw [show Fin.rev (0 : Fin 3) = 2 from rfl] at h0
  rw [show Fin.rev (1 : Fin 3) = 1 from rfl] at h1
  rw [show Fin.rev (2 : Fin 3) = 0 from rfl] at h2
  unfold gIns all3
  iintro ⟨⟨R0, R1, R2⟩, ⟨A0, A1, A2⟩, T0, T1, T2⟩
  ihave H0 := h0 $$ [R0 A0 T0]
  · isplitl [R0]; · iexact R0
    isplitl [A0] <;> iassumption
  ihave H1 := h1 $$ [R1 A1 T1]
  · isplitl [R1]; · iexact R1
    isplitl [A1] <;> iassumption
  ihave H2 := h2 $$ [R2 A2 T2]
  · isplitl [R2]; · iexact R2
    isplitl [A2] <;> iassumption
  icases H0 with ⟨A0, B0, C0⟩
  icases H1 with ⟨A1, B1, C1⟩
  icases H2 with ⟨A2, B2, C2⟩
  isplitl [A0 A1 A2]
  · isplitl [A0]; · iexact A0
    isplitl [A1] <;> iassumption
  isplitl [B0 B1 B2]
  · isplitl [B2]; · iexact B2
    isplitl [B1] <;> iassumption
  isplitl [C2]; · iexact C2
  isplitl [C1] <;> iassumption

theorem rOuts_eq (d : Dev nD) (n : ℕ) : rOuts (F := F) d n ⊢ all3 fun k => bigSepL [0, 1, 2] (rO d (n + 1) k) := by
  have e (k : Fin 3) : bigSepL [0, 1, 2] (rOut (F := F) d n k.rev) = bigSepL [0, 1, 2] (rO d (n + 1) k) := bigSepL_congr fun s _ => rOut_eq d n k s
  have e0 := e 0; have e1 := e 1; have e2 := e 2
  rw [show Fin.rev (0 : Fin 3) = 2 from rfl] at e0
  rw [show Fin.rev (1 : Fin 3) = 1 from rfl] at e1
  rw [show Fin.rev (2 : Fin 3) = 0 from rfl] at e2
  unfold rOuts all3
  rw [e0, e1, e2]
  iintro ⟨H0, H1, H2⟩
  isplitl [H2]; · iexact H2
  isplitl [H1] <;> iassumption

/-- What a device holds before layer `n`, its tokens aside. -/
def lay (m : (ℓ : Loc nD τ sig) → Buf (Elt F) ℓ) (d : Dev nD) (n : ℕ) : sProp 𝕄 :=
  iprop(slots m d (2 * n) ∗ parts d all8 (Xn m n) ∗ (∃ a, accW d a) ∗ gOuts d n ∗ all3 (rsRest d n) ∗ all3 (rEnds d n))

theorem An_zero (d : Dev nD) (n : Fin 3) : An m n.val 0 d = tilesX m (Xn m n.val) d n := by
  have e : Fin.ofNat 3 n.val = n := Fin.ext (Nat.mod_eq_of_lt n.isLt)
  unfold An
  rw [accR, e]

theorem layer_spec (d : Dev nD) (n : Fin 3) (Rem : List Msg) (h : ∀ μ ∈ Rem, 4 + 6 * (n.val + 1) < μ.lvl) :
    Spec m K d (layer d n) iprop((lay m d n.val ∗ all3 (rsToks d n.val) ∗ all3 (agTks d (n.val + 1))) ∗ ow d (rsMs n ++ (agMs n.succ ++ Rem)))
      iprop(lay m d (n.val + 1) ∗ ow d Rem) := by
  unfold layer
  refine Spec.seq
    (((tiles_spec (m := m) (K := K) d n (Xn m n.val) (rsMs n ++ (agMs n.succ ++ Rem))).frame
      iprop((gOuts d n.val ∗ all3 (rsRest d n.val) ∗ all3 (rsToks d n.val)) ∗ all3 (agTks d (n.val + 1)))).pre ?_)
    (Spec.seq (((rs_spec (m := m) (K := K) d n (agMs n.succ ++ Rem) ?hlv).frame
        iprop((slots m d (2 * (n.val + 1)) ∗ parts d own (Xn m n.val)) ∗ all3 (agAll d (n.val + 1)) ∗ all3 (agTks d (n.val + 1)))).pre ?_)
      (Spec.seq (((turn_spec (m := m) (K := K) d n (Xn m n.val)).frame
          iprop((slots m d (2 * (n.val + 1)) ∗ ow d (agMs n.succ ++ Rem)) ∗ gIns d (n.val + 1) ∗ all3 (rsRest d (n.val + 1)) ∗ all3 (rEnds d (n.val + 1)))).pre ?_)
        (((ag_spec (m := m) (K := K) d n.succ Rem (by rw [Fin.val_succ]; exact h)).frame
          iprop((slots m d (2 * (n.val + 1)) ∗ ∃ a, accW d a) ∗ all3 (rsRest d (n.val + 1)) ∗ all3 (rEnds d (n.val + 1)))).conseq ?_ ?_)))
  case hlv =>
    intro μ hμ
    rcases List.mem_append.mp hμ with hμ | hμ
    · obtain ⟨k, -, hk⟩ := List.mem_flatMap.mp hμ
      have e := agKs_lvl n.succ k μ hk
      rw [Fin.val_succ] at e
      omega
    · have := h μ hμ; omega
  · unfold lay
    rw [all_eq]
    iintro ⟨⟨⟨H1, H2, H3, H4, H5, H6⟩, H7, H8⟩, HO⟩
    isplitl [H1 H2 H3 HO]
    · isplitl [H1]; · iexact H1
      isplitr [H3]
      · isplitl [H2] <;> iassumption
      iexact H3
    isplitr [H8]
    · isplitl [H4]; · iexact H4
      isplitl [H5] <;> iassumption
    iexact H8
  · rw [← all_eq, An_zero]
    iintro ⟨⟨H1, ⟨H2, HO⟩, H3⟩, ⟨H4, H5, H6⟩, H7⟩
    ihave H := (scatter_all d n.val n.isLt (Xn m n.val)) $$ [H2 H4 H5 H6]
    · isplitl [H4]; · iexact H4
      isplitl [H2]; · iexact H2
      isplitl [H5] <;> iassumption
    icases H with ⟨H4, H5, H6⟩
    isplitl [H5 H3 HO]
    · isplitr [HO]
      · isplitl [H5]; · iexact H5
        iexact H3
      iexact HO
    isplitl [H1 H6]
    · isplitl [H1]; · iexact H1
      iexact H6
    isplitl [H4] <;> iassumption
  · iintro ⟨⟨⟨H1, H2⟩, HO⟩, ⟨H3, H4⟩, H5, H6⟩
    ihave H1 := (rOuts_eq d n.val) $$ H1
    ihave H := (gather_all d (n.val + 1)) $$ [H1 H5 H6]
    · isplitl [H1]; · iexact H1
      isplitl [H5] <;> iassumption
    isplitl [H2 H4]
    · isplitl [H4] <;> iassumption
    isplitl [H3 HO]
    · isplitl [H3] <;> iassumption
    iexact H
  · rw [Fin.val_succ]
    iintro ⟨⟨H1, H2⟩, ⟨H3, HO⟩, H4, H5⟩
    isplitl [H1 H4 HO]
    · isplitl [H1 H4]
      · isplitl [H4] <;> iassumption
      iexact HO
    isplitl [H2 H3]
    · isplitl [H3]; · iexact H3
      iexists _; iexact H2
    iexact H5
  · rw [Fin.val_succ]
    unfold lay
    iintro ⟨⟨⟨H1, H2⟩, HO⟩, ⟨H3, H4⟩, H5, H6⟩
    isplitr [HO]
    · isplitl [H3]; · iexact H3
      isplitl [H2]; · iexact H2
      isplitl [H4]; · iexact H4
      isplitl [H1]; · iexact H1
      isplitl [H5] <;> iassumption
    iexact HO

end Cert.KernelIdeal.Run

end
-- ==== Proof.Body.lean ====
module

public import proofs.«01_k».proof.Proof.Layer
public import Idealize.ShloMosaic.Lib.Pipeline.TalkSched

@[expose] public section

noncomputable section

/- The start of the kernel, its end, and the whole of it. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

theorem Spec.preR {c : Dev nD} {p : P F PUnit} {A B A' : sProp (MT nD τ sig ℕ (Elt F) ℕ UU ℕ)} (h : Spec m K c p A B) (hA : iprop(Recs m K ∗ A') ⊢ A) : Spec m K c p A' B := fun Q => by
  iintro ⟨#HR, HA, HQ⟩
  iapply (h Q)
  isplitr; · iexact HR
  isplitl [HA]
  · iapply hA
    isplitr; · iexact HR
    iexact HA
  iexact HQ

theorem all3_eq (Φ : Fin 3 → sProp 𝕄) : all3 Φ = bigSepL [0, 1, 2] Φ := by
  have h5 (A : sProp 𝕄) : iprop(A ∗ emp) = A := equiv_iff.mp sep_emp
  rw [bigSepL_cons', bigSepL_cons', bigSepL_cons']
  show _ = iprop(Φ 0 ∗ Φ 1 ∗ Φ 2 ∗ emp)
  rw [h5]; rfl

theorem bigSepL_swap {I J : Type} (l : List I) (l' : List J) (Φ : I → J → sProp 𝕄) :
    bigSepL l (fun i => bigSepL l' (Φ i)) = bigSepL l' fun j => bigSepL l fun i => Φ i j := by
  induction l with
  | nil => exact (Spec.bigSepL_emp l').symm
  | cons i l ih =>
    rw [bigSepL_cons', ih, ← bigSepL_sep]
    exact bigSepL_congr fun j _ => (bigSepL_cons' i l fun i => Φ i j).symm

theorem kb_perm : ∀ s, ([0, 1, 2] : List (Fin 3)).Perm (([0, 1, 2] : List (Fin 3)).map (kb s)) := by decide
/-- By partner or by step. -/
theorem kb_swap (Φ : Fin 3 → Fin 3 → sProp 𝕄) :
    (bigSepL [0, 1, 2] fun k => bigSepL [0, 1, 2] fun s => Φ s k) = bigSepL [0, 1, 2] fun δ => bigSepL [0, 1, 2] fun s => Φ s (kb s δ) := by
  rw [bigSepL_swap, bigSepL_swap [0, 1, 2] [0, 1, 2] fun δ s => Φ s (kb s δ)]
  refine bigSepL_congr fun s _ => ?_
  rw [TalkSites.bigSepL_perm (kb_perm s) (by decide), bigSepL_map]

/-! ## The partners' first message -/

/-- What a device hands a partner at the start. -/
def give (d : Dev nD) (δ : Fin 3) : sProp 𝕄 := bigSepL [0, 1, 2] fun s => xgr (F := F) d s (kb s δ)

theorem give_all (d : Dev nD) (f : XB F) : xfW d f ⊢ iprop(rowW d f ∗ bigSepL [0, 1, 2] (give d)) := by
  have h (k : Fin 3) : parts d (inC k) f ⊢ bigSepL [0, 1, 2] fun s => xgr d s k := by
    unfold parts inC xgr
    refine bigSepL_mono fun s _ => ?_
    rw [bigSepL_map]
    refine bigSepL_mono fun l _ => ?_
    rw [xr_pd]
    iintro H; iexists f; iexact H
  have e : bigSepL [0, 1, 2] (give d) = all3 fun k => bigSepL [0, 1, 2] fun s => xgr (F := F) d s k := by
    rw [all3_eq, kb_swap fun s k => xgr (F := F) d s k]; rfl
  rw [e, ← all_eq, all8_parts, own_eq]
  unfold all3
  iintro ⟨⟨⟨H, H0⟩, H1⟩, H2⟩
  isplitl [H]; · iexact H
  isplitl [H0]; · iapply (h 0); iexact H0
  isplitl [H1]; · iapply (h 1); iexact H1
  iapply (h 2); iexact H2

theorem got (d : Dev nD) : iprop(Recs m K ∗ bigSepL [0, 1, 2] (barPay (F := F) d)) ⊢ all3 fun k => bigSepL [0, 1, 2] fun s => xgn (F := F) (pd d (agBit s k)) s k 0 := by
  have e : bigSepL [0, 1, 2] (barPay (F := F) d) = bigSepL [0, 1, 2] fun k => bigSepL [0, 1, 2] fun s => xgr (F := F) (pd d (agBit s k)) s k := by
    rw [kb_swap fun s k => xgr (F := F) (pd d (agBit s k)) s k]
    unfold barPay
    refine bigSepL_congr fun δ _ => bigSepL_congr fun s _ => ?_
    rw [kb_bit]
  have h {I : Type} (l : List I) (Φ Ψ : I → sProp 𝕄) (h : ∀ i, iprop(Recs m K ∗ Φ i) ⊢ Ψ i) : iprop(Recs m K ∗ bigSepL l Φ) ⊢ bigSepL l Ψ := by
    induction l with
    | nil => show _ ⊢ iprop(emp); iintro -; iempintro
    | cons i l ih =>
      rw [bigSepL_cons', bigSepL_cons']
      iintro ⟨#HR, H1, H2⟩
      isplitl [H1]
      · iapply (h i); isplitr; · iexact HR
        iexact H1
      iapply ih; isplitr; · iexact HR
      iexact H2
  rw [e, all3_eq]
  refine h _ _ _ fun k => h _ _ _ fun s => ?_
  unfold xgr xgn
  refine h _ _ _ fun l => ?_
  iintro ⟨HR, H⟩
  isplitl [H]; · iexact H
  iapply (reached_of m K (pd d (agBit s k)) (.agr s l)); iexact HR

theorem signal_spec (d : Dev nD) (δ : Fin 3) (Rem : List Msg) :
    Spec m K d (semSignalWord (pd d (bb δ)) barS 1#32) iprop((dutyTok ER (cell (pd d (bb δ)) .bar) 0 δ ∗ give (F := F) d δ) ∗ ow d (Msg.bar δ :: Rem)) iprop(ow d Rem) := fun Q => by
  unfold semSignalWord ow
  iintro ⟨#HR, ⟨⟨Ht, Hg⟩, %W, HO⟩, HQ⟩
  iapply (Rounds.wp_signal 𝒱₀ ER (Rd m) (d : Thread nD τ) none (dst := (pd d (bb δ) : Thread nD τ)) (sem := barS) (r := 0) (d := δ) (κ := K (pd d (bb δ), .bar))
      (by rw [show (Rd m).duties ((pd d (bb δ) : Thread nD τ), .reg barS) 0 = dset .bar from Rd_duties m (pd d (bb δ)) .bar 0 (by decide)]; exact Finset.mem_univ _) (Rd_amount m _ .bar 0 δ) 0 (O₀ := owe d (Msg.bar δ :: Rem)) (owe d Rem) (owe_cons d (Msg.bar δ) Rem) (W := W)) $$ [HO Ht Hg]
  · isplitr; · iapply (inv_of m K (pd d (bb δ)) .bar); iexact HR
    isplitl [HO]; · iexact HO
    isplitl [Ht]; · iexact Ht
    isplitl [Hg]
    · iapply (show give d δ ⊢ (Rd m).payload ((pd d (bb δ) : Thread nD τ), .reg barS) 0 δ from by
        rw [show (Rd m).payload ((pd d (bb δ) : Thread nD τ), .reg barS) 0 δ = pay m (pd d (bb δ)) 0 δ .bar from Rd_payload m _ .bar 0 δ]; show _ ⊢ barPay (pd d (bb δ)) δ; unfold barPay give; rw [pd_pd])
      iexact Hg
    iapply (reached_of m K (pd d (bb δ)) .bar); iexact HR
  iintro HO
  rw [wp_ret]
  imodintro
  iapply HQ
  iexists W; iexact HO

theorem barWait_spec (d : Dev nD) (Rem : List Msg) (h : ∀ μ ∈ Rem, 1 < μ.lvl) :
    Spec m K d (semWaitWord barS 3#32) iprop((atPos ER (cell d .bar) 0 ∅ 0 ∗ cred (tallyAt (cell d .bar) 0 3)) ∗ ow d Rem)
      iprop((atPos ER (cell d .bar) 1 ∅ 0 ∗ bigSepL [0, 1, 2] (barPay (F := F) d)) ∗ ow d Rem) := fun Q => by
  unfold semWaitWord ow
  iintro ⟨#HR, ⟨⟨Hat, Hcr⟩, %W, HO⟩, HQ⟩
  iapply (Rounds.wp_wait_rest_token 𝒱₀ ER (Rd m) (d : Thread nD τ) none (κ := K (d, .bar)) (sm := csem .bar) (k' := 3) (fun Kt => rfl) (Set.mem_univ _) 0 (O := owe d Rem) (W := W) (R := 0) (m := 0) (T := ∅)
      (by rw [Nat.zero_add, Rd_expect_bar])) $$ [Hat Hcr HO]
  · isplitr; · iapply (inv_of m K d .bar); iexact HR
    isplitl [Hcr]; · iexact Hcr
    isplitl [HO]; · iexact HO
    isplitr
    · iapply (mayWait d (csem .bar) 0 (by decide) Rem (fun μ hμ => by rw [show lv ((d : Thread nD τ), csem .bar) 0 = 1 from lv_cell d .bar 0]; exact h μ hμ))
      iapply (lev_of m K); iexact HR
    iexact Hat
  iintro ⟨HO, Hat, -, Hpay⟩
  rw [wp_ret]
  imodintro
  iapply HQ
  isplitr [HO]
  · isplitl [Hat]; · iexact Hat
    iapply (Entails.of_eq (Rd_rest_bar m d)); iexact Hpay
  iexists _; iexact HO

/-! ## The first weights -/

/-- A slot before its first round. -/
def slotIni (m : (ℓ : Loc nD τ sig) → Buf (Elt F) ℓ) (d : Dev nD) (q : Fin 4) : sProp 𝕄 :=
  iprop(wat d q 0 ∗ wbuf d q ∗ bigSepL (List.range 6) fun r => iprop(srcs m d q r ∗ wtoks d q r))
def slotsIni (m : (ℓ : Loc nD τ sig) → Buf (Elt F) ℓ) (d : Dev nD) : sProp 𝕄 := bigSepL [0, 1, 2, 3] fun q : Fin 4 => slotIni m d q

theorem slot4 (Φ : Fin 4 → sProp 𝕄) : (bigSepL [0, 1, 2, 3] fun q : Fin 4 => Φ q) = bigSepL [0, 1, 2, 3] fun t : Fin 8 => Φ (sl4 t) := by
  rw [show ([0, 1, 2, 3] : List (Fin 4)) = ([0, 1, 2, 3] : List (Fin 8)).map sl4 by decide, bigSepL_map]

theorem issues_spec (d : Dev nD) : Spec m K d (seqL [0, 1, 2, 3] fun t : Fin 8 => issue 0 t (sl4 t)) (slotsIni m d) (slots m d 0) := by
  have h := Spec.each' (m := m) (K := K) (c := d) (fun t : Fin 8 => issue 0 t (sl4 t)) [0, 1, 2, 3] (fun t => slotIni m d (sl4 t)) (fun t => slotSt m d (sl4 t) 0) iprop(emp) fun t ht => by
    have hT : t = slT (sl4 t) 0 := by revert t; decide
    refine ((issue_spec (m := m) (K := K) d 0 t (sl4 t) 0 (by decide) (by decide) hT).frame (bigSepL (List.range' 1 5) fun r => iprop(srcs m d (sl4 t) r ∗ wtoks d (sl4 t) r))).conseq ?_ ?_
    · unfold slotIni
      rw [show List.range 6 = 0 :: List.range' 1 5 by decide, bigSepL_cons']
      iintro ⟨⟨H1, H2, ⟨H3, H4⟩, H5⟩, -⟩
      isplitr [H5]
      · isplitl [H1 H2]
        · isplitl [H1] <;> iassumption
        isplitl [H3] <;> iassumption
      iexact H5
    · unfold slotSt
      rw [if_pos (by decide)]
      iintro ⟨⟨H1, H2⟩, H3⟩
      isplitl; swap; · iempintro
      isplitl [H1]; · iexact H1
      isplitl [H2]; · iexact H2
      isplitr; · iapply (show iprop(emp) ⊢ bigSepL (List.range 0) (srcs m d (sl4 t)) from .rfl); iempintro
      iexact H3
  unfold slotsIni slots
  rw [slot4, slot4]
  refine h.conseq ?_ ?_
  · iintro H; isplitl; · iexact H
    iempintro
  · iintro ⟨H, -⟩; iexact H

/-! ## The start -/

abbrev arg0M : Memref sig .tc .vmem S64x2048 .f32 := Memref.whole cc0_stg0_0
abbrev arg7M : Memref sig .tc .vmem S512x2048 .f32 := Memref.whole cc0_stg1_0
def inW (m : (ℓ : Loc nD τ sig) → Buf (Elt F) ℓ) (d : Dev nD) : sProp 𝕄 := ((d : Thread nD τ).loc cc0_stg0_0) ↦{fullShare} (xstg m d)
def outX (d : Dev nD) (f : (cc0_stg1_0 : Ref sig .tc).ty.Contents (Elt F)) : sProp 𝕄 := ((d : Thread nD τ).loc cc0_stg1_0) ↦{fullShare} f

/-- The cells and the exchange buffers of a scatter step before the first layer. -/
def rIni (d : Dev nD) (k s : Fin 3) : sProp 𝕄 := iprop(rsAt (F := F) d 0 s k.rev ∗ (∃ f : EB F, sp d (s, k.rev) f) ∗ ∃ f : EB F, rp d (s, k.rev) f)

def ini (m : (ℓ : Loc nD τ sig) → Buf (Elt F) ℓ) (d : Dev nD) : sProp 𝕄 :=
  iprop((bigSepL [0, 1, 2] fun δ => dutyTok ER (cell (pd d (bb δ)) .bar) 0 δ) ∗ (∃ f, xfW d f) ∗ (atPos ER (cell d .bar) 0 ∅ 0 ∗ cred (tallyAt (cell d .bar) 0 3)) ∗ slotsIni m d ∗ inW m d
    ∗ all3 (fun k => bigSepL [0, 1, 2] (rIni d k)) ∗ all3 (agAll d 0) ∗ all3 (agTks d 0))

theorem read_in (m : (ℓ : Loc nD τ sig) → Buf (Elt F) ℓ) (d : Dev nD) :
    (arg0M : Memref sig .tc .vmem S64x2048 .f32).view.readAt (Elt F) (Rect.unit (s := S64x2048) ![0, 0] S64x2048.size inb_S64x2048_S64x2048_0_0).toLoadRect (xstg m d) = xstg m d :=
  Memref.readAt_unit_zero (Elt F) cc0_stg0_0 hz _ _

theorem rows_spec (d : Dev nD) (f : XB F) :
    Spec m K d (do
      let v : Vec F S64x2048 .f32 ← ld arg0M (Rect.unit (s := S64x2048) ![0, 0] S64x2048.size inb_S64x2048_S64x2048_0_0) h_S64x2048
      let _ : Vec F S64x2048 .bf16 ← ld xfM (rowR d) h_S64x2048
      Prog.lift (.store xfM (rowR d) (k0_pay2 v) Finset.univ (View.stores_vmem h_S64x2048 ((Memref.isWhole_whole cc0_scratch0).storeExact_slice rfl _ (k0_off1_packedbf16 d)) (fun _ => rfl)) (.inl rfl)))
      iprop(rowW d f ∗ inW m d) iprop(rowW d (Xn m 0) ∗ inW m d) := fun Q => by
  unfold ld
  iintro ⟨#HR, ⟨Hx, Ha⟩, HQ⟩
  rw [wp_bind]
  unfold inW rowW Prog.lift
  iapply (wp_load 𝒱₀ (d : Thread nD τ) none Set.univ (m := arg0M) (S := Finset.univ) (Finset.subset_univ _)) $$ [Ha]
  · iexact Ha
  iintro Ha
  rw [wp_ret]
  imodintro
  rw [wp_bind]
  iapply (wp_load 𝒱₀ (d : Thread nD τ) none Set.univ (m := xfM) (S := rS (xr d 0)) (rowR_sub d)) $$ [Hx]
  · iexact Hx
  iintro Hx
  rw [wp_ret]
  imodintro
  rw [read_in]
  iapply (row_wp d f (fun c => k0_pay2 (xstg m c)) Q)
  unfold rowW
  isplitl [Hx]; · iexact Hx
  iintro Hx
  iapply HQ
  isplitl [Hx]; · iexact Hx
  iexact Ha

theorem start_spec (d : Dev nD) (Rem : List Msg) (h : ∀ μ ∈ Rem, 1 < μ.lvl) :
    Spec m K d (start arg0M d) iprop(ini m d ∗ ow d (barMs ++ Rem))
      iprop((gIns d 0 ∗ parts d own (Xn m 0)) ∗ (slots m d 0 ∗ all3 (rsRest d 0) ∗ all3 (rEnds d 0)) ∗ (atPos ER (cell d .bar) 1 ∅ 0 ∗ inW m d) ∗ ow d Rem) := by
  unfold start
  -- what stays through the signals and the wait
  let R : XB F → sProp 𝕄 := fun f => iprop(rowW d f ∗ slotsIni m d ∗ inW m d ∗ all3 (fun k => bigSepL [0, 1, 2] (rIni d k)) ∗ all3 (agAll d 0) ∗ all3 (agTks d 0))
  let G : Fin 3 → sProp 𝕄 := fun δ => iprop(dutyTok ER (cell (pd d (bb δ)) .bar) 0 δ ∗ give (F := F) d δ)
  let W : sProp 𝕄 := iprop(atPos ER (cell d .bar) 0 ∅ 0 ∗ cred (tallyAt (cell d .bar) 0 3))
  suffices H : ∀ f, Spec m K d (start arg0M d) iprop((all3 G ∗ W ∗ R f) ∗ ow d (barMs ++ Rem))
      iprop((gIns d 0 ∗ parts d own (Xn m 0)) ∗ (slots m d 0 ∗ all3 (rsRest d 0) ∗ all3 (rEnds d 0)) ∗ (atPos ER (cell d .bar) 1 ∅ 0 ∗ inW m d) ∗ ow d Rem) by
    refine (Spec.exists_ H).pre ?_
    unfold ini
    iintro ⟨⟨H1, ⟨%f, H2⟩, H3, H4, H5, H6, H7, H8⟩, HO⟩
    iexists f
    isplitr [HO]; swap; · iexact HO
    ihave H := (give_all d f) $$ H2
    icases H with ⟨H2, Hg⟩
    isplitl [H1 Hg]
    · rw [all3_eq]
      iapply (Entails.of_eq (bigSepL_sep [0, 1, 2] (fun δ => dutyTok ER (cell (pd d (bb δ)) .bar) 0 δ) (give (F := F) d)).symm)
      isplitl [H1]; · iexact H1
      iexact Hg
    isplitl [H3]; · iexact H3
    isplitl [H2]; · iexact H2
    isplitl [H4]; · iexact H4
    isplitl [H5]; · iexact H5
    isplitl [H6]; · iexact H6
    isplitl [H7]; · iexact H7
    iexact H8
  intro f
  unfold start
  refine Spec.seq (((signal_spec (m := m) (K := K) d 0 (Msg.bar 1 :: Msg.bar 2 :: Rem)).frame iprop(G 1 ∗ G 2 ∗ W ∗ R f)).pre ?_)
    (Spec.seq (((signal_spec (m := m) (K := K) d 1 (Msg.bar 2 :: Rem)).frame iprop(G 2 ∗ W ∗ R f)).pre ?_)
    (Spec.seq (((signal_spec (m := m) (K := K) d 2 Rem).frame iprop(W ∗ R f)).pre ?_)
    (Spec.seq (((barWait_spec (m := m) (K := K) d Rem h).frame (R f)).pre ?_)
    (Spec.seq (((issues_spec (m := m) (K := K) d).frame iprop(rowW d f ∗ inW m d ∗ (atPos ER (cell d .bar) 1 ∅ 0 ∗ gIns d 0 ∗ all3 (rsRest d 0) ∗ all3 (rEnds d 0)) ∗ ow d Rem)).preR ?_)
    (((rows_spec (m := m) (K := K) d f).frame iprop((slots m d 0 ∗ (atPos ER (cell d .bar) 1 ∅ 0 ∗ gIns d 0 ∗ all3 (rsRest d 0) ∗ all3 (rEnds d 0))) ∗ ow d Rem)).conseq ?_ ?_)))))
  · show iprop((all3 G ∗ W ∗ R f) ∗ ow d (Msg.bar 0 :: Msg.bar 1 :: Msg.bar 2 :: Rem)) ⊢ iprop((G 0 ∗ ow d (Msg.bar 0 :: Msg.bar 1 :: Msg.bar 2 :: Rem)) ∗ G 1 ∗ G 2 ∗ W ∗ R f)
    unfold all3
    generalize G 0 = g0; generalize G 1 = g1; generalize G 2 = g2; generalize W = w; generalize R f = r
    iintro ⟨⟨⟨H0, H1, H2⟩, H3, H4⟩, HO⟩
    isplitl [H0 HO]
    · isplitl [H0] <;> iassumption
    isplitl [H1]; · iexact H1
    isplitl [H2]; · iexact H2
    isplitl [H3] <;> iassumption
  · show iprop(ow d (Msg.bar 1 :: Msg.bar 2 :: Rem) ∗ G 1 ∗ G 2 ∗ W ∗ R f) ⊢ iprop((G 1 ∗ ow d (Msg.bar 1 :: Msg.bar 2 :: Rem)) ∗ G 2 ∗ W ∗ R f)
    generalize G 1 = g1; generalize G 2 = g2; generalize W = w; generalize R f = r
    iintro ⟨HO, H1, H2, H3, H4⟩
    isplitl [H1 HO]
    · isplitl [H1] <;> iassumption
    isplitl [H2]; · iexact H2
    isplitl [H3] <;> iassumption
  · show iprop(ow d (Msg.bar 2 :: Rem) ∗ G 2 ∗ W ∗ R f) ⊢ iprop((G 2 ∗ ow d (Msg.bar 2 :: Rem)) ∗ W ∗ R f)
    generalize G 2 = g2; generalize W = w; generalize R f = r
    iintro ⟨HO, H2, H3, H4⟩
    isplitl [H2 HO]
    · isplitl [H2] <;> iassumption
    isplitl [H3] <;> iassumption
  · show iprop(ow d Rem ∗ W ∗ R f) ⊢ iprop((W ∗ ow d Rem) ∗ R f)
    generalize W = w; generalize R f = r
    iintro ⟨HO, H3, H4⟩
    isplitl [H3 HO]
    · isplitl [H3] <;> iassumption
    iexact H4
  · show iprop(Recs m K ∗ ((atPos ER (cell d .bar) 1 ∅ 0 ∗ bigSepL [0, 1, 2] (barPay (F := F) d)) ∗ ow d Rem)
        ∗ (rowW d f ∗ slotsIni m d ∗ inW m d ∗ all3 (fun k => bigSepL [0, 1, 2] (rIni d k)) ∗ all3 (agAll d 0) ∗ all3 (agTks d 0)))
      ⊢ iprop(slotsIni m d ∗ rowW d f ∗ inW m d ∗ (atPos ER (cell d .bar) 1 ∅ 0 ∗ gIns d 0 ∗ all3 (rsRest d 0) ∗ all3 (rEnds d 0)) ∗ ow d Rem)
    have e : iprop((all3 fun k => bigSepL [0, 1, 2] (rIni (F := F) d k)) ∗ all3 fun k => bigSepL [0, 1, 2] fun s => xgn (F := F) (pd d (agBit s k)) s k 0)
        ⊢ all3 fun k => bigSepL [0, 1, 2] (rO (F := F) d 0 k) := by
      rw [all3_eq, all3_eq, all3_eq, ← bigSepL_sep]
      refine bigSepL_mono fun k _ => ?_
      rw [← bigSepL_sep]
      refine bigSepL_mono fun s _ => ?_
      unfold rIni rO
      rw [ag_rev]
      iintro ⟨⟨H1, H2, H3⟩, H4⟩
      isplitl [H1]; · iexact H1
      isplitl [H2]; · iexact H2
      isplitl [H3] <;> iassumption
    iintro ⟨#HR, ⟨⟨Hat, Hg⟩, HO⟩, H1, H2, H3, H4, H5, H6⟩
    ihave Hg := (got (m := m) (K := K) d) $$ [Hg]
    · isplitr; · iexact HR
      iexact Hg
    ihave H4 := e $$ [H4 Hg]
    · isplitl [H4] <;> iassumption
    ihave H := (gather_all d 0) $$ [H4 H5 H6]
    · isplitl [H4]; · iexact H4
      isplitl [H5] <;> iassumption
    isplitl [H2]; · iexact H2
    isplitl [H1]; · iexact H1
    isplitl [H3]; · iexact H3
    isplitr [HO]
    · isplitl [Hat]; · iexact Hat
      iexact H
    iexact HO
  · iintro ⟨H1, H2, H3, H4, HO⟩
    isplitl [H2 H3]
    · isplitl [H2] <;> iassumption
    isplitr [HO]
    · isplitl [H1] <;> iassumption
    iexact HO
  · rw [own_eq]
    iintro ⟨⟨H1, H2⟩, ⟨H3, H4, H5, H6⟩, HO⟩
    isplitl [H1 H5]
    · isplitl [H5] <;> iassumption
    isplitl [H3 H6]
    · isplitl [H3] <;> iassumption
    isplitr [HO]
    · isplitl [H4] <;> iassumption
    iexact HO

/-! ## The end -/

theorem fin_spec (d : Dev nD) (f : (cc0_stg1_0 : Ref sig .tc).ty.Contents (Elt F)) (X : XB F) :
    Spec m K d (fin arg7M) iprop(xfW d X ∗ outX d f) iprop(xfW d X ∗ outX d (k0_pay1 X)) := fun Q => by
  unfold fin ld Prog.lift xfW outX
  simp only [Prog.bind_op, Prog.bind_ret]
  iintro ⟨#HR, ⟨Hx, Ho⟩, HQ⟩
  iapply (wp_load 𝒱₀ (d : Thread nD τ) none Set.univ (m := xfM) (S := Finset.univ) (Finset.subset_univ _)) $$ [Hx]
  · iexact Hx
  iintro Hx
  iapply (wp_load 𝒱₀ (d : Thread nD τ) none Set.univ (m := arg7M) (S := Finset.univ) (Finset.subset_univ _)) $$ [Ho]
  · iexact Ho
  iintro Ho
  iapply (wp_store 𝒱₀ (d : Thread nD τ) none Set.univ (m := arg7M) (r := fullR) (Mk := Finset.univ) (S := Finset.univ) (Finset.subset_univ _)) $$ [Ho]
  · iexact Ho
  iintro Ho
  rw [show ((arg7M : Memref sig .tc .vmem S512x2048 .f32).access fullR).write (Elt F) f (k0_pay1 (xfM.view.readAt (Elt F) fullR.toLoadRect X)) Finset.univ = k0_pay1 X from by
    rw [xf_full]; exact Memref.write_access_unit_zero_univ (Elt F) cc0_stg1_0 hz _ f _, wp_ret]
  imodintro
  iapply HQ
  isplitl [Hx]; · iexact Hx
  iexact Ho

/-! ## The whole kernel -/

def pre (m : (ℓ : Loc nD τ sig) → Buf (Elt F) ℓ) (d : Dev nD) : sProp 𝕄 :=
  iprop(ini m d ∗ (∃ a, accW d a) ∗ (∃ f, outX d f) ∗ (all3 (rsToks d 0) ∗ all3 (agTks d 1)) ∗ (all3 (rsToks d 1) ∗ all3 (agTks d 2)) ∗ (all3 (rsToks d 2) ∗ all3 (agTks d 3)))
def fini (m : (ℓ : Loc nD τ sig) → Buf (Elt F) ℓ) (d : Dev nD) : sProp 𝕄 :=
  iprop(lay m d 3 ∗ outX d (k0_pay1 (Xn m 3)) ∗ atPos ER (cell d .bar) 1 ∅ 0 ∗ inW m d)

def rem3 : List Msg := []
def rem2 : List Msg := rsMs 2 ++ (agMs 3 ++ [])
def rem1 : List Msg := rsMs 1 ++ (agMs 2 ++ rem2)
def rem0 : List Msg := rsMs 0 ++ (agMs 1 ++ rem1)
theorem allMs_eq : allMs = barMs ++ (agMs 0 ++ rem0) := by
  unfold allMs rem0 rem1 rem2; rw [List.append_nil]
theorem rem_lvl : (∀ μ ∈ agMs 0 ++ rem0, 1 < μ.lvl) ∧ (∀ μ ∈ rem0, 4 < μ.lvl) ∧ (∀ μ ∈ rem1, 10 < μ.lvl) ∧ (∀ μ ∈ rem2, 16 < μ.lvl) := by
  refine ⟨?_, ?_, ?_, ?_⟩ <;> decide +kernel

theorem prog_spec (d : Dev nD) : Spec m K d (prog arg0M arg7M) iprop(pre m d ∗ ow d allMs) iprop(fini m d ∗ ow d []) := by
  have main : Spec m K d (start arg0M d >>= fun _ => ag d >>= fun _ => seqL [0, 1, 2] (layer d) >>= fun _ => fin arg7M) iprop(pre m d ∗ ow d allMs) iprop(fini m d ∗ ow d []) := by
    rw [allMs_eq]
    let E : sProp 𝕄 := iprop((∃ f, outX (F := F) d f) ∗ atPos ER (cell d .bar) 1 ∅ 0 ∗ inW m d)
    let T (n : ℕ) : sProp 𝕄 := iprop(all3 (rsToks (F := F) d n) ∗ all3 (agTks d (n + 1)))
    refine Spec.seq (((start_spec (m := m) (K := K) d (agMs 0 ++ rem0) rem_lvl.1).frame iprop((∃ a, accW d a) ∗ (∃ f, outX d f) ∗ T 0 ∗ T 1 ∗ T 2)).pre ?_)
      (Spec.seq (((ag_spec (m := m) (K := K) d 0 rem0 rem_lvl.2.1).frame iprop((slots m d 0 ∗ (∃ a, accW d a) ∗ all3 (rsRest d 0) ∗ all3 (rEnds d 0)) ∗ (T 0 ∗ T 1 ∗ T 2) ∗ E)).pre ?_)
      (Spec.seq (Spec.loop3 (B := iprop((lay m d 1 ∗ ow d rem1) ∗ T 1 ∗ T 2 ∗ E)) (C := iprop((lay m d 2 ∗ ow d rem2) ∗ T 2 ∗ E)) (D := iprop((lay m d 3 ∗ ow d []) ∗ E))
        (((layer_spec (m := m) (K := K) d 0 rem1 rem_lvl.2.2.1).frame iprop(T 1 ∗ T 2 ∗ E)).pre ?_)
        (((layer_spec (m := m) (K := K) d 1 rem2 rem_lvl.2.2.2).frame iprop(T 2 ∗ E)).pre ?_)
        (((layer_spec (m := m) (K := K) d 2 [] (fun μ h => absurd h List.not_mem_nil)).frame E).pre ?_))
        ((Spec.exists_ fun f => (fin_spec (m := m) (K := K) d f (Xn m 3)).frame iprop((slots m d 6 ∗ (∃ a, accW d a) ∗ gOuts d 3 ∗ all3 (rsRest d 3) ∗ all3 (rEnds d 3)) ∗ (atPos ER (cell d .bar) 1 ∅ 0 ∗ inW m d) ∗ ow d [])).conseq ?_ ?_)))
    · unfold pre
      iintro ⟨⟨H1, H2, H3, H4, H5, H6⟩, HO⟩
      isplitl [H1 HO]
      · isplitl [H1] <;> iassumption
      isplitl [H2]; · iexact H2
      isplitl [H3]; · iexact H3
      isplitl [H4]; · iexact H4
      isplitl [H5]; · iexact H5
      iexact H6
    · iintro ⟨⟨⟨H1, H1'⟩, ⟨H2, H2', H2''⟩, H3, HO⟩, H4, H5, H6⟩
      isplitl [H1 H1' HO]
      · isplitr [HO]
        · isplitl [H1]; · iexact H1
          iexact H1'
        iexact HO
      isplitl [H2 H2' H2'' H4]
      · isplitl [H2]; · iexact H2
        isplitl [H4]; · iexact H4
        isplitl [H2'] <;> iassumption
      isplitl [H6]; · iexact H6
      isplitl [H5]; · iexact H5
      iexact H3
    · iintro ⟨⟨⟨H1, H2⟩, HO⟩, ⟨H3, H4, H5, H6⟩, ⟨T0, T1, T2⟩, HE⟩
      isplitl [H1 H2 H3 H4 H5 H6 T0 HO]
      · isplitr [HO]; swap; · iexact HO
        isplitr [T0]; swap; · iexact T0
        unfold lay
        isplitl [H3]; · iexact H3
        isplitl [H2]; · iexact H2
        isplitl [H4]; · iexact H4
        isplitl [H1]; · iexact H1
        isplitl [H5]; · iexact H5
        iexact H6
      isplitl [T1]; · iexact T1
      isplitl [T2]; · iexact T2
      iexact HE
    · iintro ⟨⟨H, HO⟩, T1, T2, HE⟩
      isplitl [H HO T1]
      · isplitr [HO]; swap; · iexact HO
        isplitl [H]; · iexact H
        iexact T1
      isplitl [T2]; · iexact T2
      iexact HE
    · iintro ⟨⟨H, HO⟩, T2, HE⟩
      isplitl [H HO T2]
      · isplitr [HO]; swap; · iexact HO
        isplitl [H]; · iexact H
        iexact T2
      iexact HE
    · unfold lay
      rw [all_eq]
      iintro ⟨⟨⟨H1, H2, H3, H4, H5, H6⟩, HO⟩, ⟨%f, HE⟩, HE'⟩
      iexists f
      isplitl [H2 HE]
      · isplitl [H2] <;> iassumption
      isplitl [H1 H3 H4 H5 H6]
      · isplitl [H1]; · iexact H1
        isplitl [H3]; · iexact H3
        isplitl [H4]; · iexact H4
        isplitl [H5] <;> iassumption
      isplitl [HE']; · iexact HE'
      iexact HO
    · unfold fini lay
      rw [all_eq]
      iintro ⟨⟨H1, H2⟩, ⟨H3, H4, H5, H6, H7⟩, H8, HO⟩
      isplitr [HO]; swap; · iexact HO
      isplitr [H2 H8]
      · isplitl [H3]; · iexact H3
        isplitl [H1]; · iexact H1
        isplitl [H4]; · iexact H4
        isplitl [H5]; · iexact H5
        isplitl [H6] <;> iassumption
      isplitl [H2]; · iexact H2
      iexact H8
  intro Q
  unfold prog
  rw [wp_bind]
  unfold Prog.lift
  rw [wp_deviceId, wp_ret]
  iintro H
  imodintro
  iapply (main Q)
  iexact H

end Cert.KernelIdeal.Run

end
-- ==== Proof.Deal.lean ====
module

public import proofs.«01_k».proof.Proof.Body
public import Idealize.ShloMosaic.Lib.Pipeline.TalkSched

@[expose] public section

noncomputable section

/- How the cells, tokens and credit of all devices are dealt. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable {m : (ℓ : Loc nD τ sig) → Buf (Elt F) ℓ} {K : Dev nD × CK → ℕ}

theorem dev_swap {I : Type} (l : List I) (Φ : Dev nD → I → sProp 𝕄) :
    (bigSep Finset.univ fun c => bigSepL l (Φ c)) = bigSepL l fun x => bigSep Finset.univ fun c => Φ c x := by
  induction l with
  | nil => exact bigSep_emp_const Finset.univ
  | cons x l ih =>
    rw [bigSepL_cons', ← ih, ← bigSep_sep']
    exact bigSep_congr fun c _ => bigSepL_cons' x l (Φ c)

theorem sep_emp' (A : sProp 𝕄) : iprop(A ∗ emp) = A := equiv_iff.mp sep_emp
theorem one (Φ : Fin 3 → sProp 𝕄) : bigSepL [0] Φ = Φ 0 := by
  rw [bigSepL_cons']; exact sep_emp' _

theorem bigSep_get {I : Type} (l : List I) (Φ : I → sProp 𝕄) : (bigSep Finset.univ fun i : Fin l.length => Φ (l.get i)) = bigSepL l Φ := by
  rw [bigSep_univ_eq_bigSepL (List.finRange l.length) (by ext i; simp) (List.nodup_finRange _), ← bigSepL_map l.get (List.finRange l.length) Φ, List.map_get_finRange]

/-! ## The cells, kind by kind -/

theorem ck_split (Φ : CK → sProp 𝕄) : bigSepL allCK Φ
    = iprop(Φ .bar ∗ (bigSepL mS fun p => Φ (.ags p.1 p.2)) ∗ (bigSepL mS fun p => Φ (.agr p.1 p.2)) ∗ (bigSepL mR fun p => Φ (.rss p.1 p.2))
        ∗ (bigSepL mR fun p => Φ (.rsr p.1 p.2)) ∗ (bigSepL [0, 1, 2, 3] fun q => Φ (.wi q)) ∗ bigSepL [0, 1, 2, 3] fun q => Φ (.wo q)) := by
  unfold allCK
  simp only [List.append_assoc]
  rw [bigSepL_append, bigSepL_append, bigSepL_append, bigSepL_append, bigSepL_append, bigSepL_append, bigSepL_map, bigSepL_map, bigSepL_map, bigSepL_map, bigSepL_map, bigSepL_map,
    bigSepL_cons']
  rw [show iprop(Φ .bar ∗ bigSepL [] Φ) = Φ .bar from sep_emp' _]

theorem mS_nest (Φ : Fin 3 → Fin 7 → sProp 𝕄) :
    (bigSepL mS fun p => Φ p.1 p.2) = all3 fun k => bigSepL [0, 1, 2] fun s => bigSepL (agSl k) fun l => Φ s l := by
  rw [all3_eq, bigSepL_swap, mS, bigSepL_flatMap]
  refine bigSepL_congr fun s _ => ?_
  rw [bigSepL_map, ← bigSepL_flatMap [0, 1, 2] agSl (Φ s)]
  rfl

theorem mR_nest (Φ : Fin 3 → Fin 3 → sProp 𝕄) :
    (bigSepL mR fun p => Φ p.1 p.2) = all3 fun k => bigSepL [0, 1, 2] fun s => Φ s k := by
  rw [all3_eq, bigSepL_swap, mR, bigSepL_flatMap]
  refine bigSepL_congr fun s _ => ?_
  rw [bigSepL_map]

theorem mR_rev (Φ : Fin 3 → Fin 3 → sProp 𝕄) :
    (bigSepL mR fun p => Φ p.1 p.2) = all3 fun k => bigSepL [0, 1, 2] fun s => Φ s k.rev := by
  rw [mR_nest, all3_eq, all3_eq, TalkSites.bigSepL_perm (l := [0, 1, 2]) (l' := ([0, 1, 2] : List (Fin 3)).map Fin.rev) (by decide) (by decide), bigSepL_map]

/-! ## The tokens -/

def dL : CK → List (Fin 3)
  | .bar => [0, 1, 2]
  | _ => [0]
/-- The bit of the device that pays a duty of a cell. -/
def tb : CK → Fin 3 → Fin 8
  | .bar, δ => bb δ
  | .agr s l, _ => agBit s (agStep l)
  | .rsr s k, _ => rsBit s k
  | _, _ => 0
def tokL : List (CK × ℕ × Fin 3) := allCK.flatMap fun k => (List.range (nr k)).flatMap fun r => (dL k).map fun δ => (k, r, δ)
theorem tokL_nodup : tokL.Nodup := by decide +kernel

theorem tokL_nest (Φ : CK → ℕ → Fin 3 → sProp 𝕄) :
    (bigSepL tokL fun x => Φ x.1 x.2.1 x.2.2) = bigSepL allCK fun k => bigSepL (List.range (nr k)) fun r => bigSepL (dL k) fun δ => Φ k r δ := by
  unfold tokL
  rw [bigSepL_flatMap]
  refine bigSepL_congr fun k _ => ?_
  rw [bigSepL_flatMap]
  refine bigSepL_congr fun r _ => ?_
  rw [bigSepL_map]

def tokOf (p : Dev nD × (CK × ℕ × Fin 3)) : GSem nD τ sig × ℕ × Fin 3 := (cell p.1 p.2.1, p.2.2.1, p.2.2.2)
theorem tokOf_inj : Function.Injective tokOf := by
  rintro ⟨c, k, r, δ⟩ ⟨c', k', r', δ'⟩ h
  have h1 : (c, k) = (c', k') := cell_inj (congrArg (fun x : GSem nD τ sig × ℕ × Fin 3 => x.1) h)
  have h2 : r = r' := congrArg (fun x : GSem nD τ sig × ℕ × Fin 3 => x.2.1) h
  have h3 : δ = δ' := congrArg (fun x : GSem nD τ sig × ℕ × Fin 3 => x.2.2) h
  cases h1; subst h2; subst h3; rfl

def ringCells : Finset (GSem nD τ sig) := Finset.univ.map ⟨fun p : Dev nD × CK => cell p.1 p.2, cell_inj⟩
theorem tokAt_inj : Function.Injective fun p : Dev nD × Fin tokL.length => tokOf (p.1, tokL.get p.2) := by
  rintro ⟨c, i⟩ ⟨c', i'⟩ h
  have h := Prod.mk.inj (tokOf_inj h)
  exact Prod.ext h.1 (List.nodup_iff_injective_get.mp tokL_nodup h.2)
def ringToks : Finset (GSem nD τ sig × ℕ × Fin 3) := Finset.univ.map ⟨fun p : Dev nD × Fin tokL.length => tokOf (p.1, tokL.get p.2), tokAt_inj⟩

/-- The tokens of a device's own cells. -/
def ownToks (c : Dev nD) : sProp 𝕄 := bigSepL tokL fun x => dutyTok ER (cell c x.1) x.2.1 x.2.2
/-- The tokens a device pays with. -/
def payToks (d : Dev nD) : sProp 𝕄 := bigSepL tokL fun x => dutyTok ER (cell (pd d (tb x.1 x.2.2)) x.1) x.2.1 x.2.2

theorem toks_eq : bigSep ringToks (fun x => (dutyTok ER x.1 x.2.1 x.2.2 : sProp 𝕄)) = bigSep Finset.univ fun c : Dev nD => ownToks (F := F) c := by
  unfold ringToks ownToks
  rw [bigSep_map, bigSep_univ_prod]
  refine bigSep_congr fun c _ => ?_
  exact bigSep_get tokL fun x => dutyTok ER (cell c x.1) x.2.1 x.2.2
theorem cells_eq (Φ : GSem nD τ sig → sProp 𝕄) : bigSep ringCells Φ = bigSep Finset.univ fun c : Dev nD => bigSepL allCK fun k => Φ (cell c k) := by
  unfold ringCells
  rw [bigSep_map, bigSep_univ_prod]
  refine bigSep_congr fun c _ => ?_
  rw [bigSep_univ_eq_bigSepL allCK rfl allCK_nodup]
  rfl
theorem toks_deal : (bigSep Finset.univ fun c : Dev nD => ownToks (F := F) c) = bigSep Finset.univ fun d : Dev nD => payToks (F := F) d := by
  unfold ownToks payToks
  rw [dev_swap, dev_swap]
  refine bigSepL_congr fun x _ => ?_
  exact bigSep_univ_equiv (pe (tb x.1 x.2.2)) fun c => dutyTok ER (cell c x.1) x.2.1 x.2.2

theorem pd_zero : ∀ d : Dev nD, pd d 0 = d := by decide +kernel

theorem payToks_split (d : Dev nD) : payToks (F := F) d
    = iprop((bigSepL [0, 1, 2] fun δ => dutyTok ER (cell (pd d (bb δ)) .bar) 0 δ)
      ∗ (bigSepL mS fun p => bigSepL (List.range 4) fun r => dutyTok ER (cell d (.ags p.1 p.2)) r 0)
      ∗ (bigSepL mS fun p => bigSepL (List.range 4) fun r => dutyTok ER (cell (pd d (agBit p.1 (agStep p.2))) (.agr p.1 p.2)) r 0)
      ∗ (bigSepL mR fun p => bigSepL (List.range 3) fun r => dutyTok ER (cell d (.rss p.1 p.2)) r 0)
      ∗ (bigSepL mR fun p => bigSepL (List.range 3) fun r => dutyTok ER (cell (pd d (rsBit p.1 p.2)) (.rsr p.1 p.2)) r 0)
      ∗ (bigSepL [0, 1, 2, 3] fun q => bigSepL (List.range 6) fun r => dutyTok ER (cell d (.wi q)) r 0)
      ∗ (bigSepL [0, 1, 2, 3] fun q => bigSepL (List.range 6) fun r => dutyTok ER (cell d (.wo q)) r 0)) := by
  unfold payToks
  rw [tokL_nest fun k r δ => dutyTok ER (cell (pd d (tb k δ)) k) r δ, ck_split]
  simp only [dL, one, tb, pd_zero, nr]
  rw [show List.range 1 = [0] from rfl, bigSepL_cons', show (bigSepL [] fun r => bigSepL [0, 1, 2] fun δ => (dutyTok ER (cell (pd d (bb δ)) .bar) r δ : sProp 𝕄)) = iprop(emp) from rfl, sep_emp']

/-! ## The credit -/

def N4 : List (Fin 4) := [0, 1, 2, 3]
def N3 : List (Fin 3) := [0, 1, 2]

theorem agMs_nest (n : Fin 4) (Φ : Msg → sProp 𝕄) : bigSepL (agMs n) Φ = bigSepL mS fun p => Φ (.ag n p.1 p.2) := by
  rw [mS_nest fun s l => Φ (.ag n s l), all3_eq, agMs, bigSepL_flatMap]
  refine bigSepL_congr fun k _ => ?_
  rw [agKs, bigSepL_map, agL_nest]
theorem rsMs_nest (n : Fin 3) (Φ : Msg → sProp 𝕄) : bigSepL (rsMs n) Φ = bigSepL mR fun p => Φ (.rs n p.1 p.2) := by
  rw [mR_nest fun s k => Φ (.rs n s k), all3_eq, rsMs, bigSepL_flatMap]
  refine bigSepL_congr fun k _ => ?_
  rw [rsKs, bigSepL_map]

theorem ms_split (Φ : Msg → sProp 𝕄) : bigSepL allMs Φ ⊢
    iprop((bigSepL [0, 1, 2] fun δ => Φ (.bar δ)) ∗ (bigSepL N4 fun n => bigSepL mS fun p => Φ (.ag n p.1 p.2)) ∗ bigSepL N3 fun n => bigSepL mR fun p => Φ (.rs n p.1 p.2)) := by
  unfold allMs barMs N4 N3
  rw [bigSepL_append, bigSepL_append, bigSepL_append, bigSepL_append, bigSepL_append, bigSepL_append, bigSepL_append, bigSepL_map]
  simp only [agMs_nest, rsMs_nest]
  generalize (bigSepL [0, 1, 2] fun δ => Φ (.bar δ)) = B
  rw [bigSepL_cons', bigSepL_cons', bigSepL_cons', bigSepL_cons', bigSepL_cons' (0 : Fin 3), bigSepL_cons' (1 : Fin 3), bigSepL_cons' (2 : Fin 3)]
  show _ ⊢ iprop(B ∗ (_ ∗ _ ∗ _ ∗ _ ∗ emp) ∗ _ ∗ _ ∗ _ ∗ emp)
  rw [sep_emp', sep_emp']
  iintro ⟨H0, H1, H2, H3, H4, H5, H6, H7⟩
  isplitl [H0]; · iexact H0
  isplitl [H1 H3 H5 H7]
  · isplitl [H1]; · iexact H1
    isplitl [H3]; · iexact H3
    isplitl [H5]; · iexact H5
    iexact H7
  isplitl [H2]; · iexact H2
  isplitl [H4]; · iexact H4
  iexact H6

theorem tallyL_sum (l : List Msg) : (∑ d : Dev nD, tallyL (l.map (Msg.from' d)) : CellTallies nD τ sig ℕ) = ∑ d : Dev nD, tallyL (l.map (Msg.at' d)) := by
  induction l with
  | nil => rfl
  | cons μ l ih =>
    simp only [List.map_cons, tallyL]
    rw [Finset.sum_add_distrib, Finset.sum_add_distrib, ih]
    congr 1
    exact Equiv.sum_comp (pe μ.bit) fun d => (Msg.at' d μ).tally

/-- What a device waits for from the others, at the start. -/
theorem creds (c : Dev nD) : (Pipeline.launchCred (fun d => owe d allMs) c : sProp 𝕄)
    ⊢ iprop(cred (tallyAt (cell c .bar) 0 3) ∗ (bigSepL N4 fun n => bigSepL mS fun p => cred (tallyAt (cell c (.agr p.1 p.2)) n.val (amt (.agr p.1 p.2))))
      ∗ bigSepL N3 fun n => bigSepL mR fun p => cred (tallyAt (cell c (.rsr p.1 p.2)) n.val (amt (.rsr p.1 p.2)))) := by
  rw [Pipeline.launchCred_of_sum (fun d => owe d allMs) (fun d => tallyL (allMs.map (Msg.at' d))) (tallyL_sum allMs)
    (fun d g hg => by
      obtain ⟨i, hi⟩ := DFunLike.ne_iff.mp hg
      obtain ⟨x, hx, rfl, -⟩ := TalkSites.tallyL_pos (Nat.pos_of_ne_zero hi)
      obtain ⟨μ, -, rfl⟩ := List.mem_map.mp hx
      rfl) c, TalkSites.cred_tallyL, bigSepL_map]
  refine (ms_split _).trans (sep_mono_left ?_)
  show (bigSepL [0, 1, 2] fun δ : Fin 3 => cred (tallyAt (cell c .bar) 0 1)) ⊢ _
  have e : (tallyAt (cell c .bar) 0 3 : CellTallies nD τ sig ℕ) = tallyAt (cell c .bar) 0 1 + (tallyAt (cell c .bar) 0 1 + tallyAt (cell c .bar) 0 1) := by
    rw [tallyAt_add, tallyAt_add]
  rw [bigSepL_cons', bigSepL_cons', bigSepL_cons', e]
  show iprop(_ ∗ _ ∗ _ ∗ emp) ⊢ _
  rw [sep_emp']
  exact (sep_mono_right (cred_add _ _).2).trans (cred_add _ _).2

end Cert.KernelIdeal.Run

end
-- ==== Proof.Hold.lean ====
module

public import proofs.«01_k».proof.Proof.Deal

@[expose] public section

noncomputable section

/- From what the launch hands over to what the kernel starts from, and back. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × CK → ℕ}

/-! ## The buffers -/

section Blocks
variable {B : Type} [Fintype B] [DecidableEq B] (ℓ : Loc nD τ sig) (I : B → Finset (Idx ℓ)) (hd : ∀ a b, a ≠ b → Disjoint (I a) (I b))

/-- What a buffer holds beside some blocks of it. -/
def beside : sProp 𝕄 := iprop(∃ f, ℓ ↦[Finset.univ \ Finset.univ.biUnion I]{fullShare} f)

include hd in
theorem split_rest : iprop(∃ f : Buf (Elt F) ℓ, ℓ ↦{fullShare} f) ⊢ (iprop((bigSep Finset.univ fun b => iprop(∃ f, ℓ ↦[I b]{fullShare} f)) ∗ beside ℓ I) : sProp 𝕄) := by
  unfold beside
  iintro ⟨%f, H⟩
  ihave H := (pointsTo_split_subset (ℓ := ℓ) (f := f) (Finset.subset_univ (Finset.univ.biUnion I))).1 $$ H
  icases H with ⟨H, HR⟩
  isplitl [H]
  · ihave H := (Entails.of_eq (Ring.pointsTo_sub_blocks (ℓ := ℓ) I hd _ rfl f)) $$ H
    have e (b : B) : iprop(ℓ ↦[I b]{fullShare} f) ⊢ (iprop(∃ f, ℓ ↦[I b]{fullShare} f) : sProp 𝕄) := by iintro H; iexists f; iexact H
    iapply (show iprop(bigSep Finset.univ fun b => ℓ ↦[I b]{fullShare} f) ⊢ (iprop(bigSep Finset.univ fun b => iprop(∃ f, ℓ ↦[I b]{fullShare} f)) : sProp 𝕄) from bigSep_mono fun b _ => e b)
    iexact H
  iexists f; iexact HR

include hd in
theorem join_rest (f₀ : Buf (Elt F) ℓ) : (iprop((bigSep Finset.univ fun b => iprop(∃ f, ℓ ↦[I b]{fullShare} f)) ∗ beside ℓ I) : sProp 𝕄) ⊢ iprop(∃ f : Buf (Elt F) ℓ, ℓ ↦{fullShare} f) := by
  unfold beside
  iintro ⟨H, %f, HR⟩
  ihave H := (Ring.pointsTo_sub_blocks_join_exists (ℓ := ℓ) I hd _ rfl f₀) $$ H
  icases H with ⟨%g, H⟩
  iexists _
  iapply (pointsTo_join_subset (ℓ := ℓ) (f := f) (g := g) (Finset.subset_univ (Finset.univ.biUnion I)))
  isplitl [H]; · iexact H
  iexact HR
end Blocks

theorem eS_disjoint (p q : Fin 3 × Fin 3) (h : p ≠ q) : Disjoint (eS p) (eS q) := by
  rw [Finset.disjoint_left]
  intro i hi hj
  rw [eS, Finset.mem_filter] at hi hj
  obtain ⟨-, h1, h2, h3, -⟩ := hi
  obtain ⟨-, g1, g2, g3, -⟩ := hj
  have e1 : p.1 = q.1 := Fin.ext (h1.symm.trans g1)
  have e2 : p.2 ≠ q.2 := fun e => h (Prod.ext e1 e)
  have key : ∀ a b : Fin 3, a ≠ b → ro a + rn a ≤ ro b ∨ ro b + rn b ≤ ro a := by decide
  have := key _ _ e2
  omega
theorem wiSet_disjoint (a b : Fin 4) (h : a ≠ b) : Disjoint (wiSet a) (wiSet b) := by
  rw [Finset.disjoint_left]
  intro i hi hj
  rw [wiSet, Finset.mem_filter] at hi hj
  exact h (Fin.ext (hi.2.symm.trans hj.2))
theorem woSet_disjoint (a b : Fin 4) (h : a ≠ b) : Disjoint (woSet a) (woSet b) := by
  rw [Finset.disjoint_left]
  intro i hi hj
  rw [woSet, Finset.mem_filter] at hi hj
  exact h (Fin.ext (hi.2.symm.trans hj.2))
theorem winSet_disjoint (a b : Fin 8) (h : a ≠ b) : Disjoint (winSet a) (winSet b) := by
  rw [Finset.disjoint_left]
  intro i hi hj
  rw [winSet, Finset.mem_filter] at hi hj
  exact h (Fin.ext (hi.2.symm.trans hj.2))
theorem woutSet_disjoint (a b : Fin 8) (h : a ≠ b) : Disjoint (woutSet a) (woutSet b) := by
  rw [Finset.disjoint_left]
  intro i hi hj
  rw [woutSet, Finset.mem_filter] at hi hj
  exact h (Fin.ext (hi.2.symm.trans hj.2))
theorem winSet_cover : Finset.univ.biUnion winSet = Finset.univ := by
  ext i
  rw [Finset.mem_biUnion]
  refine ⟨fun _ => Finset.mem_univ _, fun _ => ⟨⟨(i 1).val / 512, ?_⟩, Finset.mem_univ _, ?_⟩⟩
  · have h := (i 1).isLt; have e : S2048x4096.size 1 = 4096 := rfl; omega
  · rw [winSet, Finset.mem_filter]; exact ⟨Finset.mem_univ _, rfl⟩
theorem woutSet_cover : Finset.univ.biUnion woutSet = Finset.univ := by
  ext i
  rw [Finset.mem_biUnion]
  refine ⟨fun _ => Finset.mem_univ _, fun _ => ⟨⟨(i 0).val / 512, ?_⟩, Finset.mem_univ _, ?_⟩⟩
  · have h := (i 0).isLt; have e : S4096x2048.size 0 = 4096 := rfl; omega
  · rw [woutSet, Finset.mem_filter]; exact ⟨Finset.mem_univ _, rfl⟩

def rest (d : Dev nD) : sProp 𝕄 :=
  iprop(beside ((d : Thread nD τ).loc cc0_scratch2) wiSet ∗ beside ((d : Thread nD τ).loc cc0_scratch3) woSet
    ∗ beside ((d : Thread nD τ).loc cc0_scratch4) eS ∗ beside ((d : Thread nD τ).loc cc0_scratch5) eS)
/-- The six buffers whole, as the launch hands them over. -/
def bufs (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f)
    ∗ (∃ f : Buf (Elt F) ((d : Thread nD τ).loc cc0_scratch4), ((d : Thread nD τ).loc cc0_scratch4) ↦{fullShare} f)
    ∗ (∃ f : Buf (Elt F) ((d : Thread nD τ).loc cc0_scratch5), ((d : Thread nD τ).loc cc0_scratch5) ↦{fullShare} f))
/-- The same, in the parts the kernel works with. -/
def bufParts (d : Dev nD) : sProp 𝕄 :=
  iprop((∃ f, xfW (F := F) d f) ∗ (∃ a, accW (F := F) d a) ∗ (bigSepL [0, 1, 2, 3] (wbuf (F := F) d)) ∗ (bigSepL mR fun p => iprop(∃ f : EB F, sp d p f)) ∗ (bigSepL mR fun p => iprop(∃ f : EB F, rp d p f)))

theorem mR_univ : (Finset.univ : Finset (Fin 3 × Fin 3)) = mR.toFinset := by decide
theorem mR_nodup : mR.Nodup := by decide

theorem wbuf_eq (d : Dev nD) : bigSepL [0, 1, 2, 3] (wbuf (F := F) d)
    = iprop((bigSep Finset.univ fun q : Fin 4 => iprop(∃ f, ((d : Thread nD τ).loc cc0_scratch2) ↦[wiSet q]{fullShare} f))
      ∗ bigSep Finset.univ fun q : Fin 4 => iprop(∃ f, ((d : Thread nD τ).loc cc0_scratch3) ↦[woSet q]{fullShare} f)) := by
  rw [bigSep_univ_eq_bigSepL [0, 1, 2, 3] (by decide) (by decide), bigSep_univ_eq_bigSepL [0, 1, 2, 3] (by decide) (by decide), ← bigSepL_sep]
  rfl
theorem sp_eq (d : Dev nD) : (bigSepL mR fun p => (iprop(∃ f : EB F, sp d p f) : sProp 𝕄)) = bigSep Finset.univ fun p => iprop(∃ f, ((d : Thread nD τ).loc cc0_scratch4) ↦[eS p]{fullShare} f) := by
  rw [bigSep_univ_eq_bigSepL mR mR_univ mR_nodup]; rfl
theorem rp_eq (d : Dev nD) : (bigSepL mR fun p => (iprop(∃ f : EB F, rp d p f) : sProp 𝕄)) = bigSep Finset.univ fun p => iprop(∃ f, ((d : Thread nD τ).loc cc0_scratch5) ↦[eS p]{fullShare} f) := by
  rw [bigSep_univ_eq_bigSepL mR mR_univ mR_nodup]; rfl

theorem bufs_split (d : Dev nD) : bufs (F := F) d ⊢ iprop(bufParts d ∗ rest d) := by
  unfold bufs bufParts rest
  rw [wbuf_eq, sp_eq, rp_eq]
  iintro ⟨H0, H1, H2, H3, H4, H5⟩
  ihave H2 := (split_rest (F := F) ((d : Thread nD τ).loc cc0_scratch2) wiSet wiSet_disjoint) $$ H2
  ihave H3 := (split_rest (F := F) ((d : Thread nD τ).loc cc0_scratch3) woSet woSet_disjoint) $$ H3
  ihave H4 := (split_rest (F := F) ((d : Thread nD τ).loc cc0_scratch4) eS eS_disjoint) $$ H4
  ihave H5 := (split_rest (F := F) ((d : Thread nD τ).loc cc0_scratch5) eS eS_disjoint) $$ H5
  icases H2 with ⟨H2, R2⟩
  icases H3 with ⟨H3, R3⟩
  icases H4 with ⟨H4, R4⟩
  icases H5 with ⟨H5, R5⟩
  isplitr [R2 R3 R4 R5]
  · isplitl [H0]; · iexact H0
    isplitl [H1]; · iexact H1
    isplitl [H2 H3]
    · isplitl [H2]; · iexact H2
      iexact H3
    isplitl [H4]; · iexact H4
    iexact H5
  isplitl [R2]; · iexact R2
  isplitl [R3]; · iexact R3
  isplitl [R4]; · iexact R4
  iexact R5

theorem bufs_join (d : Dev nD) : iprop(bufParts (F := F) d ∗ rest d) ⊢ bufs d := by
  unfold bufs bufParts rest
  rw [wbuf_eq, sp_eq, rp_eq]
  iintro ⟨⟨H0, H1, ⟨H2, H3⟩, H4, H5⟩, R2, R3, R4, R5⟩
  ihave H2 := (join_rest (F := F) ((d : Thread nD τ).loc cc0_scratch2) wiSet wiSet_disjoint fun _ => Classical.arbitrary _) $$ [H2 R2]
  · isplitl [H2]; · iexact H2
    iexact R2
  ihave H3 := (join_rest (F := F) ((d : Thread nD τ).loc cc0_scratch3) woSet woSet_disjoint fun _ => Classical.arbitrary _) $$ [H3 R3]
  · isplitl [H3]; · iexact H3
    iexact R3
  ihave H4 := (join_rest (F := F) ((d : Thread nD τ).loc cc0_scratch4) eS eS_disjoint fun _ => Classical.arbitrary _) $$ [H4 R4]
  · isplitl [H4]; · iexact H4
    iexact R4
  ihave H5 := (join_rest (F := F) ((d : Thread nD τ).loc cc0_scratch5) eS eS_disjoint fun _ => Classical.arbitrary _) $$ [H5 R5]
  · isplitl [H5]; · iexact H5
    iexact R5
  isplitl [H0]; · iexact H0
  isplitl [H1]; · iexact H1
  isplitl [H2]; · iexact H2
  isplitl [H3]; · iexact H3
  isplitl [H4]; · iexact H4
  iexact H5

/-! ## The weights -/

def A8 : List (Fin 8) := [0, 1, 2, 3, 4, 5, 6, 7]

theorem winV_set0 (t : Fin 8) : (winV 0 t).view.set = winSet t := by
  show ((View.whole main_arg1).slice (winR t)).set = _
  rw [View.set_slice_whole]; exact winR_set t
theorem winV_set1 (t : Fin 8) : (winV 1 t).view.set = winSet t := by
  show ((View.whole main_arg2).slice (winR t)).set = _
  rw [View.set_slice_whole]; exact winR_set t
theorem winV_set2 (t : Fin 8) : (winV 2 t).view.set = winSet t := by
  show ((View.whole main_arg3).slice (winR t)).set = _
  rw [View.set_slice_whole]; exact winR_set t
theorem woutV_set0 (t : Fin 8) : (woutV 0 t).view.set = woutSet t := by
  show ((View.whole main_arg4).slice (woutR t)).set = _
  rw [View.set_slice_whole]; exact woutR_set t
theorem woutV_set1 (t : Fin 8) : (woutV 1 t).view.set = woutSet t := by
  show ((View.whole main_arg5).slice (woutR t)).set = _
  rw [View.set_slice_whole]; exact woutR_set t
theorem woutV_set2 (t : Fin 8) : (woutV 2 t).view.set = woutSet t := by
  show ((View.whole main_arg6).slice (woutR t)).set = _
  rw [View.set_slice_whole]; exact woutR_set t

theorem win0 (d : Dev nD) : (((d : Thread nD τ).loc main_arg1) ↦{fullShare} m ((d : Thread nD τ).loc main_arg1) : sProp 𝕄) = bigSepL A8 (wsi m d 0) := by
  rw [Ring.pointsTo_blocks (ℓ := (d : Thread nD τ).loc main_arg1) winSet winSet_disjoint winSet_cover, bigSep_univ_eq_bigSepL A8 (by decide) (by decide)]
  refine bigSepL_congr fun t _ => ?_
  unfold wsi; rw [winV_set0]; rfl
theorem win1 (d : Dev nD) : (((d : Thread nD τ).loc main_arg2) ↦{fullShare} m ((d : Thread nD τ).loc main_arg2) : sProp 𝕄) = bigSepL A8 (wsi m d 1) := by
  rw [Ring.pointsTo_blocks (ℓ := (d : Thread nD τ).loc main_arg2) winSet winSet_disjoint winSet_cover, bigSep_univ_eq_bigSepL A8 (by decide) (by decide)]
  refine bigSepL_congr fun t _ => ?_
  unfold wsi; rw [winV_set1]; rfl
theorem win2 (d : Dev nD) : (((d : Thread nD τ).loc main_arg3) ↦{fullShare} m ((d : Thread nD τ).loc main_arg3) : sProp 𝕄) = bigSepL A8 (wsi m d 2) := by
  rw [Ring.pointsTo_blocks (ℓ := (d : Thread nD τ).loc main_arg3) winSet winSet_disjoint winSet_cover, bigSep_univ_eq_bigSepL A8 (by decide) (by decide)]
  refine bigSepL_congr fun t _ => ?_
  unfold wsi; rw [winV_set2]; rfl
theorem wout0 (d : Dev nD) : (((d : Thread nD τ).loc main_arg4) ↦{fullShare} m ((d : Thread nD τ).loc main_arg4) : sProp 𝕄) = bigSepL A8 (wso m d 0) := by
  rw [Ring.pointsTo_blocks (ℓ := (d : Thread nD τ).loc main_arg4) woutSet woutSet_disjoint woutSet_cover, bigSep_univ_eq_bigSepL A8 (by decide) (by decide)]
  refine bigSepL_congr fun t _ => ?_
  unfold wso; rw [woutV_set0]; rfl
theorem wout1 (d : Dev nD) : (((d : Thread nD τ).loc main_arg5) ↦{fullShare} m ((d : Thread nD τ).loc main_arg5) : sProp 𝕄) = bigSepL A8 (wso m d 1) := by
  rw [Ring.pointsTo_blocks (ℓ := (d : Thread nD τ).loc main_arg5) woutSet woutSet_disjoint woutSet_cover, bigSep_univ_eq_bigSepL A8 (by decide) (by decide)]
  refine bigSepL_congr fun t _ => ?_
  unfold wso; rw [woutV_set1]; rfl
theorem wout2 (d : Dev nD) : (((d : Thread nD τ).loc main_arg6) ↦{fullShare} m ((d : Thread nD τ).loc main_arg6) : sProp 𝕄) = bigSepL A8 (wso m d 2) := by
  rw [Ring.pointsTo_blocks (ℓ := (d : Thread nD τ).loc main_arg6) woutSet woutSet_disjoint woutSet_cover, bigSep_univ_eq_bigSepL A8 (by decide) (by decide)]
  refine bigSepL_congr fun t _ => ?_
  unfold wso; rw [woutV_set2]; rfl

/-- The six weight arrays of a device. -/
def weights (m : (ℓ : Loc nD τ sig) → Buf (Elt F) ℓ) (d : Dev nD) : sProp 𝕄 :=
  iprop((((d : Thread nD τ).loc main_arg1) ↦{fullShare} m ((d : Thread nD τ).loc main_arg1)) ∗ (((d : Thread nD τ).loc main_arg2) ↦{fullShare} m ((d : Thread nD τ).loc main_arg2))
    ∗ (((d : Thread nD τ).loc main_arg3) ↦{fullShare} m ((d : Thread nD τ).loc main_arg3)) ∗ (((d : Thread nD τ).loc main_arg4) ↦{fullShare} m ((d : Thread nD τ).loc main_arg4))
    ∗ (((d : Thread nD τ).loc main_arg5) ↦{fullShare} m ((d : Thread nD τ).loc main_arg5)) ∗ (((d : Thread nD τ).loc main_arg6) ↦{fullShare} m ((d : Thread nD τ).loc main_arg6)))

def byTile : List (Fin 3 × Fin 8) := [0, 1, 2].flatMap fun L => A8.map fun t => (L, t)
def bySlot : List (Fin 3 × Fin 8) := [0, 1, 2, 3].flatMap fun q : Fin 4 => (List.range 6).map fun r => (slL r, slT q r)
theorem tile_slot : byTile.Perm bySlot := by decide

theorem weights_eq (d : Dev nD) : weights m d = bigSepL [0, 1, 2, 3] fun q => bigSepL (List.range 6) (srcs m d q) := by
  have e (Φ : Fin 3 → Fin 8 → sProp 𝕄) : iprop(bigSepL A8 (Φ 0) ∗ bigSepL A8 (Φ 1) ∗ bigSepL A8 (Φ 2)) = bigSepL byTile fun p => Φ p.1 p.2 := by
    rw [byTile, bigSepL_flatMap]
    exact (all3_eq fun L => bigSepL A8 (Φ L)).trans (bigSepL_congr fun L _ => (bigSepL_map (fun t => (L, t)) A8 fun p : Fin 3 × Fin 8 => Φ p.1 p.2).symm)
  have e2 : weights m d = iprop((bigSepL A8 (wsi m d 0) ∗ bigSepL A8 (wsi m d 1) ∗ bigSepL A8 (wsi m d 2)) ∗ bigSepL A8 (wso m d 0) ∗ bigSepL A8 (wso m d 1) ∗ bigSepL A8 (wso m d 2)) := by
    unfold weights
    rw [win0, win1, win2, wout0, wout1, wout2]
    have h (A B C : sProp (MT nD τ sig ℕ (Elt F) ℕ UU ℕ)) : iprop((A ∗ B) ∗ C) = iprop(A ∗ B ∗ C) := by
      have h1 : iprop((A ∗ B) ∗ C) ⊢ iprop(A ∗ B ∗ C) := Laws.sep_assoc.1
      have h2 : iprop(A ∗ B ∗ C) ⊢ iprop((A ∗ B) ∗ C) := Laws.sep_assoc.2
      exact BI.Entails.antisymm h1 h2
    rw [h, h]
  rw [e2, e (wsi m d), e (wso m d), ← bigSepL_sep, TalkSites.bigSepL_perm tile_slot (by decide), bySlot, bigSepL_flatMap]
  refine bigSepL_congr fun q _ => ?_
  rw [bigSepL_map]
  rfl

/-! ## From the launch to the kernel -/

theorem with_recs {I : Type} (l : List I) {Φ Ψ : I → sProp (MT nD τ sig ℕ (Elt F) ℕ UU ℕ)} (h : ∀ i, iprop(Recs m K ∗ Φ i) ⊢ Ψ i) : iprop(Recs m K ∗ bigSepL l Φ) ⊢ bigSepL l Ψ := by
  induction l with
  | nil => iintro ⟨-, H⟩; iexact H
  | cons i l ih =>
    rw [bigSepL_cons', bigSepL_cons']
    iintro ⟨#HR, H, Hl⟩
    isplitl [H]
    · iapply (h i)
      isplitr; · iexact HR
      iexact H
    iapply ih
    isplitr; · iexact HR
    iexact Hl

/-- Where a device stands at a cell. -/
def pos (d : Dev nD) (n : CK → ℕ) (k : CK) : sProp 𝕄 := iprop(atPos ER (cell d k) (n k) ∅ 0 ∗ reached ER (cell d k) (n k))

theorem agAt_eq (d : Dev nD) (n : ℕ) : (bigSepL mS fun p => agAt (F := F) d n p.1 p.2)
    = iprop((bigSepL mS fun p => iprop(atPos ER (cell d (.ags p.1 p.2)) n ∅ 0 ∗ reached ER (cell d (.ags p.1 p.2)) n))
      ∗ bigSepL mS fun p => iprop(atPos ER (cell d (.agr p.1 p.2)) n ∅ 0 ∗ reached ER (cell d (.agr p.1 p.2)) n)) := bigSepL_sep mS _ _
theorem rsAt_eq (d : Dev nD) (n : ℕ) : (bigSepL mR fun p => rsAt (F := F) d n p.1 p.2)
    = iprop((bigSepL mR fun p => iprop(atPos ER (cell d (.rss p.1 p.2)) n ∅ 0 ∗ reached ER (cell d (.rss p.1 p.2)) n))
      ∗ bigSepL mR fun p => iprop(atPos ER (cell d (.rsr p.1 p.2)) n ∅ 0 ∗ reached ER (cell d (.rsr p.1 p.2)) n)) := bigSepL_sep mR _ _
theorem wat_eq (d : Dev nD) (n : ℕ) : (bigSepL [0, 1, 2, 3] fun q => wat (F := F) d q n)
    = iprop((bigSepL [0, 1, 2, 3] fun q => iprop(atPos ER (cell d (.wi q)) n ∅ 0 ∗ reached ER (cell d (.wi q)) n))
      ∗ bigSepL [0, 1, 2, 3] fun q => iprop(atPos ER (cell d (.wo q)) n ∅ 0 ∗ reached ER (cell d (.wo q)) n)) := bigSepL_sep [0, 1, 2, 3] _ _

theorem pos_split (d : Dev nD) (n : CK → ℕ) (a b w : ℕ) (hn : n = fun k => match k with | .bar => n .bar | .ags _ _ => a | .agr _ _ => a | .rss _ _ => b | .rsr _ _ => b | .wi _ => w | .wo _ => w) :
    bigSepL allCK (pos (F := F) d n)
      ⊢ iprop((atPos ER (cell d .bar) (n .bar) ∅ 0 ∗ reached ER (cell d .bar) (n .bar)) ∗ (bigSepL mS fun p => agAt d a p.1 p.2) ∗ (bigSepL mR fun p => rsAt d b p.1 p.2) ∗ bigSepL [0, 1, 2, 3] fun q => wat d q w) := by
  rw [hn, ck_split, agAt_eq, rsAt_eq, wat_eq]
  unfold pos
  dsimp only
  generalize (bigSepL mS fun p => iprop(atPos ER (cell d (.ags p.1 p.2)) a ∅ 0 ∗ reached ER (cell d (.ags p.1 p.2)) a) : sProp 𝕄) = H1
  generalize (bigSepL mS fun p => iprop(atPos ER (cell d (.agr p.1 p.2)) a ∅ 0 ∗ reached ER (cell d (.agr p.1 p.2)) a) : sProp 𝕄) = H2
  generalize (bigSepL mR fun p => iprop(atPos ER (cell d (.rss p.1 p.2)) b ∅ 0 ∗ reached ER (cell d (.rss p.1 p.2)) b) : sProp 𝕄) = H3
  generalize (bigSepL mR fun p => iprop(atPos ER (cell d (.rsr p.1 p.2)) b ∅ 0 ∗ reached ER (cell d (.rsr p.1 p.2)) b) : sProp 𝕄) = H4
  generalize (bigSepL [0, 1, 2, 3] fun q => iprop(atPos ER (cell d (.wi q)) w ∅ 0 ∗ reached ER (cell d (.wi q)) w) : sProp 𝕄) = H5
  generalize (bigSepL [0, 1, 2, 3] fun q => iprop(atPos ER (cell d (.wo q)) w ∅ 0 ∗ reached ER (cell d (.wo q)) w) : sProp 𝕄) = H6
  iintro ⟨H0, H1, H2, H3, H4, H5, H6⟩
  isplitl [H0]; · iexact H0
  isplitl [H1 H2]
  · isplitl [H1]; · iexact H1
    iexact H2
  isplitl [H3 H4]
  · isplitl [H3]; · iexact H3
    iexact H4
  isplitl [H5]; · iexact H5
  iexact H6

theorem range4 (Φ : ℕ → sProp 𝕄) : bigSepL (List.range 4) Φ = bigSepL N4 fun n => Φ n.val := bigSepL_map Fin.val N4 Φ
theorem range3 (Φ : ℕ → sProp 𝕄) : bigSepL (List.range 3) Φ = bigSepL N3 fun n => Φ n.val := bigSepL_map Fin.val N3 Φ

/-- The credit of the messages a device awaits. -/
def credA (c : Dev nD) : sProp 𝕄 := bigSepL N4 fun n => bigSepL mS fun p => cred (tallyAt (cell c (.agr p.1 p.2)) n.val (amt (.agr p.1 p.2)))
def credR (c : Dev nD) : sProp 𝕄 := bigSepL N3 fun n => bigSepL mR fun p => cred (tallyAt (cell c (.rsr p.1 p.2)) n.val (amt (.rsr p.1 p.2)))

theorem toks_split (d : Dev nD) : iprop(payToks (F := F) d ∗ credA d ∗ credR d)
    ⊢ iprop((bigSepL [0, 1, 2] fun δ => dutyTok ER (cell (pd d (bb δ)) .bar) 0 δ) ∗ (bigSepL N4 fun n => all3 (agTks d n.val)) ∗ (bigSepL N3 fun n => all3 (rsToks d n.val))
      ∗ bigSepL [0, 1, 2, 3] fun q => bigSepL (List.range 6) (wtoks d q)) := by
  have e1 (n : ℕ) : all3 (agTks (F := F) d n) = iprop(((bigSepL mS fun p => dutyTok ER (cell d (.ags p.1 p.2)) n 0) ∗ bigSepL mS fun p => dutyTok ER (cell (pd d (agBit p.1 (agStep p.2))) (.agr p.1 p.2)) n 0)
      ∗ bigSepL mS fun p => cred (tallyAt (cell d (.agr p.1 p.2)) n (amt (.agr p.1 p.2)))) := by
    rw [← bigSepL_sep, ← bigSepL_sep]
    exact (mS_nest fun s l => agTok d n s l).symm
  have e2 (n : ℕ) : all3 (rsToks (F := F) d n) = iprop(((bigSepL mR fun p => dutyTok ER (cell d (.rss p.1 p.2)) n 0) ∗ bigSepL mR fun p => dutyTok ER (cell (pd d (rsBit p.1 p.2)) (.rsr p.1 p.2)) n 0)
      ∗ bigSepL mR fun p => cred (tallyAt (cell d (.rsr p.1 p.2)) n (amt (.rsr p.1 p.2)))) := by
    rw [← bigSepL_sep, ← bigSepL_sep]
    exact (mR_nest fun s k => rsTok d n s k).symm
  have e3 : (bigSepL [0, 1, 2, 3] fun q => bigSepL (List.range 6) (wtoks (F := F) d q)) = iprop((bigSepL [0, 1, 2, 3] fun q => bigSepL (List.range 6) fun r => dutyTok ER (cell d (.wi q)) r 0)
      ∗ bigSepL [0, 1, 2, 3] fun q => bigSepL (List.range 6) fun r => dutyTok ER (cell d (.wo q)) r 0) := by
    rw [← bigSepL_sep]
    exact bigSepL_congr fun q _ => by rw [← bigSepL_sep]; rfl
  rw [payToks_split, e3]
  simp only [e1, e2]
  rw [bigSepL_swap mS, bigSepL_swap mS, bigSepL_swap mR, bigSepL_swap mR, range4, range4, range3, range3, bigSepL_sep N4, bigSepL_sep N4, bigSepL_sep N3, bigSepL_sep N3]
  unfold credA credR
  iintro ⟨⟨H0, H1, H2, H3, H4, H5, H6⟩, C1, C2⟩
  isplitl [H0]; · iexact H0
  isplitl [H1 H2 C1]
  · isplitl [H1 H2]
    · isplitl [H1]; · iexact H1
      iexact H2
    iexact C1
  isplitl [H3 H4 C2]
  · isplitl [H3 H4]
    · isplitl [H3]; · iexact H3
      iexact H4
    iexact C2
  isplitl [H5]; · iexact H5
  iexact H6

theorem slots_intro (d : Dev nD) : iprop((bigSepL [0, 1, 2, 3] fun q => wat (F := F) d q 0) ∗ bigSepL [0, 1, 2, 3] (wbuf d) ∗ weights m d ∗ bigSepL [0, 1, 2, 3] fun q => bigSepL (List.range 6) (wtoks d q))
    ⊢ slotsIni m d := by
  rw [weights_eq]
  unfold slotsIni slotIni
  refine Entails.of_eq ?_
  rw [← bigSepL_sep, ← bigSepL_sep, ← bigSepL_sep]
  refine bigSepL_congr fun q _ => ?_
  rw [← bigSepL_sep]

theorem rIni_intro (d : Dev nD) : iprop((bigSepL mR fun p => rsAt (F := F) d 0 p.1 p.2) ∗ (bigSepL mR fun p => iprop(∃ f : EB F, sp d p f)) ∗ bigSepL mR fun p => iprop(∃ f : EB F, rp d p f))
    ⊢ all3 fun k => bigSepL [0, 1, 2] (rIni (F := F) d k) := by
  refine Entails.of_eq ?_
  rw [← bigSepL_sep, ← bigSepL_sep]
  exact mR_rev fun s k => iprop(rsAt (F := F) d 0 s k ∗ (∃ f : EB F, sp d (s, k) f) ∗ ∃ f : EB F, rp d (s, k) f)

/-- A device's positions and the tokens it pays with. -/
def linear (d : Dev nD) : sProp 𝕄 := iprop((bigSepL allCK fun k => atPos ER (cell d k) 0 ∅ 0) ∗ payToks d)

theorem pre_intro (d : Dev nD) : iprop(Recs m K ∗ linear d ∗ (cred (tallyAt (cell d .bar) 0 3) ∗ credA d ∗ credR d) ∗ weights m d ∗ bufs d ∗ inW m d ∗ ∃ f, outX d f)
    ⊢ iprop(pre m d ∗ rest d) := by
  have hp : iprop(Recs m K ∗ bigSepL allCK fun k => atPos ER (cell d k) 0 ∅ 0) ⊢ bigSepL allCK (pos (F := F) d fun _ => 0) :=
    with_recs allCK fun k => by
      unfold pos
      iintro ⟨#HR, H⟩
      isplitl [H]; · iexact H
      iapply (reached_of m K d k); iexact HR
  have hag : (bigSepL mS fun p => agAt (F := F) d 0 p.1 p.2) = all3 (agAll d 0) := mS_nest fun s l => agAt d 0 s l
  have h4 (Φ : ℕ → sProp 𝕄) : (bigSepL N4 fun n => Φ n.val) = iprop(Φ 0 ∗ Φ 1 ∗ Φ 2 ∗ Φ 3) := by
    unfold N4
    rw [bigSepL_cons', bigSepL_cons', bigSepL_cons', bigSepL_cons']
    show iprop(Φ 0 ∗ Φ 1 ∗ Φ 2 ∗ Φ 3 ∗ emp) = _
    rw [sep_emp']
  have h3 (Φ : ℕ → sProp 𝕄) : (bigSepL N3 fun n => Φ n.val) = iprop(Φ 0 ∗ Φ 1 ∗ Φ 2) := by
    unfold N3
    rw [bigSepL_cons', bigSepL_cons', bigSepL_cons']
    show iprop(Φ 0 ∗ Φ 1 ∗ Φ 2 ∗ emp) = _
    rw [sep_emp']
  unfold linear
  iintro ⟨#HR, ⟨Hat, Htk⟩, ⟨C0, C1, C2⟩, HW, Hb, Hin, Hout⟩
  ihave Hat := hp $$ [Hat]
  · isplitr; · iexact HR
    iexact Hat
  ihave Hat := (pos_split (F := F) d (fun _ => 0) 0 0 0 (by funext k; cases k <;> rfl)) $$ Hat
  icases Hat with ⟨⟨Hbar, -⟩, Hag, Hrs, Hwat⟩
  ihave Hag := (Entails.of_eq hag) $$ Hag
  ihave Htk := (toks_split d) $$ [Htk C1 C2]
  · isplitl [Htk]; · iexact Htk
    isplitl [C1]; · iexact C1
    iexact C2
  icases Htk with ⟨T0, T1, T2, T3⟩
  ihave T1 := (Entails.of_eq (h4 fun n => all3 (agTks d n))) $$ T1
  ihave T2 := (Entails.of_eq (h3 fun n => all3 (rsToks d n))) $$ T2
  icases T1 with ⟨A0, A1, A2, A3⟩
  icases T2 with ⟨R0, R1, R2⟩
  ihave Hb := (bufs_split d) $$ Hb
  unfold bufParts
  icases Hb with ⟨⟨B0, B1, B2, B4, B5⟩, Hrest⟩
  ihave Hs := (slots_intro (m := m) d) $$ [Hwat B2 HW T3]
  · isplitl [Hwat]; · iexact Hwat
    isplitl [B2]; · iexact B2
    isplitl [HW]; · iexact HW
    iexact T3
  ihave Hr := (rIni_intro d) $$ [Hrs B4 B5]
  · isplitl [Hrs]; · iexact Hrs
    isplitl [B4]; · iexact B4
    iexact B5
  isplitr [Hrest]
  · unfold pre ini
    isplitl [T0 B0 Hbar C0 Hs Hin Hr Hag A0]
    · isplitl [T0]; · iexact T0
      isplitl [B0]; · iexact B0
      isplitl [Hbar C0]
      · isplitl [Hbar]; · iexact Hbar
        iexact C0
      isplitl [Hs]; · iexact Hs
      isplitl [Hin]; · iexact Hin
      isplitl [Hr]; · iexact Hr
      isplitl [Hag]; · iexact Hag
      iexact A0
    isplitl [B1]; · iexact B1
    isplitl [Hout]; · iexact Hout
    isplitl [R0 A1]
    · isplitl [R0]; · iexact R0
      iexact A1
    isplitl [R1 A2]
    · isplitl [R1]; · iexact R1
      iexact A2
    isplitl [R2]; · iexact R2
    iexact A3
  iexact Hrest

/-! ## From the kernel to the launch -/

theorem slots_elim (d : Dev nD) : slots m d 6 ⊢ iprop((bigSepL [0, 1, 2, 3] fun q => wat (F := F) d q 6) ∗ bigSepL [0, 1, 2, 3] (wbuf d) ∗ weights m d) := by
  rw [weights_eq, ← bigSepL_sep, ← bigSepL_sep]
  unfold slots slotSt
  refine bigSepL_mono fun q _ => ?_
  rw [if_neg (by decide)]
  iintro ⟨H1, H2, H3, -⟩
  isplitl [H1]; · iexact H1
  isplitl [H2]; · iexact H2
  iexact H3

theorem gOuts_elim (d : Dev nD) : gOuts (F := F) d 3 ⊢ bigSepL mS fun p => agAt d 4 p.1 p.2 := by
  rw [mS_nest fun s l => agAt (F := F) d 4 s l]
  have h (k : Fin 3) : bigSepL (agL k) (gOut (F := F) d 3) ⊢ bigSepL [0, 1, 2] fun s => bigSepL (agSl k) fun l => agAt d 4 s l := by
    rw [← agL_nest k fun p => agAt d 4 p.1 p.2]
    refine bigSepL_mono fun p _ => ?_
    unfold gOut
    iintro ⟨H, -⟩
    iexact H
  unfold gOuts all3
  exact BI.sep_mono (h 0) (BI.sep_mono (h 1) (h 2))

theorem rEnds_elim (d : Dev nD) : all3 (rEnds (F := F) d 3) = bigSepL mR fun p => iprop(∃ f : EB F, rp d p f) :=
  (mR_nest fun s k => iprop(∃ f : EB F, rp d (s, k) f)).symm
theorem rsRest_elim (d : Dev nD) : all3 (rsRest (F := F) d 3) = iprop((bigSepL mR fun p => rsAt d 3 p.1 p.2) ∗ bigSepL mR fun p => iprop(∃ f : EB F, sp d p f)) := by
  rw [← bigSepL_sep]
  exact (mR_nest fun s k => iprop(rsAt d 3 s k ∗ ∃ f : EB F, sp d (s, k) f)).symm

theorem close_all (d : Dev nD) : iprop(Recs m K ∗ bigSepL allCK fun k => atPos ER (cell d k) (nr k) ∅ 0) ⊢ |={Set.univ}=> bigSepL allCK fun k => (semVal (cell d k) 0 : sProp 𝕄) := by
  have h (k : CK) : iprop(Recs m K ∗ atPos ER (cell d k) (nr k) ∅ 0) ⊢ (iprop(|={Set.univ}=> semVal (cell d k) 0) : sProp 𝕄) := by
    iintro ⟨#HR, H⟩
    iapply (Rounds.cell_close ER (Rd m) (Set.mem_univ (K (d, k))) (fun h => h) (R := nr k) (Rd_later m d k))
    isplitr; · iapply (inv_of m K d k); iexact HR
    iexact H
  refine (with_recs allCK h).trans ?_
  rw [← bigSep_univ_eq_bigSepL allCK rfl allCK_nodup, ← bigSep_univ_eq_bigSepL allCK rfl allCK_nodup]
  exact bigSep_fupd _ _

theorem fini_elim (d : Dev nD) : iprop(Recs m K ∗ fini m d ∗ rest d)
    ⊢ |={Set.univ}=> iprop((bigSepL allCK fun k => semVal (cell d k) 0) ∗ weights m d ∗ bufs d ∗ inW m d ∗ outX d (k0_pay1 (Xn m 3))) := by
  have hp : iprop((atPos ER (cell d .bar) 1 ∅ 0) ∗ (bigSepL mS fun p => agAt (F := F) d 4 p.1 p.2) ∗ (bigSepL mR fun p => rsAt d 3 p.1 p.2) ∗ bigSepL [0, 1, 2, 3] fun q => wat d q 6)
      ⊢ bigSepL allCK fun k => atPos ER (cell d k) (nr k) ∅ 0 := by
    have e (A B : sProp (MT nD τ sig ℕ (Elt F) ℕ UU ℕ)) : iprop(A ∗ B) ⊢ A := by iintro ⟨H, -⟩; iexact H
    rw [ck_split, agAt_eq, rsAt_eq, wat_eq]
    iintro ⟨H0, ⟨H1, H2⟩, ⟨H3, H4⟩, H5, H6⟩
    isplitl [H0]; · iexact H0
    isplitl [H1]; · iapply (bigSepL_mono (l := mS) fun p _ => e _ _); iexact H1
    isplitl [H2]; · iapply (bigSepL_mono (l := mS) fun p _ => e _ _); iexact H2
    isplitl [H3]; · iapply (bigSepL_mono (l := mR) fun p _ => e _ _); iexact H3
    isplitl [H4]; · iapply (bigSepL_mono (l := mR) fun p _ => e _ _); iexact H4
    isplitl [H5]; · iapply (bigSepL_mono (l := [0, 1, 2, 3]) fun p _ => e _ _); iexact H5
    iapply (bigSepL_mono (l := [0, 1, 2, 3]) fun p _ => e _ _); iexact H6
  unfold fini lay
  rw [rsRest_elim, rEnds_elim, all_eq]
  generalize k0_pay1 (Xn m 3) = O
  generalize Xn m 3 = X
  iintro ⟨#HR, ⟨⟨Hs, Hx, Ha, Hg, ⟨Hrs, Hsp⟩, Hrp⟩, Hout, Hbar, Hin⟩, Hrest⟩
  ihave Hs := (slots_elim (m := m) d) $$ Hs
  icases Hs with ⟨Hwat, Hwb, HW⟩
  ihave Hg := (gOuts_elim d) $$ Hg
  ihave Hat := hp $$ [Hbar Hg Hrs Hwat]
  · isplitl [Hbar]; · iexact Hbar
    isplitl [Hg]; · iexact Hg
    isplitl [Hrs]; · iexact Hrs
    iexact Hwat
  imod (close_all (m := m) (K := K) d) $$ [Hat] with Hz
  · isplitr; · iexact HR
    iexact Hat
  imodintro
  isplitl [Hz]; · iexact Hz
  isplitl [HW]; · iexact HW
  isplitr [Hin Hout]
  · iapply (bufs_join d)
    isplitr [Hrest]
    · unfold bufParts
      isplitl [Hx]; · iexists X; iexact Hx
      isplitl [Ha]; · iexact Ha
      isplitl [Hwb]; · iexact Hwb
      isplitl [Hsp]; · iexact Hsp
      iexact Hrp
    iexact Hrest
  isplitl [Hin]; · iexact Hin
  iexact Hout

end Cert.KernelIdeal.Run

end
-- ==== Proof.Launch.lean ====
module

public import proofs.«01_k».proof.Proof.Hold
public import Idealize.ShloMosaic.Lib.Pipeline.CollectiveSegs

@[expose] public section

noncomputable section

/- The launch of the kernel on all devices, and its run. -/
namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-! ## The kernel's own semaphores -/

def ownCK : List CK := allCK.tail
theorem allCK_own : allCK = CK.bar :: ownCK := by decide +kernel
def osem (i : Fin ownCK.length) : SemLoc sig := csem (ownCK.get i)

theorem osem_inj : Function.Injective osem := fun i j h =>
  List.nodup_iff_injective_get.mp (by have h := allCK_nodup; rw [allCK_own] at h; exact (List.nodup_cons.mp h).2) (csem_inj h)
theorem csem_stage : ∀ k ∈ allCK, ∀ w s, csem k ≠ .dma ((spec0 w).sem s) := by decide +kernel
theorem csem_scoped : ∀ k ∈ ownCK, (csem k).isScoped .tc = true := by decide +kernel
theorem ownSemFacts : Pipeline.OwnSemFacts cfg0.spec osem :=
  ⟨fun i => csem_scoped _ (List.get_mem _ _), osem_inj, fun i => csem_stage _ (allCK_all _)⟩

theorem dec_stage (w : Fin 2) (s : Fin (spec0 w).nbuf) : dec (.dma ((spec0 w).sem s)) = none := by
  unfold dec Function.partialInv
  exact dif_neg fun ⟨k, hk⟩ => csem_stage k (allCK_all k) w s hk

theorem sems_eq (c : Dev nD) :
    iprop(Pipeline.ownSems0 (Ix := ℕ) (Name := ℕ) (U := UU) (Lvl := ℕ) (Val := Elt F) (τ := τ) osem c ∗ unscopedSems0 c)
      = (iprop((bigSepL ownCK fun k => semVal (cell c k) 0) ∗ semVal (cell c .bar) 0) : sProp 𝕄) := by
  have h1 : (Pipeline.ownSems0 (Ix := ℕ) (Name := ℕ) (U := UU) (Lvl := ℕ) (Val := Elt F) (τ := τ) osem c : sProp 𝕄) = bigSepL ownCK fun k => semVal (cell c k) 0 := by
    unfold Pipeline.ownSems0
    exact bigSep_get ownCK fun k => semVal (cell c k) 0
  have h2 : (unscopedSems0 c : sProp 𝕄) = semVal (cell c .bar) 0 := by
    unfold unscopedSems0; rw [bigSep_eq_bigSepL_of_eq [SemLoc.reg barS] (by decide) (by decide)]; exact (bigSepL_cons' _ _ _).trans (sep_emp' (F := F) _)
  rw [h1, h2]

theorem sems_split (c : Dev nD) : (bigSepL allCK fun k => semVal (cell c k) 0 : sProp 𝕄)
    ⊢ iprop(unscopedSems0 c ∗ Pipeline.ownSems0 (Ix := ℕ) (Name := ℕ) (U := UU) (Lvl := ℕ) (Val := Elt F) (τ := τ) osem c) := by
  rw [allCK_own, bigSepL_cons']
  refine BIBase.Entails.trans ?_ (show _ ⊢ _ from Laws.sep_comm.1)
  rw [sems_eq]
  exact Laws.sep_comm.1
theorem sems_join (c : Dev nD) : iprop(Pipeline.ownSems0 (Ix := ℕ) (Name := ℕ) (U := UU) (Lvl := ℕ) (Val := Elt F) (τ := τ) osem c ∗ unscopedSems0 c)
    ⊢ (iprop(bigSepL allCK fun k => semVal (cell c k) 0) : sProp 𝕄) := by
  rw [allCK_own, bigSepL_cons', sems_eq]
  exact Laws.sep_comm.1

/-! ## The body of the kernel's one point -/

/-- What a device starts from. -/
def startS (c : Dev nD) : sProp 𝕄 :=
  iprop((∃ K, Recs m K) ∗ linear c ∗ (cred (tallyAt (cell c .bar) 0 3) ∗ credA c ∗ credR c) ∗ weights m c)
def Φ₀ (c : Dev nD) : sProp 𝕄 := iprop(startS m c ∗ bufs c)
def Φ₁ (c : Dev nD) : sProp 𝕄 := iprop((bigSepL allCK fun k => semVal (cell c k) 0) ∗ weights m c ∗ bufs c)

def resC : (cc0_stg1_0 : Ref sig .tc).ty.Contents (Elt F) := k0_pay1 (Xn m 3)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m c
    | ⟨1, _⟩ => resC m
  Φ t := match t with
    | ⟨0, _⟩ => Φ₀ m c
    | ⟨_ + 1, _⟩ => Φ₁ m c
  q _ := fullShare
  owed t := match t with
    | ⟨0, _⟩ => owe c allMs
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (xstg m c) ∗ stg c cc0_stg1_0 (resC m))

theorem sound_body (c : Dev nD) :
    bodyPre m ρ c ⊢ wp frame (wpE (defs₀ (F := F)) 𝒱₀ (c : Thread nD τ) none) Set.univ (prog arg0M arg7M) (fun _ => bodyPost m ρ c) := by
  unfold bodyPre Φ₀ startS
  iintro ⟨⟨⟨⟨%K, #HR⟩, Hlin, Hcr, HW⟩, Hb⟩, Ho, ⟨%d0, %g0, %hg0, Hx⟩, ⟨%d1, %g1, %hg1, Hout⟩⟩
  have hx : g0 = xstg m c := by rw [hg0]; unfold Pipeline.Dat.before; rw [if_pos (fetch_0 t0_0)]; rfl
  subst hx
  unfold Pipeline.Dat.owesAt Pipeline.owesWithin
  icases Ho with ⟨%W, %hW, HO⟩
  rw [show (dats m ρ 0 c).owed t0_0.castSucc = owe c allMs from rfl]
  ihave Hp := (pre_intro (m := m) (K := K) c) $$ [Hlin Hcr HW Hb Hx Hout]
  · isplitr; · iexact HR
    isplitl [Hlin]; · iexact Hlin
    isplitl [Hcr]; · iexact Hcr
    isplitl [HW]; · iexact HW
    isplitl [Hb]; · iexact Hb
    isplitl [Hx]; · (unfold inW; iexact Hx)
    iexists g1; unfold outX; iexact Hout
  icases Hp with ⟨Hp, Hrest⟩
  iapply wp_fupd
  iapply (prog_spec (m := m) (K := K) c (fun _ => iprop(|={Set.univ}=> bodyPost m ρ c)))
  isplitr; · iexact HR
  isplitl [Hp HO]
  · isplitl [Hp]; · iexact Hp
    unfold ow; iexists W; iexact HO
  iintro ⟨Hf, Ho⟩
  imod (fini_elim (m := m) (K := K) c) $$ [Hf Hrest] with ⟨Hz, HW, Hb, Hin, Hout⟩
  · isplitr; · iexact HR
    isplitl [Hf]; · iexact Hf
    iexact Hrest
  imodintro
  unfold bodyPost Φ₁ Pipeline.Dat.owesAt Pipeline.owesWithin
  rw [show (dats m ρ 0 c).owed t0_0.succ = owe c [] from rfl]
  isplitl [Hz HW Hb]
  · isplitl [Hz]; · iexact Hz
    isplitl [HW]; · iexact HW
    iexact Hb
  isplitl [Ho]
  · unfold ow
    icases Ho with ⟨%W', Ho⟩
    iexists W'
    isplitr; · ipureintro; exact fun _ _ => Or.inl trivial
    iexact Ho
  isplitl [Hin]
  · iexists _; isplitr; · (ipureintro; rfl)
    unfold inW; iexact Hin
  iexists _; isplitr; · (ipureintro; rfl)
  unfold outX resC; iexact Hout

set_option maxRecDepth 200000 in
theorem row_eq : defs₀ (F := F) .tc cfg0.body (cfg0.bodyArgs t0_0 (cfg0.slots t0_0)) = prog arg0M arg7M :=
  (show defs₀ (F := F) .tc cfg0.body (cfg0.bodyArgs t0_0 (cfg0.slots t0_0)) = bodyAt0 t0_0 from rfl).trans (body_eq t0_0)

theorem wp_of_eq {c : Dev nD} {p q : P F PUnit} (h : p = q) {A : sProp (MT nD τ sig ℕ (Elt F) ℕ UU ℕ)} {Q : PUnit → sProp (MT nD τ sig ℕ (Elt F) ℕ UU ℕ)}
    (hq : A ⊢ wp frame (wpE (defs₀ (F := F)) 𝒱₀ (c : Thread nD τ) none) Set.univ q Q) :
    A ⊢ wp frame (wpE (defs₀ (F := F)) 𝒱₀ (c : Thread nD τ) none) Set.univ p Q := by
  subst h; exact hq

set_option maxRecDepth 200000 in
set_option maxHeartbeats 4000000 in
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  refine wp_of_eq row_eq ?_
  rw [show (dats m ρ 0 c).Φ t0_0.castSucc = Φ₀ m c from rfl, show (dats m ρ 0 c).Φ t0_0.succ = Φ₁ m c from rfl,
    show (dats m ρ 0 c).after 0 t0_0 = xstg m c from rfl, show (dats m ρ 0 c).after 1 t0_0 = resC m from rfl]
  have h := sound_body m ρ c
  unfold bodyPre bodyPost stg at h
  exact h

/-! ## The launch -/

theorem share_eq (c : Dev nD) (w : Fin cfg0.W) : (dats m ρ 0 c).share w = fullShare := by unfold Pipeline.Dat.share; split <;> rfl

def u₀ : UU :=
  (initOf (Pipeline.cells cfgs cellOf_inj) (Pipeline.launchToks cfgs cellOf_inj), initOf ringCells ringToks)

def G (c : Dev nD) : sProp 𝕄 :=
  iprop((bigSepL allCK fun k => roundState ER (Rd m) (cell c k) 0) ∗ (bigSepL allCK fun k => atPos ER (cell c k) 0 ∅ 0) ∗ (bigSepL allCK fun k => reached ER (cell c k) 0) ∗ ownToks c)

theorem fund_all : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (cells_eq fun g => roundState ER (Rd m) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G; simp only [bigSep_sep']
  isplitl [Hst]; · iexact Hst
  isplitl [Hat]; · iexact Hat
  isplitl [Hr]; · iexact Hr
  iexact Htok

def records (K : Dev nD × CK → ℕ) : sProp 𝕄 :=
  iprop((bigSep Finset.univ fun p : Dev nD × CK => cellInv ER (Rd m) (K p) (cell p.1 p.2)) ∗ bigSep Finset.univ fun p : Dev nD × CK => reached ER (cell p.1 p.2) 0)
instance records_persistent (K : Dev nD × CK → ℕ) : BI.Persistent (records m K) := by unfold records; infer_instance

def G' (c : Dev nD) : sProp 𝕄 := iprop((∃ K, records m K) ∗ linear c)

def coreS (c : Dev nD) : sProp 𝕄 :=
  iprop((bigSep Finset.univ fun k : CK => iprop(∃ κ : ℕ, cellInv ER (Rd m) κ (cell c k))) ∗ (bigSepL allCK fun k => atPos ER (cell c k) 0 ∅ 0)
    ∗ (bigSep Finset.univ fun k : CK => reached ER (cell c k) 0) ∗ ownToks c)

theorem core_alloc (c : Dev nD) :
    iprop(Pipeline.ownSems0 (Ix := ℕ) (Name := ℕ) (U := UU) (Lvl := ℕ) (Val := Elt F) (τ := τ) osem c ∗ unscopedSems0 c ∗ G m c) ⊢ |={Set.univ}=> coreS m c := by
  unfold G coreS
  iintro ⟨Hos, Hus, Hst, Hat, Hr, Htok⟩
  ihave Hv := (sems_join (F := F) c) $$ [Hos Hus]
  · isplitl [Hos]; · iexact Hos
    iexact Hus
  imod (show iprop((bigSepL allCK fun k => semVal (cell c k) 0) ∗ bigSepL allCK fun k => roundState ER (Rd m) (cell c k) 0)
      ⊢ (|={Set.univ}=> bigSep Finset.univ fun k : CK => iprop(∃ κ : ℕ, cellInv ER (Rd m) κ (cell c k)) : sProp 𝕄) from by
        rw [← bigSepL_sep, ← bigSep_univ_eq_bigSepL allCK rfl allCK_nodup]
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]
  · rw [bigSep_univ_eq_bigSepL allCK rfl allCK_nodup]; iexact Hr
  iexact Htok

theorem with_persistent {I : Type} [DecidableEq I] {S : Finset I} {R : sProp (MT nD τ sig ℕ (Elt F) ℕ UU ℕ)} [BI.Persistent R] {Φ Ψ : I → sProp (MT nD τ sig ℕ (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : bigSep Finset.univ (coreS m) ⊢ bigSep Finset.univ (G' m) := by
  unfold coreS
  rw [bigSep_sep', bigSep_sep', bigSep_sep', toks_deal, ← bigSep_univ_prod (fun p : Dev nD × CK => iprop(∃ κ : ℕ, cellInv ER (Rd m) κ (cell p.1 p.2))),
    ← bigSep_univ_prod (fun p : Dev nD × CK => (reached ER (cell p.1 p.2) 0 : sProp 𝕄))]
  iintro ⟨HI, Hat, #HR, Htok⟩
  ihave HK := (BI.bigSep_exists_pi Finset.univ (fun (p : Dev nD × CK) (κ : ℕ) => (cellInv ER (Rd m) κ (cell p.1 p.2) : sProp 𝕄))) $$ HI
  icases HK with ⟨%K, #HI⟩
  have h (c : Dev nD) : iprop(records m K ∗ linear c) ⊢ G' m c := by
    unfold G'
    iintro ⟨HR, HL⟩
    isplitl [HR]; · iexists K; iexact HR
    iexact HL
  iapply (with_persistent (R := records m K) fun c _ => h c)
  isplitr
  · unfold records; isplitl; · iexact HI
    iexact HR
  · unfold linear
    iapply (Entails.of_eq (bigSep_sep' Finset.univ (fun c : Dev nD => bigSepL allCK fun k => (atPos ER (cell c k) 0 ∅ 0 : sProp 𝕄)) payToks).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => owe d allMs) c ∗ prngReg c (ρ c) ∗ G' m c)
      ⊢ |={Set.univ}=> iprop(startS m c ∗ emp) := by
  rw [Pipeline.unscopedRestP_none, unscopedRest0_eq]
  unfold startS G' weights
  iintro ⟨HW, Hlev, Hcr, -, ⟨%K, Hrec⟩, Hlin⟩
  ihave Hc := (creds (F := F) c) $$ Hcr
  imodintro
  isplitl
  · isplitl [Hlev Hrec]
    · iexists K
      unfold Recs records
      icases Hrec with ⟨H1, H2⟩
      isplitl [H1]; · iexact H1
      isplitl [H2]; · iexact H2
      iexact Hlev
    isplitl [Hlin]; · iexact Hlin
    isplitl [Hc]; · iexact Hc
    iexact HW
  · iempintro

theorem phi0_intro (c : Dev nD) :
    iprop(startS m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl, scopedRest0_eq]
  unfold Φ₁ bufs
  iintro ⟨Hz, HW, Hr⟩
  ihave Hz := (sems_split (F := F) c) $$ Hz
  icases Hz with ⟨Hu, Ho⟩
  isplitl [Hu HW]
  · isplitl [Hu]; · iexact Hu
    iexact HW
  isplitl [Ho]; · iexact Ho
  iexact Hr

theorem waits (c : Dev nD) : (levAts L lv : sProp 𝕄) ⊢ Pipeline.cellsWaits cfgs (dats m ρ) 0 0 c :=
  Pipeline.cellsWaits_intro cfgs (dats m ρ) 0 0 c fun w s t => by
    have hlv : lv ((c : Thread nD τ), .dma ((spec0 w).sem s)) 0 = 0 := by unfold lv; dsimp only; rw [dec_stage]
    rcases t with ⟨_ | _, ht⟩
    · exact mayWait c _ 0 (by decide) allMs fun μ _ => by rw [hlv]; exact lvl_pos μ
    · exact mayWait c _ 0 (by decide) [] fun μ hμ => nomatch hμ

/-! ## The run -/

def finalA (c : Dev nD) (w : Fin cfg0.W) : Buf (Elt F) ((cfg0.win w).arr.view.loc (c : Thread nD τ)) := (dats m ρ 0 c).arrAt w cfg0.N

/-- The weights are what they were. -/
def Wts (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)
    ∧ s.mem ((c : Thread nD τ).loc main_arg5) = m ((c : Thread nD τ).loc main_arg5) ∧ s.mem ((c : Thread nD τ).loc main_arg6) = m ((c : Thread nD τ).loc main_arg6)

theorem read_weights (c : Dev nD) (s' : Phys nD τ sig (Elt F)) : iprop(weights m c ∗ SI s') ⊢ (iprop(⌜Wts m c s'.mem⌝ ∗ SI s') : sProp 𝕄) := by
  unfold weights Wts
  iintro ⟨⟨H1, H2, H3, H4, H5, H6⟩, HSI⟩
  icombine HSI H1 gives %h1
  icombine HSI H2 gives %h2
  icombine HSI H3 gives %h3
  icombine HSI H4 gives %h4
  icombine HSI H5 gives %h5
  icombine HSI H6 gives %h6
  isplitr
  · ipureintro
    exact ⟨Buf.eq_of_forall_mem_univ h1, Buf.eq_of_forall_mem_univ h2, Buf.eq_of_forall_mem_univ h3, Buf.eq_of_forall_mem_univ h4, Buf.eq_of_forall_mem_univ h5, Buf.eq_of_forall_mem_univ h6⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ Wts m c r.2

set_option maxRecDepth 200000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d allMs) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := startS m) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Wts m c s)
    (hY := fun c s' => by
      iintro ⟨⟨Hu, HW⟩, -, HSI⟩
      ihave H := (read_weights m c s') $$ [HW HSI]
      · isplitl [HW]; · iexact HW
        iexact HSI
      icases H with ⟨%hW, HSI⟩
      imod (Pipeline.unscopedSems0_read (X := unscopedSems0 c) (c := c) fupd_intro s') $$ [Hu HSI] with ⟨%hS, HSI⟩
      · isplitl [Hu]; · iexact Hu
        iexact HSI
      imodintro
      isplitr
      · ipureintro; exact ⟨hS, hW⟩
      iexact HSI)
    (hQ := fun _ h hs => ⟨fun c => ⟨fun w => (h c).1 w, (h c).2.2.2⟩, sem_eq_zero hs fun c => (h c).2.2.1⟩)

theorem finalA_x (c : Dev nD) : finalA m ρ c (0 : Fin 2) = m ((c : Thread nD τ).loc main_arg0) :=
  (dats (F := F) m ρ 0 c).arrAt_in (0 : Fin 2) rfl _

end Cert.KernelIdeal.Run

end
-- ==== Proof.Ref.lean ====
module

public import Idealize.ShloMosaic.Lib.StableHlo.Run
public import proofs.«01_k».proof.Proof.Gen.ReferenceIdeal

@[expose] public section

noncomputable section

/- The run of the reference: one device, three times a product, a maximum with zero and a product. -/
namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- One layer of the reference. -/
def layer (x : FVec F S512x2048 .f32) (w : FVec F S2048x32768 .f32) (u : FVec F S32768x2048 .f32) : FVec F S512x2048 .f32 :=
  Host.dotGeneral dot_S512x32768_S32768x2048_S512x2048_1_0_0_1_n_n none
    (maximumf (Host.dotGeneral dot_S512x2048_S2048x32768_S512x32768_1_0_0_1_n_n none x w) (broadcastInDim S512x32768 ![] bcast_S_S512x32768 (constant S_ .f32 0x00000000#32))) u

abbrev ops : List (HloOp τ sig (Elt F)) :=
  [ binary main_arg0 main_arg1 main_v0 (fun l r => Host.dotGeneral dot_S512x2048_S2048x32768_S512x32768_1_0_0_1_n_n none l r),
    nullary main_cst (constant S_ .f32 0x00000000#32),
    unary main_cst main_v1 (broadcastInDim S512x32768 ![] bcast_S_S512x32768),
    binary main_v0 main_v1 main_v2 maximumf,
    binary main_v2 main_arg4 main_v3 (fun l r => Host.dotGeneral dot_S512x32768_S32768x2048_S512x2048_1_0_0_1_n_n none l r),
    binary main_v3 main_arg2 main_v4 (fun l r => Host.dotGeneral dot_S512x2048_S2048x32768_S512x32768_1_0_0_1_n_n none l r),
    nullary main_cst_0 (constant S_ .f32 0x00000000#32),
    unary main_cst_0 main_v5 (broadcastInDim S512x32768 ![] bcast_S_S512x32768),
    binary main_v4 main_v5 main_v6 maximumf,
    binary main_v6 main_arg5 main_v7 (fun l r => Host.dotGeneral dot_S512x32768_S32768x2048_S512x2048_1_0_0_1_n_n none l r),
    binary main_v7 main_arg3 main_v8 (fun l r => Host.dotGeneral dot_S512x2048_S2048x32768_S512x32768_1_0_0_1_n_n none l r),
    nullary main_cst_1 (constant S_ .f32 0x00000000#32),
    unary main_cst_1 main_v9 (broadcastInDim S512x32768 ![] bcast_S_S512x32768),
    binary main_v8 main_v9 main_v10 maximumf,
    binary main_v10 main_arg6 main_v11 (fun l r => Host.dotGeneral dot_S512x32768_S32768x2048_S512x2048_1_0_0_1_n_n none l r) ]

theorem main_eq (c : Dev nD) : main (F := F) c = seq ops := rfl

theorem out_eq (V : Valuation τ sig (Elt F)) : after ops V (main_v11 : DevRef τ sig)
    = layer (layer (layer (V (main_arg0 : DevRef τ sig)) (V (main_arg1 : DevRef τ sig)) (V (main_arg4 : DevRef τ sig)))
        (V (main_arg2 : DevRef τ sig)) (V (main_arg5 : DevRef τ sig))) (V (main_arg3 : DevRef τ sig)) (V (main_arg6 : DevRef τ sig)) := by
  after_results
  rfl

theorem arg_eq (V : Valuation τ sig (Elt F)) (b : Ref sig .tc) (hb : b ∈ [main_arg0, main_arg1, main_arg2, main_arg3, main_arg4, main_arg5, main_arg6]) :
    after ops V (b : DevRef τ sig) = V (b : DevRef τ sig) := by
  simp only [List.mem_cons, List.not_mem_nil, or_false] at hb
  rcases hb with rfl | rfl | rfl | rfl | rfl | rfl | rfl <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., binary_bufs_sub ..,
    binary_bufs_sub .., nullary_bufs_sub .., unary_bufs_sub .., binary_bufs_sub .., binary_bufs_sub ..,
    binary_bufs_sub .., nullary_bufs_sub .., unary_bufs_sub .., binary_bufs_sub .., binary_bufs_sub ..⟩

/-- The reference ends with its three layers in the result, its arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v11)
          = layer (layer (layer (m ((c.tc : Thread nD τ).loc main_arg0)) (m ((c.tc : Thread nD τ).loc main_arg1)) (m ((c.tc : Thread nD τ).loc main_arg4)))
              (m ((c.tc : Thread nD τ).loc main_arg2)) (m ((c.tc : Thread nD τ).loc main_arg5))) (m ((c.tc : Thread nD τ).loc main_arg3)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c =>
      ⟨(h c main_v11).trans (out_eq _), (h c main_arg0).trans (arg_eq _ _ (by simp)), (h c main_arg1).trans (arg_eq _ _ (by simp)),
        (h c main_arg2).trans (arg_eq _ _ (by simp)), (h c main_arg3).trans (arg_eq _ _ (by simp)), (h c main_arg4).trans (arg_eq _ _ (by simp)),
        (h c main_arg5).trans (arg_eq _ _ (by simp)), (h c main_arg6).trans (arg_eq _ _ (by simp))⟩)
    (run_seq scopedRefs_eq scopedSems_eq defs main (fun _ => ops) main_eq (fun _ => ops_sub) m ρ)

end Cert.Proof.Ref

end
-- ==== Proof.Frames.lean ====
module

public import proofs.«01_k».proof.Defs
public import proofs.«01_k».proof.Proof.Launch
public import proofs.«01_k».proof.Proof.Ref
public import proofs.«01_k».proof.Proof.Gen.Kernel
public import Idealize.ShloMosaic.Lib.Pipeline.ValueKit.Geometry

@[expose] public section

noncomputable section

/- What the runs of the three programs leave: the frames. -/
namespace Cert.KernelIdeal.Run

open Cert.KernelIdeal Cert.KernelIdeal.Gen
open Idealize.ShloMosaic
open Idealize.ShloMosaic.TcCoe
open Idealize.SL.Sem

variable {F : FTy → Type} [FloatOps F] (m : (ℓ : Loc nD τ sig) → Buf (Elt F) ℓ) (ρ : Dev nD → PrngReg)

/-- The result array ends as the body left its staging buffer. -/
theorem finalA_o (c : Dev nD) : finalA m ρ c (1 : Fin 2) = resC m := by
  refine (dats m ρ 0 c).arrAt_eq_of_covers (1 : Fin 2) (resC m) (by decide +kernel) fun t hf y => ?_
  obtain rfl := fin_N0 t
  blk_simp
  rw [show (dats m ρ 0 c).after 1 t0_0 = resC m from rfl]
  congr 1
  funext a
  apply Fin.ext
  match a with
  | ⟨0, _⟩ => simp; rfl
  | ⟨1, _⟩ => simp; rfl

theorem run_all : θ_run defs (onTc (τ := τ) (main (F := F))) ⟨m, fun _ => 0, ρ⟩ (fun r => (∀ c : Dev nD,
    r.2.mem ((c.tc : Thread nD τ).loc main_v1) = resC m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 (1 : Fin 2)).trans (finalA_o m ρ c), ((h.1 c).1 (0 : Fin 2)).trans (finalA_x m ρ c), (h.1 c).2⟩, h.2⟩) (run_main m ρ)

end Cert.KernelIdeal.Run

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Cert.KernelIdeal.Run.run_all (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.Proof.Ref.run_main (F := Ideal) m ρ)

open Cert.KernelIdeal in
/-- The run at the machine's own numbers, whose program is the kernel's too. -/
theorem run_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run Cert.KernelIdeal.defs _ _).mono (fun _ h => ⟨fun c => (h.1 c).2, h.2⟩) (Cert.KernelIdeal.Run.run_all (F := Bits) m ρ)

/-! The kernel's program and its idealization have the same text, and so the same body table. -/

theorem defs0_eq : Cert.Kernel.defs₀ (F := Bits) = Cert.KernelIdeal.defs₀ (F := Bits) := by
  refine congrArg Defs.onTc (funext fun l => funext fun a => ?_)
  match l, a with
  | ⟨0, _⟩, (t, s) => exact rfl
  | ⟨n + 1, h⟩, _ => exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) defs0_eq

theorem frame_kernel : Cert.quiescent_Kernel := by
  unfold Cert.quiescent_Kernel
  rw [defs_eq]
  exact fun m ρ _ => run_bits m ρ

end Cert.Proof

end
-- ==== Proof.Sum.lean ====
module

public import proofs.«01_k».proof.Proof.Sched
public import Idealize.ShloMosaic.Lib.StackMember

@[expose] public section

noncomputable section

/- The scatter steps over the exact numbers: a device's own rows end as the sum over the eight devices. -/
namespace Cert.KernelIdeal.Run

open Cert.KernelIdeal Cert.KernelIdeal.Gen
open Idealize.ShloMosaic Idealize.ShloMosaic.TcCoe Idealize.ShloMosaic.ValueIdx

/-! ## One block's addition, element by element -/

/-- Cells of a sum. -/
abbrev AE : Type := S512x2048.Idx → EReal

theorem acc_cast {s t : Shape} (v w : s.Idx → EReal) (h1 : s.ShapeCasts t) (h2 : t.ShapeCasts s) (h3 : s.ShapeCasts s) (x : s.Idx) :
    shapeCast s (fun i => (v i + shapeCast s (shapeCast t w h1) h2 i : EReal)) h3 x = v x + w x := by
  rw [shapeCast_self, shapeCast_shapeCast]

/-- What a partner sends, added: at an index of the block, the receiver's element plus the sent one. -/
theorem accPay_sent (s : Fin 3) (v w : (psh s).Idx → EReal) (x : (psh s).Idx) :
    accPay (F := Ideal) s v (sndPay (F := Ideal) s w) x = (v x + w x : EReal) := by
  match s with
  | 0 => exact acc_cast (s := S64x768) (t := S1x64x768) v w _ _ _ x
  | 1 => exact acc_cast (s := S64x640) (t := S1x64x640) v w _ _ _ x
  | 2 => exact acc_cast (s := S64x640) (t := S1x64x640) v w _ _ _ x

theorem accAt_apply (d : Dev nD) (s k : Fin 3) (v f : AE) (j : Fin 8) (i : S512x2048.Idx) :
    (accAt (F := Ideal) d s k v f j : AE) i = if i ∈ pS s (xr d (xj (rsBit s k) j)) then f i + v i else f i := by
  split
  · next h =>
    have hm : i ∈ (accM.access (pRect s d (xj (rsBit s k) j))).set := by rw [View.set_slice_whole, pRect_set]; exact h
    obtain ⟨x, -, rfl⟩ := Finset.mem_map.mp hm
    refine ((accM.access (pRect s d (xj (rsBit s k) j))).write_emb_of_mem (Val := Elt Ideal) f _ (Finset.mem_univ x)).trans ?_
    refine (accPay_sent s _ _ x).trans ?_
    show f ((pRect s d (xj (rsBit s k) j)).emb x) + v ((pRect s (pd d (rsBit s k)) j).emb x) = _
    refine congrArg (fun y => f ((pRect s d (xj (rsBit s k) j)).emb x) + v y) ?_
    funext a
    apply Fin.ext
    simp only [Rect.emb_apply]
    show pOff _ _ _ a + _ * _ = pOff _ _ _ a + _ * _
    rw [pOff_eq, pOff_eq, xr_pd]
    rfl
  · next h =>
    refine (accM.access (pRect s d (xj (rsBit s k) j))).write_of_not_mem (Val := Elt Ideal) f _ _ fun hm => h ?_
    rw [View.setOn_univ, View.set_slice_whole, pRect_set] at hm
    exact hm

/-! ## The steps, at one index -/

/-- Whether a step's message with rows `j` reaches the rows `ρ` of device `d`. -/
def hit (s k : Fin 3) (d : Dev nD) (ρ : Fin 8) (j : Fin 8) : Bool := decide (xr d (xj (rsBit s k) j) = ρ)

/-- A device's element after a step, from every device's element before it, in schedule `s` and the rows `ρ`. -/
def stepE (s k : Fin 3) (ρ : Fin 8) (a : Dev nD → EReal) (d : Dev nD) : EReal :=
  ((rsB s k).filter fun p => hit s k d ρ p.2).foldl (fun y _ => y + a (pd d (rsBit s k))) (a d)

theorem foldl_apply (d : Dev nD) (s k s0 : Fin 3) (ρ : Fin 8) (v : AE) (i : S512x2048.Idx)
    (hi : ∀ (s : Fin 3) (r : Fin 8), i ∈ pS s r ↔ s = s0 ∧ r = ρ) (l : List (Nat × Fin 8)) (f : AE) :
    (l.foldl (fun f p => accAt (F := Ideal) d s k v f p.2) f : AE) i
      = if s = s0 then (l.filter fun p => hit s k d ρ p.2).foldl (fun y _ => y + v i) (f i) else f i := by
  induction l generalizing f with
  | nil => simp
  | cons p l ih =>
    rw [List.foldl_cons]
    refine (ih _).trans ?_
    have e := accAt_apply d s k v f p.2 i
    by_cases hs : s = s0
    · by_cases hr : xr d (xj (rsBit s k) p.2) = ρ
      · rw [if_pos ((hi _ _).2 ⟨hs, hr⟩)] at e
        rw [if_pos hs, if_pos hs, List.filter_cons_of_pos (by simpa [hit] using hr), List.foldl_cons]
        exact congrArg (fun y : EReal => (l.filter fun p => hit s k d ρ p.2).foldl (fun y _ => y + v i) y) e
      · rw [if_neg (fun h => hr ((hi _ _).1 h).2)] at e
        rw [if_pos hs, if_pos hs, List.filter_cons_of_neg (by simpa [hit] using hr)]
        exact congrArg (fun y : EReal => (l.filter fun p => hit s k d ρ p.2).foldl (fun y _ => y + v i) y) e
    · rw [if_neg (fun h => hs ((hi _ _).1 h).1)] at e
      rw [if_neg hs, if_neg hs]
      exact e

theorem accK_apply (A : Dev nD → AE) (k s0 : Fin 3) (ρ : Fin 8) (i : S512x2048.Idx)
    (hi : ∀ (s : Fin 3) (r : Fin 8), i ∈ pS s r ↔ s = s0 ∧ r = ρ) (d : Dev nD) :
    (accK (F := Ideal) A k d : AE) i = stepE s0 k ρ (fun c => A c i) d := by
  unfold accK
  rw [List.foldl_cons, List.foldl_cons, List.foldl_cons, List.foldl_nil]
  refine (foldl_apply d 2 k s0 ρ (A (pd d (rsBit 2 k))) i hi _ _).trans ?_
  have e1 := fun f => foldl_apply d 1 k s0 ρ (A (pd d (rsBit 1 k))) i hi (rsB 1 k) f
  have e0 := foldl_apply d 0 k s0 ρ (A (pd d (rsBit 0 k))) i hi (rsB 0 k) (A d)
  match s0 with
  | 0 => rw [if_neg (by decide)]; refine (e1 _).trans ?_; rw [if_neg (by decide)]; exact e0.trans (if_pos rfl)
  | 1 => rw [if_neg (by decide)]; refine (e1 _).trans ?_; rw [if_pos rfl]; exact congrArg (fun y : EReal => List.foldl _ y _) (e0.trans (if_neg (by decide)))
  | 2 => rw [if_pos rfl]; exact congrArg (fun y : EReal => List.foldl _ y _) ((e1 _).trans ((if_neg (by decide)).trans (e0.trans (if_neg (by decide)))))

/-- A step that reaches the rows once adds the partner's element. -/
theorem stepE_one (s k : Fin 3) (ρ : Fin 8) (a : Dev nD → EReal) (d : Dev nD)
    (h : ((rsB s k).filter fun p => hit s k d ρ p.2).length = 1) : stepE s k ρ a d = a d + a (pd d (rsBit s k)) := by
  obtain ⟨p, hp⟩ := List.length_eq_one_iff.mp h
  rw [stepE, hp]; rfl

/-- Where the three steps reach the rows `ρ`: the owner, then the two that reach it, then the four. -/
theorem hits2 : ∀ s ρ, ((rsB s 2).filter fun p => hit s 2 ρ ρ p.2).length = 1 := by decide +kernel
theorem hits1 : ∀ s ρ, ∀ d ∈ [ρ, pd ρ (rsBit s 2)], ((rsB s 1).filter fun p => hit s 1 d ρ p.2).length = 1 := by decide +kernel
theorem hits0 : ∀ s ρ, ∀ d ∈ [ρ, pd ρ (rsBit s 1), pd ρ (rsBit s 2), pd (pd ρ (rsBit s 2)) (rsBit s 1)],
    ((rsB s 0).filter fun p => hit s 0 d ρ p.2).length = 1 := by decide +kernel

/-- The eight devices, as the steps gather them. -/
def order (s : Fin 3) (ρ : Dev nD) : List (Dev nD) :=
  let four := [ρ, pd ρ (rsBit s 1), pd ρ (rsBit s 2), pd (pd ρ (rsBit s 2)) (rsBit s 1)]
  four.flatMap fun d => [d, pd d (rsBit s 0)]
theorem order_perm : ∀ s ρ, (order s ρ).Perm (List.finRange 8) := by decide +kernel

theorem steps_sum (s : Fin 3) (ρ : Dev nD) (a : Dev nD → EReal) :
    stepE s 2 ρ (stepE s 1 ρ (stepE s 0 ρ a)) ρ = ∑ c, a c := by
  have e0 := fun d h => stepE_one s 0 ρ a d (hits0 s ρ d h)
  have e1 := fun d h => stepE_one s 1 ρ (stepE s 0 ρ a) d (hits1 s ρ d h)
  rw [stepE_one s 2 ρ _ ρ (hits2 s ρ), e1 ρ (by simp), e1 (pd ρ (rsBit s 2)) (by simp), e0 ρ (by simp), e0 (pd ρ (rsBit s 1)) (by simp),
    e0 (pd ρ (rsBit s 2)) (by simp), e0 (pd (pd ρ (rsBit s 2)) (rsBit s 1)) (by simp)]
  have h := ((order_perm s ρ).map a).sum_eq
  rw [← List.ofFn_eq_map, List.sum_ofFn] at h
  refine Eq.trans ?_ h
  simp only [order, List.flatMap_cons, List.flatMap_nil, List.map_append, List.map_cons, List.map_nil, List.sum_append, List.sum_cons, List.sum_nil, add_zero, List.append_nil]
  simp only [add_assoc]

/-- The schedule of a column. -/
theorem stripe (i : S512x2048.Idx) : ∃ s0 : Fin 3, ∀ (s : Fin 3) (r : Fin 8), i ∈ pS s r ↔ s = s0 ∧ r = dv i := by
  have h1 : (i 1).val < 2048 := (i 1).isLt
  have h0 : (dv i).val = (i 0).val / 64 := rfl
  have key : ∀ s0 : Fin 3, pc s0 ≤ (i 1).val → (i 1).val < pc s0 + pw s0 → ∀ (s : Fin 3) (r : Fin 8), i ∈ pS s r ↔ s = s0 ∧ r = dv i := by
    intro s0 ha hb s r
    rw [pS, Finset.mem_filter, Fin.ext_iff (a := r), h0]
    constructor
    · rintro ⟨-, hr, hc, hd⟩
      refine ⟨?_, hr.symm⟩
      match s, s0, ha, hb, hc, hd with
      | 0, 0, _, _, _, _ | 1, 1, _, _, _, _ | 2, 2, _, _, _, _ => rfl
      | 0, 1, ha, hb, hc, hd | 0, 2, ha, hb, hc, hd | 1, 0, ha, hb, hc, hd | 1, 2, ha, hb, hc, hd | 2, 0, ha, hb, hc, hd | 2, 1, ha, hb, hc, hd =>
        simp only [pc, pw] at ha hb hc hd; omega
    · rintro ⟨rfl, hr⟩
      exact ⟨Finset.mem_univ _, hr.symm, ha, hb⟩
  by_cases a : (i 1).val < 768
  · exact ⟨0, key 0 (Nat.zero_le _) a⟩
  · by_cases b : (i 1).val < 1408
    · exact ⟨1, key 1 (by show 768 ≤ _; omega) b⟩
    · exact ⟨2, key 2 (by show 1408 ≤ _; omega) (by show _ < 1408 + 640; omega)⟩

/-- **The scatter**: the owner of an index ends with the sum over the devices. -/
theorem accR_apply (A : Dev nD → AE) (i : S512x2048.Idx) : (accR (F := Ideal) A 3 (dv i) : AE) i = ∑ c, A c i := by
  obtain ⟨s0, hi⟩ := stripe i
  refine Eq.trans ?_ (steps_sum s0 (dv i) fun c => A c i)
  refine (accK_apply (accR (F := Ideal) A 2) 2 s0 (dv i) i hi (dv i)).trans ?_
  refine congrArg (fun g => stepE s0 2 (dv i) g (dv i)) (funext fun d => ?_)
  refine (accK_apply (accR (F := Ideal) A 1) 1 s0 (dv i) i hi d).trans ?_
  refine congrArg (fun g => stepE s0 1 (dv i) g d) (funext fun d => ?_)
  exact accK_apply A 0 s0 (dv i) i hi d

end Cert.KernelIdeal.Run
-- ==== Proof.Values.lean ====
module

public import proofs.«01_k».proof.Proof.Sum
public import Idealize.ShloMosaic.Lib.MatmulPlain
public import Idealize.ShloMosaic.Lib.Pipeline.ValueKit.Geometry

@[expose] public section

noncomputable section

/- What the tiles and the gathers hold over the exact numbers, element by element. -/
namespace Cert.KernelIdeal.Run

open Cert.KernelIdeal Cert.KernelIdeal.Gen
open Idealize.ShloMosaic Idealize.ShloMosaic.TcCoe Idealize.ShloMosaic.ValueIdx

/-! ## The gathers -/

/-- An index's place among its owner's rows. -/
def ownIx (i : S512x2048.Idx) : S64x2048.Idx := ix2 ⟨(i 0).val % 64, Nat.mod_lt _ (by decide)⟩ (i 1)

theorem rowR_ownIx (i : S512x2048.Idx) : (rowR (dv i)).emb (ownIx i) = i := by
  funext a
  apply Fin.ext
  rw [Rect.emb_apply]
  show k0_off1 (dv i) a + 1 * (ownIx i a).val = _
  rw [rowOff_eq]
  match a with
  | ⟨0, _⟩ =>
    show 64 * ((i 0).val / 64) + 1 * ((i 0).val % 64) = (i 0).val
    omega
  | ⟨1, _⟩ => show 0 + 1 * (i 1).val = (i 1).val; omega

theorem joinX_apply (P : Dev nD → S64x2048.Idx → EReal) (i : S512x2048.Idx) : (joinX (F := Ideal) P : AE) i = P (dv i) (ownIx i) := by
  have h := (xfM.access (rowR (dv i))).write_emb_of_mem (Val := Elt Ideal) xf0 (P (dv i)) (Finset.mem_univ (ownIx i))
  rw [show (xfM.access (rowR (dv i))).emb (ownIx i) = i from rowR_ownIx i] at h
  exact h

/-- The rows a device casts from its ownIx sum. -/
theorem joinX_sum (B : Dev nD → AE) (i : S512x2048.Idx) :
    (joinX (F := Ideal) (fun d => k0_pay194 (F := Ideal) (accM.view.readAt (Elt Ideal) (rowR d).toLoadRect (B d))) : AE) i = B (dv i) i := by
  refine (joinX_apply _ i).trans ?_
  refine (congrFun (shapeCast_self (s := S64x2048) (fun x => B (dv i) ((rowR (dv i)).emb x)) shapeCasts_S64x2048_S64x2048) (ownIx i)).trans ?_
  show B (dv i) ((rowR (dv i)).emb (ownIx i)) = _
  rw [rowR_ownIx]

theorem joinX_in (X : Dev nD → S64x2048.Idx → EReal) (i : S512x2048.Idx) :
    (joinX (F := Ideal) (fun d => k0_pay2 (F := Ideal) (X d)) : AE) i = X (dv i) (ownIx i) := by
  refine (joinX_apply _ i).trans ?_
  show shapeCast S64x2048 (shapeCast S64x2048 (X (dv i)) _) _ (ownIx i) = _
  rw [shapeCast_self, shapeCast_self]

/-! ## The tiles -/

theorem wi_slot (q : Fin 4) (z : S2048x512.Idx → EReal) (k : Fin 2048) (h : Fin 512) :
    (wiM.view.readAt (Elt Ideal) (wiR q).toLoadRect ((wiV q).view.rep (Val := Elt Ideal) z) : S1x2048x512.Idx → EReal) (ix3 0 k h) = z (ix2 k h) := by
  refine Eq.trans ?_ (congrFun ((wiV q).view.read_rep (Val := Elt Ideal) z) (ix2 k h))
  have e : Shape.reshapeEquiv squeezes_S1x2048x512_S2048x512.numel_eq (ix2 k h) = (ix3 0 k h : S1x2048x512.Idx) :=
    Shape.reshapeEquiv_eq_of_rowMajor _ (by
      rw [Shape.rowMajor_val_three, Shape.rowMajor_val_two]
      show ((0 * 2048 + k.val) * 512 + h.val) = k.val * 512 + h.val
      omega)
  rw [← e]
  rfl

theorem wo_slot (q : Fin 4) (z : S512x2048.Idx → EReal) (h : Fin 512) (l : Fin 2048) :
    (woM.view.readAt (Elt Ideal) (woR q).toLoadRect ((woV q).view.rep (Val := Elt Ideal) z) : S1x512x2048.Idx → EReal) (ix3 0 h l) = z (ix2 h l) := by
  refine Eq.trans ?_ (congrFun ((woV q).view.read_rep (Val := Elt Ideal) z) (ix2 h l))
  have e : Shape.reshapeEquiv squeezes_S1x512x2048_S512x2048.numel_eq (ix2 h l) = (ix3 0 h l : S1x512x2048.Idx) :=
    Shape.reshapeEquiv_eq_of_rowMajor _ (by
      rw [Shape.rowMajor_val_three, Shape.rowMajor_val_two]
      show ((0 * 512 + h.val) * 2048 + l.val) = h.val * 2048 + l.val
      omega)
  rw [← e]
  rfl

/-- One tile's two products. -/
theorem tileV_apply (x : AE) (wi : S1x2048x512.Idx → EReal) (wo : S1x512x2048.Idx → EReal) (r : Fin 512) (l : Fin 2048) :
    (tileV (F := Ideal) x wi wo : AE) (ix2 r l)
      = ∑ h : Fin 512, max (∑ k : Fin 2048, x (ix2 r k) * wi (ix3 0 k h)) 0 * wo (ix3 0 h l) := by
  have ci : ∀ k h, shapeCast S2048x512 wi shapeCasts_S1x2048x512_S2048x512 (ix2 k h) = wi (ix3 0 k h) := fun k h =>
    shapeCast_apply _ _ _ _ (by
      rw [Shape.rowMajor_val_three, Shape.rowMajor_val_two]
      show ((0 * 2048 + k.val) * 512 + h.val) = k.val * 512 + h.val
      omega)
  have co : ∀ h l, shapeCast S512x2048 wo shapeCasts_S1x512x2048_S512x2048 (ix2 h l) = wo (ix3 0 h l) := fun h l =>
    shapeCast_apply _ _ _ _ (by
      rw [Shape.rowMajor_val_three, Shape.rowMajor_val_two]
      show ((0 * 512 + h.val) * 2048 + l.val) = h.val * 2048 + l.val
      omega)
  have z : (Ideal.ofBits .f32 0x00000000#32 : EReal) = 0 := Ideal.ofBits_zero_f32
  refine (Ideal.matmul_plain_apply (φ₁ := .bf16) (φ₂ := .bf16) none
    (fun i => max (FloatOps.matmul (F := Ideal) (DotDims.plain 512 2048 512) (φ₁ := .bf16) (φ₂ := .bf16) none x (shapeCast S2048x512 wi shapeCasts_S1x2048x512_S2048x512)
      (fun _ => Ideal.ofBits .f32 0x00000000#32) i) (Ideal.ofBits .f32 0x00000000#32 : EReal))
    (shapeCast S512x2048 wo shapeCasts_S1x512x2048_S512x2048) (fun _ => Ideal.ofBits .f32 0x00000000#32) r l).trans ?_
  rw [z, zero_add]
  refine Finset.sum_congr rfl fun h _ => ?_
  rw [co]
  refine congrArg (fun y : EReal => max y 0 * wo (ix3 0 h l)) ?_
  rw [Ideal.matmul_plain_apply, zero_add]
  exact Finset.sum_congr rfl fun k _ => by rw [ci]

variable (m : (ℓ : Loc nD τ sig) → Buf (Elt Ideal) ℓ)

/-- The weights of a tile, as their copies leave them. -/
def wiT (c : Dev nD) (L : Fin 3) (t : Fin 8) : S2048x512.Idx → EReal := (winV L t).view.read (Elt Ideal) (wIn m c L)
def woT (c : Dev nD) (L : Fin 3) (t : Fin 8) : S512x2048.Idx → EReal := (woutV L t).view.read (Elt Ideal) (wOut m c L)

/-- A tile's contribution. -/
def tileE (X : AE) (c : Dev nD) (L : Fin 3) (t : Fin 8) (r : Fin 512) (l : Fin 2048) : EReal :=
  ∑ h : Fin 512, max (∑ k : Fin 2048, X (ix2 r k) * wiT m c L t (ix2 k h)) 0 * woT m c L t (ix2 h l)

theorem tile_apply (X : AE) (c : Dev nD) (L : Fin 3) (t : Fin 8) (r : Fin 512) (l : Fin 2048) :
    (tileV (F := Ideal) X (wiM.view.readAt (Elt Ideal) (wiR (sl4 t)).toLoadRect (wiC m c L t (sl4 t)))
      (woM.view.readAt (Elt Ideal) (woR (sl4 t)).toLoadRect (woC m c L t (sl4 t))) : AE) (ix2 r l) = tileE m X c L t r l := by
  refine (tileV_apply X _ _ r l).trans (Finset.sum_congr rfl fun h _ => ?_)
  have eo : (woM.view.readAt (Elt Ideal) (woR (sl4 t)).toLoadRect (woC m c L t (sl4 t)) : S1x512x2048.Idx → EReal) (ix3 0 h l) = woT m c L t (ix2 h l) :=
    wo_slot (sl4 t) (woT m c L t) h l
  have ei : ∀ k, (wiM.view.readAt (Elt Ideal) (wiR (sl4 t)).toLoadRect (wiC m c L t (sl4 t)) : S1x2048x512.Idx → EReal) (ix3 0 k h) = wiT m c L t (ix2 k h) :=
    fun k => wi_slot (sl4 t) (wiT m c L t) k h
  rw [eo]
  refine congrArg (fun y : EReal => max y 0 * woT m c L t (ix2 h l)) (Finset.sum_congr rfl fun k _ => ?_)
  rw [ei]

theorem tileX_zero (X a : AE) (c : Dev nD) (L : Fin 3) (r : Fin 512) (l : Fin 2048) :
    (tileX m X c L a 0 : AE) (ix2 r l) = tileE m X c L 0 r l := by
  refine Eq.trans ?_ (tile_apply m X c L 0 r l)
  have e := shapeCast_self (s := S512x2048) (tileV (F := Ideal) X (wiM.view.readAt (Elt Ideal) (wiR (sl4 0)).toLoadRect (wiC m c L 0 (sl4 0)))
      (woM.view.readAt (Elt Ideal) (woR (sl4 0)).toLoadRect (woC m c L 0 (sl4 0))) : AE) shapeCasts_S512x2048_S512x2048
  exact congrFun e (ix2 r l)

theorem tileX_succ (X a : AE) (c : Dev nD) (L : Fin 3) (t : Fin 7) (r : Fin 512) (l : Fin 2048) :
    (tileX m X c L a t.succ : AE) (ix2 r l) = a (ix2 r l) + tileE m X c L t.succ r l := by
  rw [← tile_apply m X c L t.succ r l]
  have e := shapeCast_self (s := S512x2048) (fun i => a i + (tileV (F := Ideal) X (wiM.view.readAt (Elt Ideal) (wiR (sl4 t.succ)).toLoadRect (wiC m c L t.succ (sl4 t.succ)))
      (woM.view.readAt (Elt Ideal) (woR (sl4 t.succ)).toLoadRect (woC m c L t.succ (sl4 t.succ))) : AE) i : AE) shapeCasts_S512x2048_S512x2048
  exact congrFun e (ix2 r l)

/-- The sum of a layer's eight tiles. -/
theorem tilesX_apply (X : AE) (c : Dev nD) (L : Fin 3) (r : Fin 512) (l : Fin 2048) :
    (tilesX m X c L : AE) (ix2 r l) = ∑ t : Fin 8, tileE m X c L t r l := by
  have s := fun (a : AE) (t : Fin 7) => tileX_succ m X a c L t r l
  rw [Fin.sum_univ_eight]
  refine (s _ 6).trans (congrArg (· + tileE m X c L 7 r l) ?_)
  refine (s _ 5).trans (congrArg (· + tileE m X c L 6 r l) ?_)
  refine (s _ 4).trans (congrArg (· + tileE m X c L 5 r l) ?_)
  refine (s _ 3).trans (congrArg (· + tileE m X c L 4 r l) ?_)
  refine (s _ 2).trans (congrArg (· + tileE m X c L 3 r l) ?_)
  refine (s _ 1).trans (congrArg (· + tileE m X c L 2 r l) ?_)
  refine (s _ 0).trans (congrArg (· + tileE m X c L 1 r l) ?_)
  exact tileX_zero m X _ c L r l

end Cert.KernelIdeal.Run
-- ==== Proof.Algebra.lean ====
module

public import proofs.«01_k».proof.Proof.Values
public import proofs.«01_k».proof.Proof.Frames

@[expose] public section

noncomputable section

/- The kernel's result is the reference's: three times a product, a maximum with zero and a product. -/
namespace Cert.KernelIdeal.Run

open Cert.KernelIdeal Cert.KernelIdeal.Gen
open Idealize.ShloMosaic Idealize.ShloMosaic.TcCoe Idealize.ShloMosaic.ValueIdx Idealize.ShloMosaic.StackMember

/-- One layer, written out. -/
def layE (X : AE) (W : (⟨2, ![2048, 32768]⟩ : Shape).Idx → EReal) (U : (⟨2, ![32768, 2048]⟩ : Shape).Idx → EReal) (r : Fin 512) (l : Fin 2048) : EReal :=
  ∑ j : Fin 32768, max (∑ k : Fin 2048, X (ix2 r k) * W (ix2 k j)) 0 * U (ix2 j l)

theorem layer_apply (X : AE) (W : (⟨2, ![2048, 32768]⟩ : Shape).Idx → EReal) (U : (⟨2, ![32768, 2048]⟩ : Shape).Idx → EReal) (r : Fin 512) (l : Fin 2048) :
    (Cert.Proof.Ref.layer (F := Ideal) X W U : AE) (ix2 r l) = layE X W U r l := by
  refine (dotGeneral_plain_apply (φ₁ := .f32) (φ₂ := .f32) none
    (fun i => max (Host.dotGeneral (F := Ideal) (φ₁ := .f32) (φ₂ := .f32) (DotDims.plain 512 2048 32768) none X W i) (Ideal.ofBits .f32 0x00000000#32 : EReal)) U r l).trans ?_
  refine Finset.sum_congr rfl fun j _ => ?_
  refine congrArg (fun y : EReal => y * U (ix2 j l)) ?_
  rw [show (Ideal.ofBits .f32 0x00000000#32 : EReal) = 0 from Ideal.ofBits_zero_f32]
  exact congrArg (fun y : EReal => max y 0) (dotGeneral_plain_apply (φ₁ := .f32) (φ₂ := .f32) none X W r j)

/-- The hidden index of a device's tile. -/
def hid (c t : Fin 8) (h : Fin 512) : Fin 32768 := ⟨4096 * c.val + 512 * t.val + h.val, by omega⟩

/-- A sum over the hidden indices, device by device and tile by tile. -/
theorem sum_hid (G : Fin 32768 → EReal) : ∑ j, G j = ∑ c : Fin 8, ∑ t : Fin 8, ∑ h : Fin 512, G (hid c t h) := by
  have split : ∀ (a b : ℕ) (f : Fin (a * b) → EReal), ∑ j, f j = ∑ c : Fin a, ∑ t : Fin b, f (finProdFinEquiv (c, t)) := fun a b f =>
    ((Equiv.sum_comp finProdFinEquiv f).symm).trans (Fintype.sum_prod_type _)
  refine (split 8 4096 G).trans (Finset.sum_congr rfl fun c _ => ?_)
  refine (split 8 512 (fun y => G (finProdFinEquiv (c, y)))).trans (Finset.sum_congr rfl fun t _ => Finset.sum_congr rfl fun h _ => congrArg G (Fin.ext ?_))
  show (h.val + 512 * t.val) + 4096 * c.val = 4096 * c.val + 512 * t.val + h.val
  omega

variable (m : (ℓ : Loc nD τ sig) → Buf (Elt Ideal) ℓ)

theorem xstg_eq (c : Dev nD) : (xstg m c : S64x2048.Idx → EReal) = m ((c : Thread nD τ).loc main_arg0) := by
  funext x
  show m ((c : Thread nD τ).loc main_arg0) ((win0_0.blk t0_0).view.emb x) = _
  congr 1
  funext a
  apply Fin.ext
  match a with
  | ⟨0, _⟩ => blk_simp; rw [show win0_0.index t0_0 0 = 0 from rfl, Nat.zero_mul, Nat.zero_add]
  | ⟨1, _⟩ => blk_simp; rw [show win0_0.index t0_0 1 = 0 from rfl, Nat.zero_mul, Nat.zero_add]

/-- One layer of the kernel, from activations all devices hold. -/
theorem layer_sum (L : Fin 3) (X : AE) (W : (⟨2, ![2048, 32768]⟩ : Shape).Idx → EReal) (U : (⟨2, ![32768, 2048]⟩ : Shape).Idx → EReal)
    (hw : ∀ c t k h, wiT m c L t (ix2 k h) = W (ix2 k (hid c t h))) (hu : ∀ c t h l, woT m c L t (ix2 h l) = U (ix2 (hid c t h) l))
    (r : Fin 512) (l : Fin 2048) : Finset.sum (M := EReal) Finset.univ (fun c : Dev nD => (tilesX m X c L : AE) (ix2 r l)) = layE X W U r l := by
  rw [layE, sum_hid]
  refine Finset.sum_congr rfl fun c _ => Eq.trans (α := EReal) (tilesX_apply m X c L r l) (Finset.sum_congr rfl fun t _ => Finset.sum_congr rfl fun h _ => ?_)
  rw [hu]
  exact congrArg (fun y : EReal => max y 0 * U (ix2 (hid c t h) l)) (Finset.sum_congr rfl fun k _ => by rw [hw])

theorem Xn_succ (n : ℕ) (W : (⟨2, ![2048, 32768]⟩ : Shape).Idx → EReal) (U : (⟨2, ![32768, 2048]⟩ : Shape).Idx → EReal)
    (hw : ∀ c t k h, wiT m c (Fin.ofNat 3 n) t (ix2 k h) = W (ix2 k (hid c t h))) (hu : ∀ c t h l, woT m c (Fin.ofNat 3 n) t (ix2 h l) = U (ix2 (hid c t h) l)) :
    (Xn m (n + 1) : AE) = Cert.Proof.Ref.layer (F := Ideal) (Xn m n : AE) W U := by
  funext i
  refine (joinX_sum _ i).trans ((accR_apply _ i).trans ?_)
  obtain ⟨r, l, rfl⟩ : ∃ (r : Fin 512) (l : Fin 2048), i = (ix2 r l : S512x2048.Idx) := ⟨i 0, i 1, eq_ix2 (n0 := 512) (n1 := 2048) i⟩
  exact (layer_sum m _ _ W U hw hu r l).trans (layer_apply _ W U r l).symm

theorem Xn_zero (x0 : AE) (hx : ∀ c : Dev nD, m ((c : Thread nD τ).loc main_arg0) = Layout.block ⟨2, ![64, 2048]⟩ ⟨2, ![512, 2048]⟩ 0 8 c x0) :
    (Xn m 0 : AE) = x0 := by
  funext i
  refine (joinX_in _ i).trans ?_
  rw [xstg_eq, hx]
  refine congrArg x0 (funext fun a => Fin.ext ?_)
  rw [Layout.Tiles.idx_val]
  match a with
  | ⟨0, _⟩ => show (i 0).val / 64 * 64 + (i 0).val % 64 = (i 0).val; omega
  | ⟨1, _⟩ => rfl

/-! ## The weights' blocks -/

theorem wblock (w : S2048x4096.Idx → EReal) (W : (⟨2, ![2048, 32768]⟩ : Shape).Idx → EReal) (c : Fin 8)
    (hw : w = Layout.block ⟨2, ![2048, 4096]⟩ ⟨2, ![2048, 32768]⟩ 1 8 c W) (t : Fin 8) (k : Fin 2048) (h : Fin 512) :
    w ((winR t).emb (ix2 k h)) = W (ix2 k (hid c t h)) := by
  rw [hw]
  refine congrArg W (funext fun a => Fin.ext ?_)
  rw [Layout.Tiles.idx_val]
  match a with
  | ⟨0, _⟩ => show 0 + 1 * k.val = k.val; omega
  | ⟨1, _⟩ => show c.val * 4096 + (512 * t.val + 1 * h.val) = 4096 * c.val + 512 * t.val + h.val; omega

theorem ublock (u : S4096x2048.Idx → EReal) (U : (⟨2, ![32768, 2048]⟩ : Shape).Idx → EReal) (c : Fin 8)
    (hu : u = Layout.block ⟨2, ![4096, 2048]⟩ ⟨2, ![32768, 2048]⟩ 0 8 c U) (t : Fin 8) (h : Fin 512) (l : Fin 2048) :
    u ((woutR t).emb (ix2 h l)) = U (ix2 (hid c t h) l) := by
  rw [hu]
  refine congrArg U (funext fun a => Fin.ext ?_)
  rw [Layout.Tiles.idx_val]
  match a with
  | ⟨0, _⟩ => show c.val * 4096 + (512 * t.val + 1 * h.val) = 4096 * c.val + 512 * t.val + h.val; omega
  | ⟨1, _⟩ => show 0 + 1 * l.val = l.val; omega

theorem pay1_id (X : AE) : (k0_pay1 (F := Ideal) X : AE) = X := rfl

/-- **The result**: what every device's result array holds is the reference's three layers. -/
theorem resC_eq (x0 : AE) (w1 w2 w3 : (⟨2, ![2048, 32768]⟩ : Shape).Idx → EReal) (u1 u2 u3 : (⟨2, ![32768, 2048]⟩ : Shape).Idx → EReal)
    (h : ∀ c : Dev nD, m ((c : Thread nD τ).loc main_arg0) = Layout.block ⟨2, ![64, 2048]⟩ ⟨2, ![512, 2048]⟩ 0 8 c x0
      ∧ m ((c : Thread nD τ).loc main_arg1) = Layout.block ⟨2, ![2048, 4096]⟩ ⟨2, ![2048, 32768]⟩ 1 8 c w1
      ∧ m ((c : Thread nD τ).loc main_arg2) = Layout.block ⟨2, ![2048, 4096]⟩ ⟨2, ![2048, 32768]⟩ 1 8 c w2
      ∧ m ((c : Thread nD τ).loc main_arg3) = Layout.block ⟨2, ![2048, 4096]⟩ ⟨2, ![2048, 32768]⟩ 1 8 c w3
      ∧ m ((c : Thread nD τ).loc main_arg4) = Layout.block ⟨2, ![4096, 2048]⟩ ⟨2, ![32768, 2048]⟩ 0 8 c u1
      ∧ m ((c : Thread nD τ).loc main_arg5) = Layout.block ⟨2, ![4096, 2048]⟩ ⟨2, ![32768, 2048]⟩ 0 8 c u2
      ∧ m ((c : Thread nD τ).loc main_arg6) = Layout.block ⟨2, ![4096, 2048]⟩ ⟨2, ![32768, 2048]⟩ 0 8 c u3) :
    (resC m : AE) = Cert.Proof.Ref.layer (F := Ideal) (Cert.Proof.Ref.layer (F := Ideal) (Cert.Proof.Ref.layer (F := Ideal) x0 w1 u1) w2 u2) w3 u3 := by
  have e0 := Xn_zero m x0 fun c => (h c).1
  have e1 := Xn_succ m 0 w1 u1 (fun c t k j => wblock _ w1 c (h c).2.1 t k j) (fun c t j l => ublock _ u1 c (h c).2.2.2.2.1 t j l)
  have e2 := Xn_succ m 1 w2 u2 (fun c t k j => wblock _ w2 c (h c).2.2.1 t k j) (fun c t j l => ublock _ u2 c (h c).2.2.2.2.2.1 t j l)
  have e3 := Xn_succ m 2 w3 u3 (fun c t k j => wblock _ w3 c (h c).2.2.2.1 t k j) (fun c t j l => ublock _ u3 c (h c).2.2.2.2.2.2 t j l)
  rw [e0] at e1
  rw [e1] at e2
  rw [e2] at e3
  exact (pay1_id (Xn m 3)).trans e3

end Cert.KernelIdeal.Run

namespace Cert.Proof

open Idealize.ShloMosaic Idealize.SL.Sem

theorem algebraic : Cert.algebraic_KernelIdeal_ReferenceIdeal := fun m g m' g' _ h =>
  ⟨_, (θ_run Cert.KernelIdeal.defs _ _).mono (fun _ hr c => ⟨((hr.1 c).1).trans (Cert.KernelIdeal.Run.resC_eq m _ _ _ _ _ _ _ h), (hr.1 c).2⟩)
      (Cert.KernelIdeal.Run.run_all (F := Ideal) m g),
    (θ_run Cert.ReferenceIdeal.defs _ _).mono (fun _ hr => hr 0) (Cert.Proof.Ref.run_main (F := Ideal) m' g')⟩

end Cert.Proof

end
-- ==== Proof.lean ====
module

public import proofs.«01_k».proof.Defs
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, trivial, algebraic⟩

end Cert.Proof

end
